-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_AttnKernel (m : (ℓ : Loc Cert.AttnKernel.nD Cert.AttnKernel.τ Cert.AttnKernel.sig) → Buf (Elt Bits) ℓ) : Prop :=
  True

def Pre_AttnKernelIdeal (m : (ℓ : Loc Cert.AttnKernelIdeal.nD Cert.AttnKernelIdeal.τ Cert.AttnKernelIdeal.sig) → Buf (Elt Ideal) ℓ) : Prop :=
  True

def Pre_AttnKernelIdeal_attn_finite [hPre_attn_finite : Cert.Pre_attn_finite.Facts] (m : (ℓ : Loc Cert.AttnKernelIdeal.nD Cert.AttnKernelIdeal.τ Cert.AttnKernelIdeal.sig) → Buf (Elt Ideal) ℓ) : Prop :=
  ∀ c : Dev Cert.AttnKernelIdeal.nD,
    (Cert.Pre_attn_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3))) = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_attn_finite [hPre_attn_finite : Cert.Pre_attn_finite.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_attn_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_AttnKernel [hAttnKernel : Cert.AttnKernel.Facts] : Prop :=
  ∀ (m : (ℓ : Loc Cert.AttnKernel.nD Cert.AttnKernel.τ Cert.AttnKernel.sig) → Buf (Elt Bits) ℓ) (g : Dev Cert.AttnKernel.nD → PrngReg), Pre_AttnKernel m →
    θ_run (Cert.AttnKernel.defs (F := Bits)) (onTc (τ := Cert.AttnKernel.τ) (Cert.AttnKernel.main (F := Bits))) ⟨m, fun _ => 0, g⟩ (fun r => (∀ c : Dev Cert.AttnKernel.nD,
      r.2.mem ((c.tc : Thread Cert.AttnKernel.nD Cert.AttnKernel.τ).loc Cert.AttnKernel.main_arg0) = m ((c.tc : Thread Cert.AttnKernel.nD Cert.AttnKernel.τ).loc Cert.AttnKernel.main_arg0)
      ∧ r.2.mem ((c.tc : Thread Cert.AttnKernel.nD Cert.AttnKernel.τ).loc Cert.AttnKernel.main_arg1) = m ((c.tc : Thread Cert.AttnKernel.nD Cert.AttnKernel.τ).loc Cert.AttnKernel.main_arg1)
      ∧ r.2.mem ((c.tc : Thread Cert.AttnKernel.nD Cert.AttnKernel.τ).loc Cert.AttnKernel.main_arg2) = m ((c.tc : Thread Cert.AttnKernel.nD Cert.AttnKernel.τ).loc Cert.AttnKernel.main_arg2)
      ∧ r.2.mem ((c.tc : Thread Cert.AttnKernel.nD Cert.AttnKernel.τ).loc Cert.AttnKernel.main_arg3) = m ((c.tc : Thread Cert.AttnKernel.nD Cert.AttnKernel.τ).loc Cert.AttnKernel.main_arg3))
      ∧ r.2.sem = fun _ => 0)

def quiescent_AttnKernelIdeal [hAttnKernelIdeal : Cert.AttnKernelIdeal.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3))
      ∧ r.2.sem = fun _ => 0)

def quiescent_AttnKernelIdeal_pre_attn_finite [hAttnKernelIdeal : Cert.AttnKernelIdeal.Facts] [hPre_attn_finite : Cert.Pre_attn_finite.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal_attn_finite m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3))
      ∧ r.2.sem = fun _ => 0)

def quiescent_AttnReferenceIdeal_pre_attn_finite [hAttnReferenceIdeal : Cert.AttnReferenceIdeal.Facts] [hPre_attn_finite : Cert.Pre_attn_finite.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_attn_finite m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![2048, 16384]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![16384, 1024]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def preserves_AttnKernel_AttnKernelIdeal : Prop :=
  IdealRules.named_const.Statement Cert.AttnKernelIdeal.κ "mask" .f32 0xCE6E6B28#32 ⊥

def algebraic_AttnKernelIdeal_AttnReferenceIdeal_pre_attn_finite [hAttnKernelIdeal : Cert.AttnKernelIdeal.Facts] [hAttnReferenceIdeal : Cert.AttnReferenceIdeal.Facts] [hPre_attn_finite : Cert.Pre_attn_finite.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnKernelIdeal_attn_finite m →
    (∀ c : Dev Cert.AttnKernelIdeal.nD,
      m' ((c.tc : Thread Cert.AttnReferenceIdeal.nD Cert.AttnReferenceIdeal.τ).loc Cert.AttnReferenceIdeal.main_arg0) = m ((c.tc : Thread Cert.AttnKernelIdeal.nD Cert.AttnKernelIdeal.τ).loc Cert.AttnKernelIdeal.main_arg0)
      ∧ m' ((c.tc : Thread Cert.AttnReferenceIdeal.nD Cert.AttnReferenceIdeal.τ).loc Cert.AttnReferenceIdeal.main_arg1) = m ((c.tc : Thread Cert.AttnKernelIdeal.nD Cert.AttnKernelIdeal.τ).loc Cert.AttnKernelIdeal.main_arg1)
      ∧ m' ((c.tc : Thread Cert.AttnReferenceIdeal.nD Cert.AttnReferenceIdeal.τ).loc Cert.AttnReferenceIdeal.main_arg2) = m ((c.tc : Thread Cert.AttnKernelIdeal.nD Cert.AttnKernelIdeal.τ).loc Cert.AttnKernelIdeal.main_arg2)
      ∧ m' ((c.tc : Thread Cert.AttnReferenceIdeal.nD Cert.AttnReferenceIdeal.τ).loc Cert.AttnReferenceIdeal.main_arg3) = m ((c.tc : Thread Cert.AttnKernelIdeal.nD Cert.AttnKernelIdeal.τ).loc Cert.AttnKernelIdeal.main_arg3)) →
    ∃ (v0 : (c : Dev Cert.AttnKernelIdeal.nD) → Buf (Elt Ideal) ((c.tc : Thread Cert.AttnKernelIdeal.nD Cert.AttnKernelIdeal.τ).loc Cert.AttnKernelIdeal.main_v0)),
      θ_run (Cert.AttnKernelIdeal.defs (F := Ideal)) (onTc (τ := Cert.AttnKernelIdeal.τ) (Cert.AttnKernelIdeal.main (F := Ideal))) ⟨m, fun _ => 0, g⟩ (fun r => ∀ c : Dev Cert.AttnKernelIdeal.nD,
          r.2.mem ((c.tc : Thread Cert.AttnKernelIdeal.nD Cert.AttnKernelIdeal.τ).loc Cert.AttnKernelIdeal.main_v0) = v0 c
          ∧ r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
          ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
          ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
          ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v47) = v0 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2)
          ∧ r.2.mem ((c.tc : Thread Cert.AttnReferenceIdeal.nD Cert.AttnReferenceIdeal.τ).loc Cert.AttnReferenceIdeal.main_arg3) = m' ((c.tc : Thread Cert.AttnReferenceIdeal.nD Cert.AttnReferenceIdeal.τ).loc Cert.AttnReferenceIdeal.main_arg3))

def Claim : Prop :=
  ∃ (hKernel : Cert.Kernel.Facts) (hKernelIdeal : Cert.KernelIdeal.Facts) (hReferenceIdeal : Cert.ReferenceIdeal.Facts) (hAttnKernel : Cert.AttnKernel.Facts) (hAttnKernelIdeal : Cert.AttnKernelIdeal.Facts) (hAttnReferenceIdeal : Cert.AttnReferenceIdeal.Facts) (hPre_attn_finite : Cert.Pre_attn_finite.Facts),
    quiescent_Kernel (hKernel := hKernel)
    ∧ quiescent_KernelIdeal (hKernelIdeal := hKernelIdeal)
    ∧ quiescent_ReferenceIdeal (hReferenceIdeal := hReferenceIdeal)
    ∧ quiescent_AttnKernel (hAttnKernel := hAttnKernel)
    ∧ quiescent_AttnKernelIdeal (hAttnKernelIdeal := hAttnKernelIdeal)
    ∧ quiescent_AttnKernelIdeal_pre_attn_finite (hAttnKernelIdeal := hAttnKernelIdeal) (hPre_attn_finite := hPre_attn_finite)
    ∧ quiescent_AttnReferenceIdeal (hAttnReferenceIdeal := hAttnReferenceIdeal)
    ∧ quiescent_AttnReferenceIdeal_pre_attn_finite (hAttnReferenceIdeal := hAttnReferenceIdeal) (hPre_attn_finite := hPre_attn_finite)
    ∧ preserves_Kernel_KernelIdeal
    ∧ algebraic_KernelIdeal_ReferenceIdeal (hKernelIdeal := hKernelIdeal) (hReferenceIdeal := hReferenceIdeal)
    ∧ preserves_AttnKernel_AttnKernelIdeal
    ∧ algebraic_AttnKernelIdeal_AttnReferenceIdeal_pre_attn_finite (hAttnKernelIdeal := hAttnKernelIdeal) (hAttnReferenceIdeal := hAttnReferenceIdeal) (hPre_attn_finite := hPre_attn_finite)
-- ==== Pre_attn_finite.lean ====
abbrev S2048x1024 : Shape := ⟨2, ![2048, 1024]⟩
abbrev S1024x1024 : Shape := ⟨2, ![1024, 1024]⟩
abbrev S_ : Shape := ⟨0, ![]⟩
abbrev S3072x1024 : Shape := ⟨2, ![3072, 1024]⟩

class Facts : Prop where
  bcast_S_S2048x1024 : S_.BroadcastsInDim S2048x1024 (![] : Fin 0 → Fin S2048x1024.rank)
  bcast_S_S1024x1024 : S_.BroadcastsInDim S1024x1024 (![] : Fin 0 → Fin S1024x1024.rank)
  concatenates_S2048x1024_S1024x1024_S3072x1024_d0 : Shape.Concatenates [S2048x1024, S1024x1024] S3072x1024 0

variable [Facts]

def fn {F : FTy → Type} [FloatOps F] (main_arg0 : FVec F S2048x1024 .bf16) (main_arg1 : FVec F S1024x1024 .bf16) (main_arg2 : FVec F S2048x1024 .bf16) (main_arg3 : FVec F S2048x1024 .bf16) : IVec S3072x1024 1 :=
  let main_v0 : FVec F S2048x1024 .bf16 := Host.absf main_arg0
  let main_cst : FVec F S_ .bf16 := constant S_ .bf16 0x7F80#16
  let main_v1 : FVec F S2048x1024 .bf16 := broadcastInDim S2048x1024 ![] bcast_S_S2048x1024 main_cst
  let main_v2 : IVec S2048x1024 1 := cmpf .olt main_v0 main_v1
  let main_v3 : FVec F S2048x1024 .bf16 := Host.absf main_arg2
  let main_cst_0 : FVec F S_ .bf16 := constant S_ .bf16 0x7F80#16
  let main_v4 : FVec F S2048x1024 .bf16 := broadcastInDim S2048x1024 ![] bcast_S_S2048x1024 main_cst_0
  let main_v5 : IVec S2048x1024 1 := cmpf .olt main_v3 main_v4
  let main_v6 : IVec S2048x1024 1 := andi main_v2 main_v5
  let main_v7 : FVec F S1024x1024 .bf16 := Host.absf main_arg1
  let main_cst_1 : FVec F S_ .bf16 := constant S_ .bf16 0x7F80#16
  let main_v8 : FVec F S1024x1024 .bf16 := broadcastInDim S1024x1024 ![] bcast_S_S1024x1024 main_cst_1
  let main_v9 : IVec S1024x1024 1 := cmpf .olt main_v7 main_v8
  let main_v10 : IVec S3072x1024 1 := (fun a b => concatenate S3072x1024 0 [⟨S2048x1024, a⟩, ⟨S1024x1024, b⟩] concatenates_S2048x1024_S1024x1024_S3072x1024_d0) main_v6 main_v9
  main_v10
-- ==== Kernel.lean ====
abbrev S2048x1024 : Shape := ⟨2, ![2048, 1024]⟩
abbrev S1024x1024 : Shape := ⟨2, ![1024, 1024]⟩
abbrev S6x256x512 : Shape := ⟨3, ![6, 256, 512]⟩
abbrev S3x128x512 : Shape := ⟨3, ![3, 128, 512]⟩
abbrev S6 : Shape := ⟨1, ![6]⟩
abbrev S_ : Shape := ⟨0, ![]⟩
abbrev S256x1024 : Shape := ⟨2, ![256, 1024]⟩
abbrev S1 : Shape := ⟨1, ![1]⟩
abbrev S1x256x512 : Shape := ⟨3, ![1, 256, 512]⟩
abbrev S256x512 : Shape := ⟨2, ![256, 512]⟩
abbrev S1x128x512 : Shape := ⟨3, ![1, 128, 512]⟩
abbrev S128x512 : Shape := ⟨2, ![128, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .bf16⟩
  | .local _ .vmem, ⟨0, _⟩ => ⟨S2048x1024, .bf16⟩
  | .local _ .vmem, ⟨1, _⟩ => ⟨S1024x1024, .bf16⟩
  | .local _ .vmem, ⟨2, _⟩ => ⟨S2048x1024, .bf16⟩
  | .local _ .vmem, ⟨3, _⟩ => ⟨S6x256x512, .bf16⟩
  | .local _ .vmem, ⟨4, _⟩ => ⟨S6x256x512, .bf16⟩
  | .local _ .vmem, ⟨5, _⟩ => ⟨S3x128x512, .bf16⟩
  | .local _ .vmem, ⟨6, _⟩ => ⟨S3x128x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 75 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | _ => false

abbrev sig : RefSig :=
  (ofTc nBuf bufTy 1 75 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_18 : BitVec 32 := 1#32
  let v38 : BitVec 32 := Scalar.muli v28 c1_i32_18
  let v39 : BitVec 32 := Scalar.addi c0_i32_19 v38
  v39.toNat
def k0_dev2 (d0 : Dev nD) : Nat :=
  let c0_i32_22 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_21 : BitVec 32 := 1#32
  let v40 : BitVec 32 := Scalar.muli v24 c1_i32_21
  let v41 : BitVec 32 := Scalar.addi c0_i32_22 v40
  v41.toNat
def k0_dev3 (d0 : Dev nD) : Nat :=
  let c0_i32_25 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_14 : BitVec 32 := 3#32
  let v33 : BitVec 32 := Scalar.addi v19 c3_i32_14
  let c4_i32_15 : BitVec 32 := 4#32
  let v34 : BitVec 32 := Scalar.remsi v33 c4_i32_15
  let c4_i32_16 : BitVec 32 := 4#32
  let v35 : BitVec 32 := Scalar.muli v34 c4_i32_16
  let c4_i32_5 : BitVec 32 := 4#32
  let v20 : BitVec 32 := Scalar.remsi v2 c4_i32_5
  let v36 : BitVec 32 := Scalar.addi v35 v20
  let c1_i32_24 : BitVec 32 := 1#32
  let v42 : BitVec 32 := Scalar.muli v36 c1_i32_24
  let v43 : BitVec 32 := Scalar.addi c0_i32_25 v42
  v43.toNat
def k0_dev4 (d0 : Dev nD) : Nat :=
  let c0_i32_28 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_11 : BitVec 32 := 1#32
  let v29 : BitVec 32 := Scalar.addi v19 c1_i32_11
  let c4_i32_12 : BitVec 32 := 4#32
  let v30 : BitVec 32 := Scalar.remsi v29 c4_i32_12
  let c4_i32_13 : BitVec 32 := 4#32
  let v31 : BitVec 32 := Scalar.muli v30 c4_i32_13
  let c4_i32_5 : BitVec 32 := 4#32
  let v20 : BitVec 32 := Scalar.remsi v2 c4_i32_5
  let v32 : BitVec 32 := Scalar.addi v31 v20
  let c1_i32_27 : BitVec 32 := 1#32
  let v44 : BitVec 32 := Scalar.muli v32 c1_i32_27
  let v45 : BitVec 32 := Scalar.addi c0_i32_28 v44
  v45.toNat
def k0_mult1 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c0_i32_77 : BitVec 32 := 0#32
  let v102 : BitVec 32 := Scalar.subi v20 c0_i32_77
  let c4_i32_78 : BitVec 32 := 4#32
  let v103 : BitVec 32 := Scalar.addi v102 c4_i32_78
  let c4_i32_79 : BitVec 32 := 4#32
  let v104 : BitVec 32 := Scalar.remsi v103 c4_i32_79
  let c512_i32 : BitVec 32 := 512#32
  let v105 : BitVec 32 := Scalar.muli v104 c512_i32
  let c0_i32_80 : BitVec 32 := 0#32
  let v106 : BitVec 32 := Scalar.addi v105 c0_i32_80
  v106
def k0_mult2 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c0_i32_81 : BitVec 32 := 0#32
  let v108 : BitVec 32 := Scalar.addi v20 c0_i32_81
  let c4_i32_82 : BitVec 32 := 4#32
  let v109 : BitVec 32 := Scalar.remsi v108 c4_i32_82
  let c512_i32_83 : BitVec 32 := 512#32
  let v110 : BitVec 32 := Scalar.muli v109 c512_i32_83
  let c0_i32_84 : BitVec 32 := 0#32
  let v111 : BitVec 32 := Scalar.addi v110 c0_i32_84
  v111
def k0_off1 (d0 : Dev nD) (c0_i32_77 : BitVec 32) (c0_i32_80 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v102 : BitVec 32 := Scalar.subi v20 c0_i32_77
  let c4_i32_78 : BitVec 32 := 4#32
  let v103 : BitVec 32 := Scalar.addi v102 c4_i32_78
  let c4_i32_79 : BitVec 32 := 4#32
  let v104 : BitVec 32 := Scalar.remsi v103 c4_i32_79
  let c512_i32 : BitVec 32 := 512#32
  let v105 : BitVec 32 := Scalar.muli v104 c512_i32
  let v106 : BitVec 32 := Scalar.addi v105 c0_i32_80
  let v107 : BitVec 32 := v106
  let c0_i32_92 : BitVec 32 := 0#32
  ![v107.toNat, 0]
def k0_dev5 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_88 : BitVec 32 := 1#32
  let v113 : BitVec 32 := Scalar.muli v24 c1_i32_88
  let v114 : BitVec 32 := Scalar.addi c0_i32_89 v113
  v114.toNat
def k0_off2 (d0 : Dev nD) (c0_i32_81 : BitVec 32) (c0_i32_84 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v108 : BitVec 32 := Scalar.addi v20 c0_i32_81
  let c4_i32_82 : BitVec 32 := 4#32
  let v109 : BitVec 32 := Scalar.remsi v108 c4_i32_82
  let c512_i32_83 : BitVec 32 := 512#32
  let v110 : BitVec 32 := Scalar.muli v109 c512_i32_83
  let v111 : BitVec 32 := Scalar.addi v110 c0_i32_84
  let v112 : BitVec 32 := v111
  let c512_i32_100 : BitVec 32 := 512#32
  ![v112.toNat, 512]
def k0_dev6 (d0 : Dev nD) : Nat :=
  let c0_i32_97 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_96 : BitVec 32 := 1#32
  let v122 : BitVec 32 := Scalar.muli v28 c1_i32_96
  let v123 : BitVec 32 := Scalar.addi c0_i32_97 v122
  v123.toNat
def k0_mult3 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c0_i32_101 : BitVec 32 := 0#32
  let v131 : BitVec 32 := Scalar.subi v20 c0_i32_101
  let c4_i32_102 : BitVec 32 := 4#32
  let v132 : BitVec 32 := Scalar.addi v131 c4_i32_102
  let c4_i32_103 : BitVec 32 := 4#32
  let v133 : BitVec 32 := Scalar.remsi v132 c4_i32_103
  let c512_i32_104 : BitVec 32 := 512#32
  let v134 : BitVec 32 := Scalar.muli v133 c512_i32_104
  let c256_i32 : BitVec 32 := 256#32
  let v135 : BitVec 32 := Scalar.addi v134 c256_i32
  v135
def k0_mult4 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c0_i32_105 : BitVec 32 := 0#32
  let v137 : BitVec 32 := Scalar.addi v20 c0_i32_105
  let c4_i32_106 : BitVec 32 := 4#32
  let v138 : BitVec 32 := Scalar.remsi v137 c4_i32_106
  let c512_i32_107 : BitVec 32 := 512#32
  let v139 : BitVec 32 := Scalar.muli v138 c512_i32_107
  let c256_i32_108 : BitVec 32 := 256#32
  let v140 : BitVec 32 := Scalar.addi v139 c256_i32_108
  v140
def k0_dev7 (d0 : Dev nD) : Nat :=
  let c0_i32_113 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_112 : BitVec 32 := 1#32
  let v142 : BitVec 32 := Scalar.muli v24 c1_i32_112
  let v143 : BitVec 32 := Scalar.addi c0_i32_113 v142
  v143.toNat
def k0_dev8 (d0 : Dev nD) : Nat :=
  let c0_i32_121 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_120 : BitVec 32 := 1#32
  let v151 : BitVec 32 := Scalar.muli v28 c1_i32_120
  let v152 : BitVec 32 := Scalar.addi c0_i32_121 v151
  v152.toNat
def k0_mult5 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_140 : BitVec 32 := 1#32
  let v172 : BitVec 32 := Scalar.subi v20 c1_i32_140
  let c4_i32_141 : BitVec 32 := 4#32
  let v173 : BitVec 32 := Scalar.addi v172 c4_i32_141
  let c4_i32_142 : BitVec 32 := 4#32
  let v174 : BitVec 32 := Scalar.remsi v173 c4_i32_142
  let c512_i32_143 : BitVec 32 := 512#32
  let v175 : BitVec 32 := Scalar.muli v174 c512_i32_143
  let c0_i32_144 : BitVec 32 := 0#32
  let v176 : BitVec 32 := Scalar.addi v175 c0_i32_144
  v176
def k0_off3 (d0 : Dev nD) (c1_i32_140 : BitVec 32) (c0_i32_144 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v172 : BitVec 32 := Scalar.subi v20 c1_i32_140
  let c4_i32_141 : BitVec 32 := 4#32
  let v173 : BitVec 32 := Scalar.addi v172 c4_i32_141
  let c4_i32_142 : BitVec 32 := 4#32
  let v174 : BitVec 32 := Scalar.remsi v173 c4_i32_142
  let c512_i32_143 : BitVec 32 := 512#32
  let v175 : BitVec 32 := Scalar.muli v174 c512_i32_143
  let v176 : BitVec 32 := Scalar.addi v175 c0_i32_144
  let v177 : BitVec 32 := v176
  let v178 : Index := Scalar.indexCast v177
  let c0_145 : Index := 0#32
  ![v178.toNat, 0]
def k0_mult6 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_140 : BitVec 32 := 1#32
  let v172 : BitVec 32 := Scalar.subi v20 c1_i32_140
  let c4_i32_141 : BitVec 32 := 4#32
  let v173 : BitVec 32 := Scalar.addi v172 c4_i32_141
  let c4_i32_142 : BitVec 32 := 4#32
  let v174 : BitVec 32 := Scalar.remsi v173 c4_i32_142
  let c512_i32_149 : BitVec 32 := 512#32
  let v184 : BitVec 32 := Scalar.muli v174 c512_i32_149
  let c0_i32_150 : BitVec 32 := 0#32
  let v185 : BitVec 32 := Scalar.addi v184 c0_i32_150
  v185
def k0_mult7 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_167 : BitVec 32 := 1#32
  let v201 : BitVec 32 := Scalar.addi v20 c1_i32_167
  let c4_i32_168 : BitVec 32 := 4#32
  let v202 : BitVec 32 := Scalar.remsi v201 c4_i32_168
  let c512_i32_169 : BitVec 32 := 512#32
  let v203 : BitVec 32 := Scalar.muli v202 c512_i32_169
  let c0_i32_170 : BitVec 32 := 0#32
  let v204 : BitVec 32 := Scalar.addi v203 c0_i32_170
  v204
def k0_off4 (d0 : Dev nD) (c1_i32_167 : BitVec 32) (c0_i32_170 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v201 : BitVec 32 := Scalar.addi v20 c1_i32_167
  let c4_i32_168 : BitVec 32 := 4#32
  let v202 : BitVec 32 := Scalar.remsi v201 c4_i32_168
  let c512_i32_169 : BitVec 32 := 512#32
  let v203 : BitVec 32 := Scalar.muli v202 c512_i32_169
  let v204 : BitVec 32 := Scalar.addi v203 c0_i32_170
  let v205 : BitVec 32 := v204
  let v206 : Index := Scalar.indexCast v205
  let c512_171 : Index := 512#32
  ![v206.toNat, 512]
def k0_mult8 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_167 : BitVec 32 := 1#32
  let v201 : BitVec 32 := Scalar.addi v20 c1_i32_167
  let c4_i32_168 : BitVec 32 := 4#32
  let v202 : BitVec 32 := Scalar.remsi v201 c4_i32_168
  let c512_i32_175 : BitVec 32 := 512#32
  let v212 : BitVec 32 := Scalar.muli v202 c512_i32_175
  let c0_i32_176 : BitVec 32 := 0#32
  let v213 : BitVec 32 := Scalar.addi v212 c0_i32_176
  v213
def k0_mult9 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_178 : BitVec 32 := 1#32
  let v217 : BitVec 32 := Scalar.subi v20 c1_i32_178
  let c4_i32_179 : BitVec 32 := 4#32
  let v218 : BitVec 32 := Scalar.addi v217 c4_i32_179
  let c4_i32_180 : BitVec 32 := 4#32
  let v219 : BitVec 32 := Scalar.remsi v218 c4_i32_180
  let c512_i32_181 : BitVec 32 := 512#32
  let v220 : BitVec 32 := Scalar.muli v219 c512_i32_181
  let c0_i32_182 : BitVec 32 := 0#32
  let v221 : BitVec 32 := Scalar.addi v220 c0_i32_182
  v221
def k0_mult10 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_183 : BitVec 32 := 1#32
  let v223 : BitVec 32 := Scalar.addi v20 c1_i32_183
  let c4_i32_184 : BitVec 32 := 4#32
  let v224 : BitVec 32 := Scalar.remsi v223 c4_i32_184
  let c512_i32_185 : BitVec 32 := 512#32
  let v225 : BitVec 32 := Scalar.muli v224 c512_i32_185
  let c0_i32_186 : BitVec 32 := 0#32
  let v226 : BitVec 32 := Scalar.addi v225 c0_i32_186
  v226
def k0_dev9 (d0 : Dev nD) : Nat :=
  let c0_i32_190 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_189 : BitVec 32 := 1#32
  let v228 : BitVec 32 := Scalar.muli v24 c1_i32_189
  let v229 : BitVec 32 := Scalar.addi c0_i32_190 v228
  v229.toNat
def k0_dev10 (d0 : Dev nD) : Nat :=
  let c0_i32_198 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_197 : BitVec 32 := 1#32
  let v237 : BitVec 32 := Scalar.muli v28 c1_i32_197
  let v238 : BitVec 32 := Scalar.addi c0_i32_198 v237
  v238.toNat
def k0_mult11 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_217 : BitVec 32 := 1#32
  let v258 : BitVec 32 := Scalar.subi v20 c1_i32_217
  let c4_i32_218 : BitVec 32 := 4#32
  let v259 : BitVec 32 := Scalar.addi v258 c4_i32_218
  let c4_i32_219 : BitVec 32 := 4#32
  let v260 : BitVec 32 := Scalar.remsi v259 c4_i32_219
  let c512_i32_220 : BitVec 32 := 512#32
  let v261 : BitVec 32 := Scalar.muli v260 c512_i32_220
  let c256_i32_221 : BitVec 32 := 256#32
  let v262 : BitVec 32 := Scalar.addi v261 c256_i32_221
  v262
def k0_mult12 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_217 : BitVec 32 := 1#32
  let v258 : BitVec 32 := Scalar.subi v20 c1_i32_217
  let c4_i32_218 : BitVec 32 := 4#32
  let v259 : BitVec 32 := Scalar.addi v258 c4_i32_218
  let c4_i32_219 : BitVec 32 := 4#32
  let v260 : BitVec 32 := Scalar.remsi v259 c4_i32_219
  let c512_i32_225 : BitVec 32 := 512#32
  let v270 : BitVec 32 := Scalar.muli v260 c512_i32_225
  let c256_i32_226 : BitVec 32 := 256#32
  let v271 : BitVec 32 := Scalar.addi v270 c256_i32_226
  v271
def k0_mult13 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_243 : BitVec 32 := 1#32
  let v287 : BitVec 32 := Scalar.addi v20 c1_i32_243
  let c4_i32_244 : BitVec 32 := 4#32
  let v288 : BitVec 32 := Scalar.remsi v287 c4_i32_244
  let c512_i32_245 : BitVec 32 := 512#32
  let v289 : BitVec 32 := Scalar.muli v288 c512_i32_245
  let c256_i32_246 : BitVec 32 := 256#32
  let v290 : BitVec 32 := Scalar.addi v289 c256_i32_246
  v290
def k0_mult14 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_243 : BitVec 32 := 1#32
  let v287 : BitVec 32 := Scalar.addi v20 c1_i32_243
  let c4_i32_244 : BitVec 32 := 4#32
  let v288 : BitVec 32 := Scalar.remsi v287 c4_i32_244
  let c512_i32_251 : BitVec 32 := 512#32
  let v298 : BitVec 32 := Scalar.muli v288 c512_i32_251
  let c256_i32_252 : BitVec 32 := 256#32
  let v299 : BitVec 32 := Scalar.addi v298 c256_i32_252
  v299
def k0_mult15 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_254 : BitVec 32 := 1#32
  let v303 : BitVec 32 := Scalar.subi v20 c1_i32_254
  let c4_i32_255 : BitVec 32 := 4#32
  let v304 : BitVec 32 := Scalar.addi v303 c4_i32_255
  let c4_i32_256 : BitVec 32 := 4#32
  let v305 : BitVec 32 := Scalar.remsi v304 c4_i32_256
  let c512_i32_257 : BitVec 32 := 512#32
  let v306 : BitVec 32 := Scalar.muli v305 c512_i32_257
  let c256_i32_258 : BitVec 32 := 256#32
  let v307 : BitVec 32 := Scalar.addi v306 c256_i32_258
  v307
def k0_mult16 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_259 : BitVec 32 := 1#32
  let v309 : BitVec 32 := Scalar.addi v20 c1_i32_259
  let c4_i32_260 : BitVec 32 := 4#32
  let v310 : BitVec 32 := Scalar.remsi v309 c4_i32_260
  let c512_i32_261 : BitVec 32 := 512#32
  let v311 : BitVec 32 := Scalar.muli v310 c512_i32_261
  let c256_i32_262 : BitVec 32 := 256#32
  let v312 : BitVec 32 := Scalar.addi v311 c256_i32_262
  v312
def k0_dev11 (d0 : Dev nD) : Nat :=
  let c0_i32_267 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_266 : BitVec 32 := 1#32
  let v314 : BitVec 32 := Scalar.muli v24 c1_i32_266
  let v315 : BitVec 32 := Scalar.addi c0_i32_267 v314
  v315.toNat
def k0_dev12 (d0 : Dev nD) : Nat :=
  let c0_i32_275 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_274 : BitVec 32 := 1#32
  let v323 : BitVec 32 := Scalar.muli v28 c1_i32_274
  let v324 : BitVec 32 := Scalar.addi c0_i32_275 v323
  v324.toNat
def k0_mult17 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c2_i32_294 : BitVec 32 := 2#32
  let v344 : BitVec 32 := Scalar.subi v20 c2_i32_294
  let c4_i32_295 : BitVec 32 := 4#32
  let v345 : BitVec 32 := Scalar.addi v344 c4_i32_295
  let c4_i32_296 : BitVec 32 := 4#32
  let v346 : BitVec 32 := Scalar.remsi v345 c4_i32_296
  let c512_i32_297 : BitVec 32 := 512#32
  let v347 : BitVec 32 := Scalar.muli v346 c512_i32_297
  let c0_i32_298 : BitVec 32 := 0#32
  let v348 : BitVec 32 := Scalar.addi v347 c0_i32_298
  v348
def k0_mult18 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c2_i32_294 : BitVec 32 := 2#32
  let v344 : BitVec 32 := Scalar.subi v20 c2_i32_294
  let c4_i32_295 : BitVec 32 := 4#32
  let v345 : BitVec 32 := Scalar.addi v344 c4_i32_295
  let c4_i32_296 : BitVec 32 := 4#32
  let v346 : BitVec 32 := Scalar.remsi v345 c4_i32_296
  let c512_i32_302 : BitVec 32 := 512#32
  let v356 : BitVec 32 := Scalar.muli v346 c512_i32_302
  let c0_i32_303 : BitVec 32 := 0#32
  let v357 : BitVec 32 := Scalar.addi v356 c0_i32_303
  v357
def k0_mult19 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c2_i32_320 : BitVec 32 := 2#32
  let v373 : BitVec 32 := Scalar.addi v20 c2_i32_320
  let c4_i32_321 : BitVec 32 := 4#32
  let v374 : BitVec 32 := Scalar.remsi v373 c4_i32_321
  let c512_i32_322 : BitVec 32 := 512#32
  let v375 : BitVec 32 := Scalar.muli v374 c512_i32_322
  let c0_i32_323 : BitVec 32 := 0#32
  let v376 : BitVec 32 := Scalar.addi v375 c0_i32_323
  v376
def k0_mult20 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c2_i32_320 : BitVec 32 := 2#32
  let v373 : BitVec 32 := Scalar.addi v20 c2_i32_320
  let c4_i32_321 : BitVec 32 := 4#32
  let v374 : BitVec 32 := Scalar.remsi v373 c4_i32_321
  let c512_i32_328 : BitVec 32 := 512#32
  let v384 : BitVec 32 := Scalar.muli v374 c512_i32_328
  let c0_i32_329 : BitVec 32 := 0#32
  let v385 : BitVec 32 := Scalar.addi v384 c0_i32_329
  v385
def k0_mult21 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c2_i32_331 : BitVec 32 := 2#32
  let v389 : BitVec 32 := Scalar.subi v20 c2_i32_331
  let c4_i32_332 : BitVec 32 := 4#32
  let v390 : BitVec 32 := Scalar.addi v389 c4_i32_332
  let c4_i32_333 : BitVec 32 := 4#32
  let v391 : BitVec 32 := Scalar.remsi v390 c4_i32_333
  let c512_i32_334 : BitVec 32 := 512#32
  let v392 : BitVec 32 := Scalar.muli v391 c512_i32_334
  let c0_i32_335 : BitVec 32 := 0#32
  let v393 : BitVec 32 := Scalar.addi v392 c0_i32_335
  v393
def k0_mult22 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c2_i32_336 : BitVec 32 := 2#32
  let v395 : BitVec 32 := Scalar.addi v20 c2_i32_336
  let c4_i32_337 : BitVec 32 := 4#32
  let v396 : BitVec 32 := Scalar.remsi v395 c4_i32_337
  let c512_i32_338 : BitVec 32 := 512#32
  let v397 : BitVec 32 := Scalar.muli v396 c512_i32_338
  let c0_i32_339 : BitVec 32 := 0#32
  let v398 : BitVec 32 := Scalar.addi v397 c0_i32_339
  v398
def k0_dev13 (d0 : Dev nD) : Nat :=
  let c0_i32_344 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_343 : BitVec 32 := 1#32
  let v400 : BitVec 32 := Scalar.muli v24 c1_i32_343
  let v401 : BitVec 32 := Scalar.addi c0_i32_344 v400
  v401.toNat
def k0_dev14 (d0 : Dev nD) : Nat :=
  let c0_i32_352 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_351 : BitVec 32 := 1#32
  let v409 : BitVec 32 := Scalar.muli v28 c1_i32_351
  let v410 : BitVec 32 := Scalar.addi c0_i32_352 v409
  v410.toNat
def k0_mult23 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c2_i32_371 : BitVec 32 := 2#32
  let v430 : BitVec 32 := Scalar.subi v20 c2_i32_371
  let c4_i32_372 : BitVec 32 := 4#32
  let v431 : BitVec 32 := Scalar.addi v430 c4_i32_372
  let c4_i32_373 : BitVec 32 := 4#32
  let v432 : BitVec 32 := Scalar.remsi v431 c4_i32_373
  let c512_i32_374 : BitVec 32 := 512#32
  let v433 : BitVec 32 := Scalar.muli v432 c512_i32_374
  let c256_i32_375 : BitVec 32 := 256#32
  let v434 : BitVec 32 := Scalar.addi v433 c256_i32_375
  v434
def k0_mult24 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c2_i32_371 : BitVec 32 := 2#32
  let v430 : BitVec 32 := Scalar.subi v20 c2_i32_371
  let c4_i32_372 : BitVec 32 := 4#32
  let v431 : BitVec 32 := Scalar.addi v430 c4_i32_372
  let c4_i32_373 : BitVec 32 := 4#32
  let v432 : BitVec 32 := Scalar.remsi v431 c4_i32_373
  let c512_i32_379 : BitVec 32 := 512#32
  let v442 : BitVec 32 := Scalar.muli v432 c512_i32_379
  let c256_i32_380 : BitVec 32 := 256#32
  let v443 : BitVec 32 := Scalar.addi v442 c256_i32_380
  v443
def k0_mult25 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c2_i32_397 : BitVec 32 := 2#32
  let v459 : BitVec 32 := Scalar.addi v20 c2_i32_397
  let c4_i32_398 : BitVec 32 := 4#32
  let v460 : BitVec 32 := Scalar.remsi v459 c4_i32_398
  let c512_i32_399 : BitVec 32 := 512#32
  let v461 : BitVec 32 := Scalar.muli v460 c512_i32_399
  let c256_i32_400 : BitVec 32 := 256#32
  let v462 : BitVec 32 := Scalar.addi v461 c256_i32_400
  v462
def k0_mult26 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c2_i32_397 : BitVec 32 := 2#32
  let v459 : BitVec 32 := Scalar.addi v20 c2_i32_397
  let c4_i32_398 : BitVec 32 := 4#32
  let v460 : BitVec 32 := Scalar.remsi v459 c4_i32_398
  let c512_i32_405 : BitVec 32 := 512#32
  let v470 : BitVec 32 := Scalar.muli v460 c512_i32_405
  let c256_i32_406 : BitVec 32 := 256#32
  let v471 : BitVec 32 := Scalar.addi v470 c256_i32_406
  v471
def k0_mult27 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c2_i32_408 : BitVec 32 := 2#32
  let v475 : BitVec 32 := Scalar.subi v20 c2_i32_408
  let c4_i32_409 : BitVec 32 := 4#32
  let v476 : BitVec 32 := Scalar.addi v475 c4_i32_409
  let c4_i32_410 : BitVec 32 := 4#32
  let v477 : BitVec 32 := Scalar.remsi v476 c4_i32_410
  let c512_i32_411 : BitVec 32 := 512#32
  let v478 : BitVec 32 := Scalar.muli v477 c512_i32_411
  let c256_i32_412 : BitVec 32 := 256#32
  let v479 : BitVec 32 := Scalar.addi v478 c256_i32_412
  v479
def k0_mult28 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c2_i32_413 : BitVec 32 := 2#32
  let v481 : BitVec 32 := Scalar.addi v20 c2_i32_413
  let c4_i32_414 : BitVec 32 := 4#32
  let v482 : BitVec 32 := Scalar.remsi v481 c4_i32_414
  let c512_i32_415 : BitVec 32 := 512#32
  let v483 : BitVec 32 := Scalar.muli v482 c512_i32_415
  let c256_i32_416 : BitVec 32 := 256#32
  let v484 : BitVec 32 := Scalar.addi v483 c256_i32_416
  v484
def k0_dev15 (d0 : Dev nD) : Nat :=
  let c0_i32_420 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_419 : BitVec 32 := 1#32
  let v486 : BitVec 32 := Scalar.muli v24 c1_i32_419
  let v487 : BitVec 32 := Scalar.addi c0_i32_420 v486
  v487.toNat
def k0_dev16 (d0 : Dev nD) : Nat :=
  let c0_i32_428 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_427 : BitVec 32 := 1#32
  let v495 : BitVec 32 := Scalar.muli v28 c1_i32_427
  let v496 : BitVec 32 := Scalar.addi c0_i32_428 v495
  v496.toNat
def k0_mult29 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_447 : BitVec 32 := 1#32
  let v516 : BitVec 32 := Scalar.addi v20 c1_i32_447
  let c4_i32_448 : BitVec 32 := 4#32
  let v517 : BitVec 32 := Scalar.remsi v516 c4_i32_448
  let c512_i32_449 : BitVec 32 := 512#32
  let v518 : BitVec 32 := Scalar.muli v517 c512_i32_449
  let c0_i32_450 : BitVec 32 := 0#32
  let v519 : BitVec 32 := Scalar.addi v518 c0_i32_450
  v519
def k0_off5 (d0 : Dev nD) (c0_i32_450 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_447 : BitVec 32 := 1#32
  let v516 : BitVec 32 := Scalar.addi v20 c1_i32_447
  let c4_i32_448 : BitVec 32 := 4#32
  let v517 : BitVec 32 := Scalar.remsi v516 c4_i32_448
  let c512_i32_449 : BitVec 32 := 512#32
  let v518 : BitVec 32 := Scalar.muli v517 c512_i32_449
  let v519 : BitVec 32 := Scalar.addi v518 c0_i32_450
  let v520 : BitVec 32 := v519
  let v521 : Index := Scalar.indexCast v520
  let c0_451 : Index := 0#32
  ![v521.toNat, 0]
def k0_mult30 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_447 : BitVec 32 := 1#32
  let v516 : BitVec 32 := Scalar.addi v20 c1_i32_447
  let c4_i32_448 : BitVec 32 := 4#32
  let v517 : BitVec 32 := Scalar.remsi v516 c4_i32_448
  let c512_i32_454 : BitVec 32 := 512#32
  let v527 : BitVec 32 := Scalar.muli v517 c512_i32_454
  let c0_i32_455 : BitVec 32 := 0#32
  let v528 : BitVec 32 := Scalar.addi v527 c0_i32_455
  v528
def k0_mult31 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c3_i32_472 : BitVec 32 := 3#32
  let v544 : BitVec 32 := Scalar.addi v20 c3_i32_472
  let c4_i32_473 : BitVec 32 := 4#32
  let v545 : BitVec 32 := Scalar.remsi v544 c4_i32_473
  let c512_i32_474 : BitVec 32 := 512#32
  let v546 : BitVec 32 := Scalar.muli v545 c512_i32_474
  let c0_i32_475 : BitVec 32 := 0#32
  let v547 : BitVec 32 := Scalar.addi v546 c0_i32_475
  v547
def k0_mult32 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c3_i32_472 : BitVec 32 := 3#32
  let v544 : BitVec 32 := Scalar.addi v20 c3_i32_472
  let c4_i32_473 : BitVec 32 := 4#32
  let v545 : BitVec 32 := Scalar.remsi v544 c4_i32_473
  let c512_i32_480 : BitVec 32 := 512#32
  let v555 : BitVec 32 := Scalar.muli v545 c512_i32_480
  let c0_i32_481 : BitVec 32 := 0#32
  let v556 : BitVec 32 := Scalar.addi v555 c0_i32_481
  v556
def k0_mult33 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_498 : BitVec 32 := 1#32
  let v572 : BitVec 32 := Scalar.addi v20 c1_i32_498
  let c4_i32_499 : BitVec 32 := 4#32
  let v573 : BitVec 32 := Scalar.remsi v572 c4_i32_499
  let c512_i32_500 : BitVec 32 := 512#32
  let v574 : BitVec 32 := Scalar.muli v573 c512_i32_500
  let c256_i32_501 : BitVec 32 := 256#32
  let v575 : BitVec 32 := Scalar.addi v574 c256_i32_501
  v575
def k0_mult34 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_498 : BitVec 32 := 1#32
  let v572 : BitVec 32 := Scalar.addi v20 c1_i32_498
  let c4_i32_499 : BitVec 32 := 4#32
  let v573 : BitVec 32 := Scalar.remsi v572 c4_i32_499
  let c512_i32_505 : BitVec 32 := 512#32
  let v583 : BitVec 32 := Scalar.muli v573 c512_i32_505
  let c256_i32_506 : BitVec 32 := 256#32
  let v584 : BitVec 32 := Scalar.addi v583 c256_i32_506
  v584
def k0_mult35 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c3_i32_523 : BitVec 32 := 3#32
  let v600 : BitVec 32 := Scalar.addi v20 c3_i32_523
  let c4_i32_524 : BitVec 32 := 4#32
  let v601 : BitVec 32 := Scalar.remsi v600 c4_i32_524
  let c512_i32_525 : BitVec 32 := 512#32
  let v602 : BitVec 32 := Scalar.muli v601 c512_i32_525
  let c256_i32_526 : BitVec 32 := 256#32
  let v603 : BitVec 32 := Scalar.addi v602 c256_i32_526
  v603
def k0_mult36 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c3_i32_523 : BitVec 32 := 3#32
  let v600 : BitVec 32 := Scalar.addi v20 c3_i32_523
  let c4_i32_524 : BitVec 32 := 4#32
  let v601 : BitVec 32 := Scalar.remsi v600 c4_i32_524
  let c512_i32_531 : BitVec 32 := 512#32
  let v611 : BitVec 32 := Scalar.muli v601 c512_i32_531
  let c256_i32_532 : BitVec 32 := 256#32
  let v612 : BitVec 32 := Scalar.addi v611 c256_i32_532
  v612
def k0_mult37 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_534 : BitVec 32 := 1#32
  let v616 : BitVec 32 := Scalar.addi v20 c1_i32_534
  let c4_i32_535 : BitVec 32 := 4#32
  let v617 : BitVec 32 := Scalar.remsi v616 c4_i32_535
  let c512_i32_541 : BitVec 32 := 512#32
  let v623 : BitVec 32 := Scalar.muli v617 c512_i32_541
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_538 : BitVec 32 := 0#32
  let v620 : BitVec 32 := Scalar.subi v19 c0_i32_538
  let c4_i32_539 : BitVec 32 := 4#32
  let v621 : BitVec 32 := Scalar.addi v620 c4_i32_539
  let c4_i32_540 : BitVec 32 := 4#32
  let v622 : BitVec 32 := Scalar.remsi v621 c4_i32_540
  let c128_i32 : BitVec 32 := 128#32
  let v624 : BitVec 32 := Scalar.muli v622 c128_i32
  let v625 : BitVec 32 := Scalar.addi v623 v624
  v625
def k0_off6 (d0 : Dev nD) (c0_i32_538 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_534 : BitVec 32 := 1#32
  let v616 : BitVec 32 := Scalar.addi v20 c1_i32_534
  let c4_i32_535 : BitVec 32 := 4#32
  let v617 : BitVec 32 := Scalar.remsi v616 c4_i32_535
  let c512_i32_541 : BitVec 32 := 512#32
  let v623 : BitVec 32 := Scalar.muli v617 c512_i32_541
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v620 : BitVec 32 := Scalar.subi v19 c0_i32_538
  let c4_i32_539 : BitVec 32 := 4#32
  let v621 : BitVec 32 := Scalar.addi v620 c4_i32_539
  let c4_i32_540 : BitVec 32 := 4#32
  let v622 : BitVec 32 := Scalar.remsi v621 c4_i32_540
  let c128_i32 : BitVec 32 := 128#32
  let v624 : BitVec 32 := Scalar.muli v622 c128_i32
  let v625 : BitVec 32 := Scalar.addi v623 v624
  let v626 : BitVec 32 := v625
  let c0_i32_549 : BitVec 32 := 0#32
  ![v626.toNat, 0]
def k0_dev17 (d0 : Dev nD) : Nat :=
  let c0_i32_546 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_11 : BitVec 32 := 1#32
  let v29 : BitVec 32 := Scalar.addi v19 c1_i32_11
  let c4_i32_12 : BitVec 32 := 4#32
  let v30 : BitVec 32 := Scalar.remsi v29 c4_i32_12
  let c4_i32_13 : BitVec 32 := 4#32
  let v31 : BitVec 32 := Scalar.muli v30 c4_i32_13
  let c4_i32_5 : BitVec 32 := 4#32
  let v20 : BitVec 32 := Scalar.remsi v2 c4_i32_5
  let v32 : BitVec 32 := Scalar.addi v31 v20
  let c1_i32_545 : BitVec 32 := 1#32
  let v627 : BitVec 32 := Scalar.muli v32 c1_i32_545
  let v628 : BitVec 32 := Scalar.addi c0_i32_546 v627
  v628.toNat
def k0_mult38 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c3_i32_536 : BitVec 32 := 3#32
  let v618 : BitVec 32 := Scalar.addi v20 c3_i32_536
  let c4_i32_537 : BitVec 32 := 4#32
  let v619 : BitVec 32 := Scalar.remsi v618 c4_i32_537
  let c512_i32_552 : BitVec 32 := 512#32
  let v638 : BitVec 32 := Scalar.muli v619 c512_i32_552
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_550 : BitVec 32 := 0#32
  let v636 : BitVec 32 := Scalar.addi v19 c0_i32_550
  let c4_i32_551 : BitVec 32 := 4#32
  let v637 : BitVec 32 := Scalar.remsi v636 c4_i32_551
  let c128_i32_553 : BitVec 32 := 128#32
  let v639 : BitVec 32 := Scalar.muli v637 c128_i32_553
  let v640 : BitVec 32 := Scalar.addi v638 v639
  v640
def k0_off7 (d0 : Dev nD) (c0_i32_550 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c3_i32_536 : BitVec 32 := 3#32
  let v618 : BitVec 32 := Scalar.addi v20 c3_i32_536
  let c4_i32_537 : BitVec 32 := 4#32
  let v619 : BitVec 32 := Scalar.remsi v618 c4_i32_537
  let c512_i32_552 : BitVec 32 := 512#32
  let v638 : BitVec 32 := Scalar.muli v619 c512_i32_552
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v636 : BitVec 32 := Scalar.addi v19 c0_i32_550
  let c4_i32_551 : BitVec 32 := 4#32
  let v637 : BitVec 32 := Scalar.remsi v636 c4_i32_551
  let c128_i32_553 : BitVec 32 := 128#32
  let v639 : BitVec 32 := Scalar.muli v637 c128_i32_553
  let v640 : BitVec 32 := Scalar.addi v638 v639
  let v641 : BitVec 32 := v640
  let c512_i32_561 : BitVec 32 := 512#32
  ![v641.toNat, 512]
def k0_dev18 (d0 : Dev nD) : Nat :=
  let c0_i32_558 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_14 : BitVec 32 := 3#32
  let v33 : BitVec 32 := Scalar.addi v19 c3_i32_14
  let c4_i32_15 : BitVec 32 := 4#32
  let v34 : BitVec 32 := Scalar.remsi v33 c4_i32_15
  let c4_i32_16 : BitVec 32 := 4#32
  let v35 : BitVec 32 := Scalar.muli v34 c4_i32_16
  let c4_i32_5 : BitVec 32 := 4#32
  let v20 : BitVec 32 := Scalar.remsi v2 c4_i32_5
  let v36 : BitVec 32 := Scalar.addi v35 v20
  let c1_i32_557 : BitVec 32 := 1#32
  let v642 : BitVec 32 := Scalar.muli v36 c1_i32_557
  let v643 : BitVec 32 := Scalar.addi c0_i32_558 v642
  v643.toNat
def k0_mult39 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_534 : BitVec 32 := 1#32
  let v616 : BitVec 32 := Scalar.addi v20 c1_i32_534
  let c4_i32_535 : BitVec 32 := 4#32
  let v617 : BitVec 32 := Scalar.remsi v616 c4_i32_535
  let c512_i32_580 : BitVec 32 := 512#32
  let v666 : BitVec 32 := Scalar.muli v617 c512_i32_580
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_577 : BitVec 32 := 1#32
  let v663 : BitVec 32 := Scalar.subi v19 c1_i32_577
  let c4_i32_578 : BitVec 32 := 4#32
  let v664 : BitVec 32 := Scalar.addi v663 c4_i32_578
  let c4_i32_579 : BitVec 32 := 4#32
  let v665 : BitVec 32 := Scalar.remsi v664 c4_i32_579
  let c128_i32_581 : BitVec 32 := 128#32
  let v667 : BitVec 32 := Scalar.muli v665 c128_i32_581
  let v668 : BitVec 32 := Scalar.addi v666 v667
  v668
def k0_off8 (d0 : Dev nD) (c1_i32_577 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_534 : BitVec 32 := 1#32
  let v616 : BitVec 32 := Scalar.addi v20 c1_i32_534
  let c4_i32_535 : BitVec 32 := 4#32
  let v617 : BitVec 32 := Scalar.remsi v616 c4_i32_535
  let c512_i32_580 : BitVec 32 := 512#32
  let v666 : BitVec 32 := Scalar.muli v617 c512_i32_580
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v663 : BitVec 32 := Scalar.subi v19 c1_i32_577
  let c4_i32_578 : BitVec 32 := 4#32
  let v664 : BitVec 32 := Scalar.addi v663 c4_i32_578
  let c4_i32_579 : BitVec 32 := 4#32
  let v665 : BitVec 32 := Scalar.remsi v664 c4_i32_579
  let c128_i32_581 : BitVec 32 := 128#32
  let v667 : BitVec 32 := Scalar.muli v665 c128_i32_581
  let v668 : BitVec 32 := Scalar.addi v666 v667
  let v669 : BitVec 32 := v668
  let v670 : Index := Scalar.indexCast v669
  let c0_582 : Index := 0#32
  ![v670.toNat, 0]
def k0_mult40 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_534 : BitVec 32 := 1#32
  let v616 : BitVec 32 := Scalar.addi v20 c1_i32_534
  let c4_i32_535 : BitVec 32 := 4#32
  let v617 : BitVec 32 := Scalar.remsi v616 c4_i32_535
  let c512_i32_586 : BitVec 32 := 512#32
  let v676 : BitVec 32 := Scalar.muli v617 c512_i32_586
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_577 : BitVec 32 := 1#32
  let v663 : BitVec 32 := Scalar.subi v19 c1_i32_577
  let c4_i32_578 : BitVec 32 := 4#32
  let v664 : BitVec 32 := Scalar.addi v663 c4_i32_578
  let c4_i32_579 : BitVec 32 := 4#32
  let v665 : BitVec 32 := Scalar.remsi v664 c4_i32_579
  let c128_i32_587 : BitVec 32 := 128#32
  let v677 : BitVec 32 := Scalar.muli v665 c128_i32_587
  let v678 : BitVec 32 := Scalar.addi v676 v677
  v678
def k0_mult41 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_534 : BitVec 32 := 1#32
  let v616 : BitVec 32 := Scalar.addi v20 c1_i32_534
  let c4_i32_535 : BitVec 32 := 4#32
  let v617 : BitVec 32 := Scalar.remsi v616 c4_i32_535
  let c512_i32_592 : BitVec 32 := 512#32
  let v685 : BitVec 32 := Scalar.muli v617 c512_i32_592
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_589 : BitVec 32 := 1#32
  let v682 : BitVec 32 := Scalar.subi v19 c1_i32_589
  let c4_i32_590 : BitVec 32 := 4#32
  let v683 : BitVec 32 := Scalar.addi v682 c4_i32_590
  let c4_i32_591 : BitVec 32 := 4#32
  let v684 : BitVec 32 := Scalar.remsi v683 c4_i32_591
  let c128_i32_593 : BitVec 32 := 128#32
  let v686 : BitVec 32 := Scalar.muli v684 c128_i32_593
  let v687 : BitVec 32 := Scalar.addi v685 v686
  v687
def k0_dev19 (d0 : Dev nD) : Nat :=
  let c0_i32_598 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_11 : BitVec 32 := 1#32
  let v29 : BitVec 32 := Scalar.addi v19 c1_i32_11
  let c4_i32_12 : BitVec 32 := 4#32
  let v30 : BitVec 32 := Scalar.remsi v29 c4_i32_12
  let c4_i32_13 : BitVec 32 := 4#32
  let v31 : BitVec 32 := Scalar.muli v30 c4_i32_13
  let c4_i32_5 : BitVec 32 := 4#32
  let v20 : BitVec 32 := Scalar.remsi v2 c4_i32_5
  let v32 : BitVec 32 := Scalar.addi v31 v20
  let c1_i32_597 : BitVec 32 := 1#32
  let v689 : BitVec 32 := Scalar.muli v32 c1_i32_597
  let v690 : BitVec 32 := Scalar.addi c0_i32_598 v689
  v690.toNat
def k0_mult42 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c3_i32_536 : BitVec 32 := 3#32
  let v618 : BitVec 32 := Scalar.addi v20 c3_i32_536
  let c4_i32_537 : BitVec 32 := 4#32
  let v619 : BitVec 32 := Scalar.remsi v618 c4_i32_537
  let c512_i32_619 : BitVec 32 := 512#32
  let v712 : BitVec 32 := Scalar.muli v619 c512_i32_619
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_617 : BitVec 32 := 1#32
  let v710 : BitVec 32 := Scalar.addi v19 c1_i32_617
  let c4_i32_618 : BitVec 32 := 4#32
  let v711 : BitVec 32 := Scalar.remsi v710 c4_i32_618
  let c128_i32_620 : BitVec 32 := 128#32
  let v713 : BitVec 32 := Scalar.muli v711 c128_i32_620
  let v714 : BitVec 32 := Scalar.addi v712 v713
  v714
def k0_off9 (d0 : Dev nD) (c1_i32_617 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c3_i32_536 : BitVec 32 := 3#32
  let v618 : BitVec 32 := Scalar.addi v20 c3_i32_536
  let c4_i32_537 : BitVec 32 := 4#32
  let v619 : BitVec 32 := Scalar.remsi v618 c4_i32_537
  let c512_i32_619 : BitVec 32 := 512#32
  let v712 : BitVec 32 := Scalar.muli v619 c512_i32_619
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v710 : BitVec 32 := Scalar.addi v19 c1_i32_617
  let c4_i32_618 : BitVec 32 := 4#32
  let v711 : BitVec 32 := Scalar.remsi v710 c4_i32_618
  let c128_i32_620 : BitVec 32 := 128#32
  let v713 : BitVec 32 := Scalar.muli v711 c128_i32_620
  let v714 : BitVec 32 := Scalar.addi v712 v713
  let v715 : BitVec 32 := v714
  let v716 : Index := Scalar.indexCast v715
  let c512_621 : Index := 512#32
  ![v716.toNat, 512]
def k0_mult43 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c3_i32_536 : BitVec 32 := 3#32
  let v618 : BitVec 32 := Scalar.addi v20 c3_i32_536
  let c4_i32_537 : BitVec 32 := 4#32
  let v619 : BitVec 32 := Scalar.remsi v618 c4_i32_537
  let c512_i32_625 : BitVec 32 := 512#32
  let v722 : BitVec 32 := Scalar.muli v619 c512_i32_625
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_617 : BitVec 32 := 1#32
  let v710 : BitVec 32 := Scalar.addi v19 c1_i32_617
  let c4_i32_618 : BitVec 32 := 4#32
  let v711 : BitVec 32 := Scalar.remsi v710 c4_i32_618
  let c128_i32_626 : BitVec 32 := 128#32
  let v723 : BitVec 32 := Scalar.muli v711 c128_i32_626
  let v724 : BitVec 32 := Scalar.addi v722 v723
  v724
def k0_mult44 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c3_i32_536 : BitVec 32 := 3#32
  let v618 : BitVec 32 := Scalar.addi v20 c3_i32_536
  let c4_i32_537 : BitVec 32 := 4#32
  let v619 : BitVec 32 := Scalar.remsi v618 c4_i32_537
  let c512_i32_630 : BitVec 32 := 512#32
  let v730 : BitVec 32 := Scalar.muli v619 c512_i32_630
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_628 : BitVec 32 := 1#32
  let v728 : BitVec 32 := Scalar.addi v19 c1_i32_628
  let c4_i32_629 : BitVec 32 := 4#32
  let v729 : BitVec 32 := Scalar.remsi v728 c4_i32_629
  let c128_i32_631 : BitVec 32 := 128#32
  let v731 : BitVec 32 := Scalar.muli v729 c128_i32_631
  let v732 : BitVec 32 := Scalar.addi v730 v731
  v732
def k0_dev20 (d0 : Dev nD) : Nat :=
  let c0_i32_636 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_14 : BitVec 32 := 3#32
  let v33 : BitVec 32 := Scalar.addi v19 c3_i32_14
  let c4_i32_15 : BitVec 32 := 4#32
  let v34 : BitVec 32 := Scalar.remsi v33 c4_i32_15
  let c4_i32_16 : BitVec 32 := 4#32
  let v35 : BitVec 32 := Scalar.muli v34 c4_i32_16
  let c4_i32_5 : BitVec 32 := 4#32
  let v20 : BitVec 32 := Scalar.remsi v2 c4_i32_5
  let v36 : BitVec 32 := Scalar.addi v35 v20
  let c1_i32_635 : BitVec 32 := 1#32
  let v734 : BitVec 32 := Scalar.muli v36 c1_i32_635
  let v735 : BitVec 32 := Scalar.addi c0_i32_636 v734
  v735.toNat
def k0_mult45 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_534 : BitVec 32 := 1#32
  let v616 : BitVec 32 := Scalar.addi v20 c1_i32_534
  let c4_i32_535 : BitVec 32 := 4#32
  let v617 : BitVec 32 := Scalar.remsi v616 c4_i32_535
  let c512_i32_658 : BitVec 32 := 512#32
  let v758 : BitVec 32 := Scalar.muli v617 c512_i32_658
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_655 : BitVec 32 := 2#32
  let v755 : BitVec 32 := Scalar.subi v19 c2_i32_655
  let c4_i32_656 : BitVec 32 := 4#32
  let v756 : BitVec 32 := Scalar.addi v755 c4_i32_656
  let c4_i32_657 : BitVec 32 := 4#32
  let v757 : BitVec 32 := Scalar.remsi v756 c4_i32_657
  let c128_i32_659 : BitVec 32 := 128#32
  let v759 : BitVec 32 := Scalar.muli v757 c128_i32_659
  let v760 : BitVec 32 := Scalar.addi v758 v759
  v760
def k0_mult46 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_534 : BitVec 32 := 1#32
  let v616 : BitVec 32 := Scalar.addi v20 c1_i32_534
  let c4_i32_535 : BitVec 32 := 4#32
  let v617 : BitVec 32 := Scalar.remsi v616 c4_i32_535
  let c512_i32_664 : BitVec 32 := 512#32
  let v768 : BitVec 32 := Scalar.muli v617 c512_i32_664
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_655 : BitVec 32 := 2#32
  let v755 : BitVec 32 := Scalar.subi v19 c2_i32_655
  let c4_i32_656 : BitVec 32 := 4#32
  let v756 : BitVec 32 := Scalar.addi v755 c4_i32_656
  let c4_i32_657 : BitVec 32 := 4#32
  let v757 : BitVec 32 := Scalar.remsi v756 c4_i32_657
  let c128_i32_665 : BitVec 32 := 128#32
  let v769 : BitVec 32 := Scalar.muli v757 c128_i32_665
  let v770 : BitVec 32 := Scalar.addi v768 v769
  v770
def k0_mult47 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_534 : BitVec 32 := 1#32
  let v616 : BitVec 32 := Scalar.addi v20 c1_i32_534
  let c4_i32_535 : BitVec 32 := 4#32
  let v617 : BitVec 32 := Scalar.remsi v616 c4_i32_535
  let c512_i32_670 : BitVec 32 := 512#32
  let v777 : BitVec 32 := Scalar.muli v617 c512_i32_670
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_667 : BitVec 32 := 2#32
  let v774 : BitVec 32 := Scalar.subi v19 c2_i32_667
  let c4_i32_668 : BitVec 32 := 4#32
  let v775 : BitVec 32 := Scalar.addi v774 c4_i32_668
  let c4_i32_669 : BitVec 32 := 4#32
  let v776 : BitVec 32 := Scalar.remsi v775 c4_i32_669
  let c128_i32_671 : BitVec 32 := 128#32
  let v778 : BitVec 32 := Scalar.muli v776 c128_i32_671
  let v779 : BitVec 32 := Scalar.addi v777 v778
  v779
def k0_dev21 (d0 : Dev nD) : Nat :=
  let c0_i32_676 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_11 : BitVec 32 := 1#32
  let v29 : BitVec 32 := Scalar.addi v19 c1_i32_11
  let c4_i32_12 : BitVec 32 := 4#32
  let v30 : BitVec 32 := Scalar.remsi v29 c4_i32_12
  let c4_i32_13 : BitVec 32 := 4#32
  let v31 : BitVec 32 := Scalar.muli v30 c4_i32_13
  let c4_i32_5 : BitVec 32 := 4#32
  let v20 : BitVec 32 := Scalar.remsi v2 c4_i32_5
  let v32 : BitVec 32 := Scalar.addi v31 v20
  let c1_i32_675 : BitVec 32 := 1#32
  let v781 : BitVec 32 := Scalar.muli v32 c1_i32_675
  let v782 : BitVec 32 := Scalar.addi c0_i32_676 v781
  v782.toNat
def k0_mult48 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c3_i32_536 : BitVec 32 := 3#32
  let v618 : BitVec 32 := Scalar.addi v20 c3_i32_536
  let c4_i32_537 : BitVec 32 := 4#32
  let v619 : BitVec 32 := Scalar.remsi v618 c4_i32_537
  let c512_i32_697 : BitVec 32 := 512#32
  let v804 : BitVec 32 := Scalar.muli v619 c512_i32_697
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_695 : BitVec 32 := 2#32
  let v802 : BitVec 32 := Scalar.addi v19 c2_i32_695
  let c4_i32_696 : BitVec 32 := 4#32
  let v803 : BitVec 32 := Scalar.remsi v802 c4_i32_696
  let c128_i32_698 : BitVec 32 := 128#32
  let v805 : BitVec 32 := Scalar.muli v803 c128_i32_698
  let v806 : BitVec 32 := Scalar.addi v804 v805
  v806
def k0_mult49 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c3_i32_536 : BitVec 32 := 3#32
  let v618 : BitVec 32 := Scalar.addi v20 c3_i32_536
  let c4_i32_537 : BitVec 32 := 4#32
  let v619 : BitVec 32 := Scalar.remsi v618 c4_i32_537
  let c512_i32_703 : BitVec 32 := 512#32
  let v814 : BitVec 32 := Scalar.muli v619 c512_i32_703
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_695 : BitVec 32 := 2#32
  let v802 : BitVec 32 := Scalar.addi v19 c2_i32_695
  let c4_i32_696 : BitVec 32 := 4#32
  let v803 : BitVec 32 := Scalar.remsi v802 c4_i32_696
  let c128_i32_704 : BitVec 32 := 128#32
  let v815 : BitVec 32 := Scalar.muli v803 c128_i32_704
  let v816 : BitVec 32 := Scalar.addi v814 v815
  v816
def k0_mult50 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c3_i32_536 : BitVec 32 := 3#32
  let v618 : BitVec 32 := Scalar.addi v20 c3_i32_536
  let c4_i32_537 : BitVec 32 := 4#32
  let v619 : BitVec 32 := Scalar.remsi v618 c4_i32_537
  let c512_i32_708 : BitVec 32 := 512#32
  let v822 : BitVec 32 := Scalar.muli v619 c512_i32_708
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_706 : BitVec 32 := 2#32
  let v820 : BitVec 32 := Scalar.addi v19 c2_i32_706
  let c4_i32_707 : BitVec 32 := 4#32
  let v821 : BitVec 32 := Scalar.remsi v820 c4_i32_707
  let c128_i32_709 : BitVec 32 := 128#32
  let v823 : BitVec 32 := Scalar.muli v821 c128_i32_709
  let v824 : BitVec 32 := Scalar.addi v822 v823
  v824
def k0_dev22 (d0 : Dev nD) : Nat :=
  let c0_i32_714 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_14 : BitVec 32 := 3#32
  let v33 : BitVec 32 := Scalar.addi v19 c3_i32_14
  let c4_i32_15 : BitVec 32 := 4#32
  let v34 : BitVec 32 := Scalar.remsi v33 c4_i32_15
  let c4_i32_16 : BitVec 32 := 4#32
  let v35 : BitVec 32 := Scalar.muli v34 c4_i32_16
  let c4_i32_5 : BitVec 32 := 4#32
  let v20 : BitVec 32 := Scalar.remsi v2 c4_i32_5
  let v36 : BitVec 32 := Scalar.addi v35 v20
  let c1_i32_713 : BitVec 32 := 1#32
  let v826 : BitVec 32 := Scalar.muli v36 c1_i32_713
  let v827 : BitVec 32 := Scalar.addi c0_i32_714 v826
  v827.toNat
def k0_mult51 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_534 : BitVec 32 := 1#32
  let v616 : BitVec 32 := Scalar.addi v20 c1_i32_534
  let c4_i32_535 : BitVec 32 := 4#32
  let v617 : BitVec 32 := Scalar.remsi v616 c4_i32_535
  let c512_i32_735 : BitVec 32 := 512#32
  let v849 : BitVec 32 := Scalar.muli v617 c512_i32_735
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_733 : BitVec 32 := 1#32
  let v847 : BitVec 32 := Scalar.addi v19 c1_i32_733
  let c4_i32_734 : BitVec 32 := 4#32
  let v848 : BitVec 32 := Scalar.remsi v847 c4_i32_734
  let c128_i32_736 : BitVec 32 := 128#32
  let v850 : BitVec 32 := Scalar.muli v848 c128_i32_736
  let v851 : BitVec 32 := Scalar.addi v849 v850
  v851
def k0_off10 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_534 : BitVec 32 := 1#32
  let v616 : BitVec 32 := Scalar.addi v20 c1_i32_534
  let c4_i32_535 : BitVec 32 := 4#32
  let v617 : BitVec 32 := Scalar.remsi v616 c4_i32_535
  let c512_i32_735 : BitVec 32 := 512#32
  let v849 : BitVec 32 := Scalar.muli v617 c512_i32_735
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_733 : BitVec 32 := 1#32
  let v847 : BitVec 32 := Scalar.addi v19 c1_i32_733
  let c4_i32_734 : BitVec 32 := 4#32
  let v848 : BitVec 32 := Scalar.remsi v847 c4_i32_734
  let c128_i32_736 : BitVec 32 := 128#32
  let v850 : BitVec 32 := Scalar.muli v848 c128_i32_736
  let v851 : BitVec 32 := Scalar.addi v849 v850
  let v852 : BitVec 32 := v851
  let v853 : Index := Scalar.indexCast v852
  let c0_737 : Index := 0#32
  ![v853.toNat, 0]
def k0_mult52 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_534 : BitVec 32 := 1#32
  let v616 : BitVec 32 := Scalar.addi v20 c1_i32_534
  let c4_i32_535 : BitVec 32 := 4#32
  let v617 : BitVec 32 := Scalar.remsi v616 c4_i32_535
  let c512_i32_741 : BitVec 32 := 512#32
  let v859 : BitVec 32 := Scalar.muli v617 c512_i32_741
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_733 : BitVec 32 := 1#32
  let v847 : BitVec 32 := Scalar.addi v19 c1_i32_733
  let c4_i32_734 : BitVec 32 := 4#32
  let v848 : BitVec 32 := Scalar.remsi v847 c4_i32_734
  let c128_i32_742 : BitVec 32 := 128#32
  let v860 : BitVec 32 := Scalar.muli v848 c128_i32_742
  let v861 : BitVec 32 := Scalar.addi v859 v860
  v861
def k0_mult53 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c3_i32_536 : BitVec 32 := 3#32
  let v618 : BitVec 32 := Scalar.addi v20 c3_i32_536
  let c4_i32_537 : BitVec 32 := 4#32
  let v619 : BitVec 32 := Scalar.remsi v618 c4_i32_537
  let c512_i32_761 : BitVec 32 := 512#32
  let v879 : BitVec 32 := Scalar.muli v619 c512_i32_761
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_759 : BitVec 32 := 3#32
  let v877 : BitVec 32 := Scalar.addi v19 c3_i32_759
  let c4_i32_760 : BitVec 32 := 4#32
  let v878 : BitVec 32 := Scalar.remsi v877 c4_i32_760
  let c128_i32_762 : BitVec 32 := 128#32
  let v880 : BitVec 32 := Scalar.muli v878 c128_i32_762
  let v881 : BitVec 32 := Scalar.addi v879 v880
  v881
def k0_mult54 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c3_i32_536 : BitVec 32 := 3#32
  let v618 : BitVec 32 := Scalar.addi v20 c3_i32_536
  let c4_i32_537 : BitVec 32 := 4#32
  let v619 : BitVec 32 := Scalar.remsi v618 c4_i32_537
  let c512_i32_767 : BitVec 32 := 512#32
  let v889 : BitVec 32 := Scalar.muli v619 c512_i32_767
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_759 : BitVec 32 := 3#32
  let v877 : BitVec 32 := Scalar.addi v19 c3_i32_759
  let c4_i32_760 : BitVec 32 := 4#32
  let v878 : BitVec 32 := Scalar.remsi v877 c4_i32_760
  let c128_i32_768 : BitVec 32 := 128#32
  let v890 : BitVec 32 := Scalar.muli v878 c128_i32_768
  let v891 : BitVec 32 := Scalar.addi v889 v890
  v891
def k0_mult55 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_534 : BitVec 32 := 1#32
  let v616 : BitVec 32 := Scalar.addi v20 c1_i32_534
  let c4_i32_535 : BitVec 32 := 4#32
  let v617 : BitVec 32 := Scalar.remsi v616 c4_i32_535
  let c512_i32_774 : BitVec 32 := 512#32
  let v899 : BitVec 32 := Scalar.muli v617 c512_i32_774
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_770 : BitVec 32 := 1#32
  let v895 : BitVec 32 := Scalar.addi v19 c1_i32_770
  let c0_i32_771 : BitVec 32 := 0#32
  let v896 : BitVec 32 := Scalar.subi v895 c0_i32_771
  let c4_i32_772 : BitVec 32 := 4#32
  let v897 : BitVec 32 := Scalar.addi v896 c4_i32_772
  let c4_i32_773 : BitVec 32 := 4#32
  let v898 : BitVec 32 := Scalar.remsi v897 c4_i32_773
  let c128_i32_775 : BitVec 32 := 128#32
  let v900 : BitVec 32 := Scalar.muli v898 c128_i32_775
  let v901 : BitVec 32 := Scalar.addi v899 v900
  v901
def k0_off11 (d0 : Dev nD) (c0_i32_771 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_534 : BitVec 32 := 1#32
  let v616 : BitVec 32 := Scalar.addi v20 c1_i32_534
  let c4_i32_535 : BitVec 32 := 4#32
  let v617 : BitVec 32 := Scalar.remsi v616 c4_i32_535
  let c512_i32_774 : BitVec 32 := 512#32
  let v899 : BitVec 32 := Scalar.muli v617 c512_i32_774
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_770 : BitVec 32 := 1#32
  let v895 : BitVec 32 := Scalar.addi v19 c1_i32_770
  let v896 : BitVec 32 := Scalar.subi v895 c0_i32_771
  let c4_i32_772 : BitVec 32 := 4#32
  let v897 : BitVec 32 := Scalar.addi v896 c4_i32_772
  let c4_i32_773 : BitVec 32 := 4#32
  let v898 : BitVec 32 := Scalar.remsi v897 c4_i32_773
  let c128_i32_775 : BitVec 32 := 128#32
  let v900 : BitVec 32 := Scalar.muli v898 c128_i32_775
  let v901 : BitVec 32 := Scalar.addi v899 v900
  let v902 : BitVec 32 := v901
  let c0_i32_780 : BitVec 32 := 0#32
  ![v902.toNat, 0]
def k0_dev23 (d0 : Dev nD) : Nat :=
  let c0_i32_779 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_11 : BitVec 32 := 1#32
  let v29 : BitVec 32 := Scalar.addi v19 c1_i32_11
  let c4_i32_12 : BitVec 32 := 4#32
  let v30 : BitVec 32 := Scalar.remsi v29 c4_i32_12
  let c4_i32_13 : BitVec 32 := 4#32
  let v31 : BitVec 32 := Scalar.muli v30 c4_i32_13
  let c4_i32_5 : BitVec 32 := 4#32
  let v20 : BitVec 32 := Scalar.remsi v2 c4_i32_5
  let v32 : BitVec 32 := Scalar.addi v31 v20
  let c1_i32_778 : BitVec 32 := 1#32
  let v903 : BitVec 32 := Scalar.muli v32 c1_i32_778
  let v904 : BitVec 32 := Scalar.addi c0_i32_779 v903
  v904.toNat
def k0_mult56 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c3_i32_536 : BitVec 32 := 3#32
  let v618 : BitVec 32 := Scalar.addi v20 c3_i32_536
  let c4_i32_537 : BitVec 32 := 4#32
  let v619 : BitVec 32 := Scalar.remsi v618 c4_i32_537
  let c512_i32_785 : BitVec 32 := 512#32
  let v914 : BitVec 32 := Scalar.muli v619 c512_i32_785
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_782 : BitVec 32 := 3#32
  let v911 : BitVec 32 := Scalar.addi v19 c3_i32_782
  let c0_i32_783 : BitVec 32 := 0#32
  let v912 : BitVec 32 := Scalar.addi v911 c0_i32_783
  let c4_i32_784 : BitVec 32 := 4#32
  let v913 : BitVec 32 := Scalar.remsi v912 c4_i32_784
  let c128_i32_786 : BitVec 32 := 128#32
  let v915 : BitVec 32 := Scalar.muli v913 c128_i32_786
  let v916 : BitVec 32 := Scalar.addi v914 v915
  v916
def k0_off12 (d0 : Dev nD) (c0_i32_783 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c3_i32_536 : BitVec 32 := 3#32
  let v618 : BitVec 32 := Scalar.addi v20 c3_i32_536
  let c4_i32_537 : BitVec 32 := 4#32
  let v619 : BitVec 32 := Scalar.remsi v618 c4_i32_537
  let c512_i32_785 : BitVec 32 := 512#32
  let v914 : BitVec 32 := Scalar.muli v619 c512_i32_785
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_782 : BitVec 32 := 3#32
  let v911 : BitVec 32 := Scalar.addi v19 c3_i32_782
  let v912 : BitVec 32 := Scalar.addi v911 c0_i32_783
  let c4_i32_784 : BitVec 32 := 4#32
  let v913 : BitVec 32 := Scalar.remsi v912 c4_i32_784
  let c128_i32_786 : BitVec 32 := 128#32
  let v915 : BitVec 32 := Scalar.muli v913 c128_i32_786
  let v916 : BitVec 32 := Scalar.addi v914 v915
  let v917 : BitVec 32 := v916
  let c512_i32_791 : BitVec 32 := 512#32
  ![v917.toNat, 512]
def k0_dev24 (d0 : Dev nD) : Nat :=
  let c0_i32_790 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_14 : BitVec 32 := 3#32
  let v33 : BitVec 32 := Scalar.addi v19 c3_i32_14
  let c4_i32_15 : BitVec 32 := 4#32
  let v34 : BitVec 32 := Scalar.remsi v33 c4_i32_15
  let c4_i32_16 : BitVec 32 := 4#32
  let v35 : BitVec 32 := Scalar.muli v34 c4_i32_16
  let c4_i32_5 : BitVec 32 := 4#32
  let v20 : BitVec 32 := Scalar.remsi v2 c4_i32_5
  let v36 : BitVec 32 := Scalar.addi v35 v20
  let c1_i32_789 : BitVec 32 := 1#32
  let v918 : BitVec 32 := Scalar.muli v36 c1_i32_789
  let v919 : BitVec 32 := Scalar.addi c0_i32_790 v918
  v919.toNat
def k0_mult57 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_534 : BitVec 32 := 1#32
  let v616 : BitVec 32 := Scalar.addi v20 c1_i32_534
  let c4_i32_535 : BitVec 32 := 4#32
  let v617 : BitVec 32 := Scalar.remsi v616 c4_i32_535
  let c512_i32_819 : BitVec 32 := 512#32
  let v950 : BitVec 32 := Scalar.muli v617 c512_i32_819
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_815 : BitVec 32 := 1#32
  let v946 : BitVec 32 := Scalar.addi v19 c1_i32_815
  let c1_i32_816 : BitVec 32 := 1#32
  let v947 : BitVec 32 := Scalar.subi v946 c1_i32_816
  let c4_i32_817 : BitVec 32 := 4#32
  let v948 : BitVec 32 := Scalar.addi v947 c4_i32_817
  let c4_i32_818 : BitVec 32 := 4#32
  let v949 : BitVec 32 := Scalar.remsi v948 c4_i32_818
  let c128_i32_820 : BitVec 32 := 128#32
  let v951 : BitVec 32 := Scalar.muli v949 c128_i32_820
  let v952 : BitVec 32 := Scalar.addi v950 v951
  v952
def k0_dev25 (d0 : Dev nD) : Nat :=
  let c0_i32_824 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_11 : BitVec 32 := 1#32
  let v29 : BitVec 32 := Scalar.addi v19 c1_i32_11
  let c4_i32_12 : BitVec 32 := 4#32
  let v30 : BitVec 32 := Scalar.remsi v29 c4_i32_12
  let c4_i32_13 : BitVec 32 := 4#32
  let v31 : BitVec 32 := Scalar.muli v30 c4_i32_13
  let c4_i32_5 : BitVec 32 := 4#32
  let v20 : BitVec 32 := Scalar.remsi v2 c4_i32_5
  let v32 : BitVec 32 := Scalar.addi v31 v20
  let c1_i32_823 : BitVec 32 := 1#32
  let v954 : BitVec 32 := Scalar.muli v32 c1_i32_823
  let v955 : BitVec 32 := Scalar.addi c0_i32_824 v954
  v955.toNat
def k0_mult58 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c3_i32_536 : BitVec 32 := 3#32
  let v618 : BitVec 32 := Scalar.addi v20 c3_i32_536
  let c4_i32_537 : BitVec 32 := 4#32
  let v619 : BitVec 32 := Scalar.remsi v618 c4_i32_537
  let c512_i32_830 : BitVec 32 := 512#32
  let v965 : BitVec 32 := Scalar.muli v619 c512_i32_830
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_827 : BitVec 32 := 3#32
  let v962 : BitVec 32 := Scalar.addi v19 c3_i32_827
  let c1_i32_828 : BitVec 32 := 1#32
  let v963 : BitVec 32 := Scalar.addi v962 c1_i32_828
  let c4_i32_829 : BitVec 32 := 4#32
  let v964 : BitVec 32 := Scalar.remsi v963 c4_i32_829
  let c128_i32_831 : BitVec 32 := 128#32
  let v966 : BitVec 32 := Scalar.muli v964 c128_i32_831
  let v967 : BitVec 32 := Scalar.addi v965 v966
  v967
def k0_dev26 (d0 : Dev nD) : Nat :=
  let c0_i32_835 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_14 : BitVec 32 := 3#32
  let v33 : BitVec 32 := Scalar.addi v19 c3_i32_14
  let c4_i32_15 : BitVec 32 := 4#32
  let v34 : BitVec 32 := Scalar.remsi v33 c4_i32_15
  let c4_i32_16 : BitVec 32 := 4#32
  let v35 : BitVec 32 := Scalar.muli v34 c4_i32_16
  let c4_i32_5 : BitVec 32 := 4#32
  let v20 : BitVec 32 := Scalar.remsi v2 c4_i32_5
  let v36 : BitVec 32 := Scalar.addi v35 v20
  let c1_i32_834 : BitVec 32 := 1#32
  let v969 : BitVec 32 := Scalar.muli v36 c1_i32_834
  let v970 : BitVec 32 := Scalar.addi c0_i32_835 v969
  v970.toNat
def k0_mult59 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_534 : BitVec 32 := 1#32
  let v616 : BitVec 32 := Scalar.addi v20 c1_i32_534
  let c4_i32_535 : BitVec 32 := 4#32
  let v617 : BitVec 32 := Scalar.remsi v616 c4_i32_535
  let c512_i32_864 : BitVec 32 := 512#32
  let v1001 : BitVec 32 := Scalar.muli v617 c512_i32_864
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_860 : BitVec 32 := 1#32
  let v997 : BitVec 32 := Scalar.addi v19 c1_i32_860
  let c2_i32_861 : BitVec 32 := 2#32
  let v998 : BitVec 32 := Scalar.subi v997 c2_i32_861
  let c4_i32_862 : BitVec 32 := 4#32
  let v999 : BitVec 32 := Scalar.addi v998 c4_i32_862
  let c4_i32_863 : BitVec 32 := 4#32
  let v1000 : BitVec 32 := Scalar.remsi v999 c4_i32_863
  let c128_i32_865 : BitVec 32 := 128#32
  let v1002 : BitVec 32 := Scalar.muli v1000 c128_i32_865
  let v1003 : BitVec 32 := Scalar.addi v1001 v1002
  v1003
def k0_dev27 (d0 : Dev nD) : Nat :=
  let c0_i32_869 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_11 : BitVec 32 := 1#32
  let v29 : BitVec 32 := Scalar.addi v19 c1_i32_11
  let c4_i32_12 : BitVec 32 := 4#32
  let v30 : BitVec 32 := Scalar.remsi v29 c4_i32_12
  let c4_i32_13 : BitVec 32 := 4#32
  let v31 : BitVec 32 := Scalar.muli v30 c4_i32_13
  let c4_i32_5 : BitVec 32 := 4#32
  let v20 : BitVec 32 := Scalar.remsi v2 c4_i32_5
  let v32 : BitVec 32 := Scalar.addi v31 v20
  let c1_i32_868 : BitVec 32 := 1#32
  let v1005 : BitVec 32 := Scalar.muli v32 c1_i32_868
  let v1006 : BitVec 32 := Scalar.addi c0_i32_869 v1005
  v1006.toNat
def k0_mult60 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c3_i32_536 : BitVec 32 := 3#32
  let v618 : BitVec 32 := Scalar.addi v20 c3_i32_536
  let c4_i32_537 : BitVec 32 := 4#32
  let v619 : BitVec 32 := Scalar.remsi v618 c4_i32_537
  let c512_i32_875 : BitVec 32 := 512#32
  let v1016 : BitVec 32 := Scalar.muli v619 c512_i32_875
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_872 : BitVec 32 := 3#32
  let v1013 : BitVec 32 := Scalar.addi v19 c3_i32_872
  let c2_i32_873 : BitVec 32 := 2#32
  let v1014 : BitVec 32 := Scalar.addi v1013 c2_i32_873
  let c4_i32_874 : BitVec 32 := 4#32
  let v1015 : BitVec 32 := Scalar.remsi v1014 c4_i32_874
  let c128_i32_876 : BitVec 32 := 128#32
  let v1017 : BitVec 32 := Scalar.muli v1015 c128_i32_876
  let v1018 : BitVec 32 := Scalar.addi v1016 v1017
  v1018
def k0_dev28 (d0 : Dev nD) : Nat :=
  let c0_i32_880 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_14 : BitVec 32 := 3#32
  let v33 : BitVec 32 := Scalar.addi v19 c3_i32_14
  let c4_i32_15 : BitVec 32 := 4#32
  let v34 : BitVec 32 := Scalar.remsi v33 c4_i32_15
  let c4_i32_16 : BitVec 32 := 4#32
  let v35 : BitVec 32 := Scalar.muli v34 c4_i32_16
  let c4_i32_5 : BitVec 32 := 4#32
  let v20 : BitVec 32 := Scalar.remsi v2 c4_i32_5
  let v36 : BitVec 32 := Scalar.addi v35 v20
  let c1_i32_879 : BitVec 32 := 1#32
  let v1020 : BitVec 32 := Scalar.muli v36 c1_i32_879
  let v1021 : BitVec 32 := Scalar.addi c0_i32_880 v1020
  v1021.toNat
def k0_mult61 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_905 : BitVec 32 := 1#32
  let v1048 : BitVec 32 := Scalar.addi v20 c1_i32_905
  let c0_i32_906 : BitVec 32 := 0#32
  let v1049 : BitVec 32 := Scalar.subi v1048 c0_i32_906
  let c4_i32_907 : BitVec 32 := 4#32
  let v1050 : BitVec 32 := Scalar.addi v1049 c4_i32_907
  let c4_i32_908 : BitVec 32 := 4#32
  let v1051 : BitVec 32 := Scalar.remsi v1050 c4_i32_908
  let c512_i32_909 : BitVec 32 := 512#32
  let v1052 : BitVec 32 := Scalar.muli v1051 c512_i32_909
  let c0_i32_910 : BitVec 32 := 0#32
  let v1053 : BitVec 32 := Scalar.addi v1052 c0_i32_910
  v1053
def k0_mult62 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c3_i32_911 : BitVec 32 := 3#32
  let v1055 : BitVec 32 := Scalar.addi v20 c3_i32_911
  let c0_i32_912 : BitVec 32 := 0#32
  let v1056 : BitVec 32 := Scalar.addi v1055 c0_i32_912
  let c4_i32_913 : BitVec 32 := 4#32
  let v1057 : BitVec 32 := Scalar.remsi v1056 c4_i32_913
  let c512_i32_914 : BitVec 32 := 512#32
  let v1058 : BitVec 32 := Scalar.muli v1057 c512_i32_914
  let c0_i32_915 : BitVec 32 := 0#32
  let v1059 : BitVec 32 := Scalar.addi v1058 c0_i32_915
  v1059
def k0_off13 (d0 : Dev nD) (c0_i32_906 : BitVec 32) (c0_i32_910 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_905 : BitVec 32 := 1#32
  let v1048 : BitVec 32 := Scalar.addi v20 c1_i32_905
  let v1049 : BitVec 32 := Scalar.subi v1048 c0_i32_906
  let c4_i32_907 : BitVec 32 := 4#32
  let v1050 : BitVec 32 := Scalar.addi v1049 c4_i32_907
  let c4_i32_908 : BitVec 32 := 4#32
  let v1051 : BitVec 32 := Scalar.remsi v1050 c4_i32_908
  let c512_i32_909 : BitVec 32 := 512#32
  let v1052 : BitVec 32 := Scalar.muli v1051 c512_i32_909
  let v1053 : BitVec 32 := Scalar.addi v1052 c0_i32_910
  let v1054 : BitVec 32 := v1053
  let c0_i32_920 : BitVec 32 := 0#32
  ![v1054.toNat, 0]
def k0_dev29 (d0 : Dev nD) : Nat :=
  let c0_i32_919 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_918 : BitVec 32 := 1#32
  let v1061 : BitVec 32 := Scalar.muli v24 c1_i32_918
  let v1062 : BitVec 32 := Scalar.addi c0_i32_919 v1061
  v1062.toNat
def k0_off14 (d0 : Dev nD) (c0_i32_912 : BitVec 32) (c0_i32_915 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c3_i32_911 : BitVec 32 := 3#32
  let v1055 : BitVec 32 := Scalar.addi v20 c3_i32_911
  let v1056 : BitVec 32 := Scalar.addi v1055 c0_i32_912
  let c4_i32_913 : BitVec 32 := 4#32
  let v1057 : BitVec 32 := Scalar.remsi v1056 c4_i32_913
  let c512_i32_914 : BitVec 32 := 512#32
  let v1058 : BitVec 32 := Scalar.muli v1057 c512_i32_914
  let v1059 : BitVec 32 := Scalar.addi v1058 c0_i32_915
  let v1060 : BitVec 32 := v1059
  let c512_i32_926 : BitVec 32 := 512#32
  ![v1060.toNat, 512]
def k0_dev30 (d0 : Dev nD) : Nat :=
  let c0_i32_925 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_924 : BitVec 32 := 1#32
  let v1069 : BitVec 32 := Scalar.muli v28 c1_i32_924
  let v1070 : BitVec 32 := Scalar.addi c0_i32_925 v1069
  v1070.toNat
def k0_mult63 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_928 : BitVec 32 := 1#32
  let v1077 : BitVec 32 := Scalar.addi v20 c1_i32_928
  let c0_i32_929 : BitVec 32 := 0#32
  let v1078 : BitVec 32 := Scalar.subi v1077 c0_i32_929
  let c4_i32_930 : BitVec 32 := 4#32
  let v1079 : BitVec 32 := Scalar.addi v1078 c4_i32_930
  let c4_i32_931 : BitVec 32 := 4#32
  let v1080 : BitVec 32 := Scalar.remsi v1079 c4_i32_931
  let c512_i32_932 : BitVec 32 := 512#32
  let v1081 : BitVec 32 := Scalar.muli v1080 c512_i32_932
  let c256_i32_933 : BitVec 32 := 256#32
  let v1082 : BitVec 32 := Scalar.addi v1081 c256_i32_933
  v1082
def k0_mult64 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c3_i32_934 : BitVec 32 := 3#32
  let v1084 : BitVec 32 := Scalar.addi v20 c3_i32_934
  let c0_i32_935 : BitVec 32 := 0#32
  let v1085 : BitVec 32 := Scalar.addi v1084 c0_i32_935
  let c4_i32_936 : BitVec 32 := 4#32
  let v1086 : BitVec 32 := Scalar.remsi v1085 c4_i32_936
  let c512_i32_937 : BitVec 32 := 512#32
  let v1087 : BitVec 32 := Scalar.muli v1086 c512_i32_937
  let c256_i32_938 : BitVec 32 := 256#32
  let v1088 : BitVec 32 := Scalar.addi v1087 c256_i32_938
  v1088
def k0_dev31 (d0 : Dev nD) : Nat :=
  let c0_i32_942 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_941 : BitVec 32 := 1#32
  let v1090 : BitVec 32 := Scalar.muli v24 c1_i32_941
  let v1091 : BitVec 32 := Scalar.addi c0_i32_942 v1090
  v1091.toNat
def k0_dev32 (d0 : Dev nD) : Nat :=
  let c0_i32_948 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_947 : BitVec 32 := 1#32
  let v1098 : BitVec 32 := Scalar.muli v28 c1_i32_947
  let v1099 : BitVec 32 := Scalar.addi c0_i32_948 v1098
  v1099.toNat
def k0_mult65 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_973 : BitVec 32 := 1#32
  let v1126 : BitVec 32 := Scalar.addi v20 c1_i32_973
  let c1_i32_974 : BitVec 32 := 1#32
  let v1127 : BitVec 32 := Scalar.subi v1126 c1_i32_974
  let c4_i32_975 : BitVec 32 := 4#32
  let v1128 : BitVec 32 := Scalar.addi v1127 c4_i32_975
  let c4_i32_976 : BitVec 32 := 4#32
  let v1129 : BitVec 32 := Scalar.remsi v1128 c4_i32_976
  let c512_i32_977 : BitVec 32 := 512#32
  let v1130 : BitVec 32 := Scalar.muli v1129 c512_i32_977
  let c0_i32_978 : BitVec 32 := 0#32
  let v1131 : BitVec 32 := Scalar.addi v1130 c0_i32_978
  v1131
def k0_mult66 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c3_i32_979 : BitVec 32 := 3#32
  let v1133 : BitVec 32 := Scalar.addi v20 c3_i32_979
  let c1_i32_980 : BitVec 32 := 1#32
  let v1134 : BitVec 32 := Scalar.addi v1133 c1_i32_980
  let c4_i32_981 : BitVec 32 := 4#32
  let v1135 : BitVec 32 := Scalar.remsi v1134 c4_i32_981
  let c512_i32_982 : BitVec 32 := 512#32
  let v1136 : BitVec 32 := Scalar.muli v1135 c512_i32_982
  let c0_i32_983 : BitVec 32 := 0#32
  let v1137 : BitVec 32 := Scalar.addi v1136 c0_i32_983
  v1137
def k0_dev33 (d0 : Dev nD) : Nat :=
  let c0_i32_987 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_986 : BitVec 32 := 1#32
  let v1139 : BitVec 32 := Scalar.muli v24 c1_i32_986
  let v1140 : BitVec 32 := Scalar.addi c0_i32_987 v1139
  v1140.toNat
def k0_dev34 (d0 : Dev nD) : Nat :=
  let c0_i32_993 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_992 : BitVec 32 := 1#32
  let v1147 : BitVec 32 := Scalar.muli v28 c1_i32_992
  let v1148 : BitVec 32 := Scalar.addi c0_i32_993 v1147
  v1148.toNat
def k0_mult67 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_1018 : BitVec 32 := 1#32
  let v1175 : BitVec 32 := Scalar.addi v20 c1_i32_1018
  let c1_i32_1019 : BitVec 32 := 1#32
  let v1176 : BitVec 32 := Scalar.subi v1175 c1_i32_1019
  let c4_i32_1020 : BitVec 32 := 4#32
  let v1177 : BitVec 32 := Scalar.addi v1176 c4_i32_1020
  let c4_i32_1021 : BitVec 32 := 4#32
  let v1178 : BitVec 32 := Scalar.remsi v1177 c4_i32_1021
  let c512_i32_1022 : BitVec 32 := 512#32
  let v1179 : BitVec 32 := Scalar.muli v1178 c512_i32_1022
  let c256_i32_1023 : BitVec 32 := 256#32
  let v1180 : BitVec 32 := Scalar.addi v1179 c256_i32_1023
  v1180
def k0_mult68 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c3_i32_1024 : BitVec 32 := 3#32
  let v1182 : BitVec 32 := Scalar.addi v20 c3_i32_1024
  let c1_i32_1025 : BitVec 32 := 1#32
  let v1183 : BitVec 32 := Scalar.addi v1182 c1_i32_1025
  let c4_i32_1026 : BitVec 32 := 4#32
  let v1184 : BitVec 32 := Scalar.remsi v1183 c4_i32_1026
  let c512_i32_1027 : BitVec 32 := 512#32
  let v1185 : BitVec 32 := Scalar.muli v1184 c512_i32_1027
  let c256_i32_1028 : BitVec 32 := 256#32
  let v1186 : BitVec 32 := Scalar.addi v1185 c256_i32_1028
  v1186
def k0_dev35 (d0 : Dev nD) : Nat :=
  let c0_i32_1032 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_1031 : BitVec 32 := 1#32
  let v1188 : BitVec 32 := Scalar.muli v24 c1_i32_1031
  let v1189 : BitVec 32 := Scalar.addi c0_i32_1032 v1188
  v1189.toNat
def k0_dev36 (d0 : Dev nD) : Nat :=
  let c0_i32_1038 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_1037 : BitVec 32 := 1#32
  let v1196 : BitVec 32 := Scalar.muli v28 c1_i32_1037
  let v1197 : BitVec 32 := Scalar.addi c0_i32_1038 v1196
  v1197.toNat
def k0_mult69 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_1063 : BitVec 32 := 1#32
  let v1224 : BitVec 32 := Scalar.addi v20 c1_i32_1063
  let c2_i32_1064 : BitVec 32 := 2#32
  let v1225 : BitVec 32 := Scalar.subi v1224 c2_i32_1064
  let c4_i32_1065 : BitVec 32 := 4#32
  let v1226 : BitVec 32 := Scalar.addi v1225 c4_i32_1065
  let c4_i32_1066 : BitVec 32 := 4#32
  let v1227 : BitVec 32 := Scalar.remsi v1226 c4_i32_1066
  let c512_i32_1067 : BitVec 32 := 512#32
  let v1228 : BitVec 32 := Scalar.muli v1227 c512_i32_1067
  let c0_i32_1068 : BitVec 32 := 0#32
  let v1229 : BitVec 32 := Scalar.addi v1228 c0_i32_1068
  v1229
def k0_mult70 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c3_i32_1069 : BitVec 32 := 3#32
  let v1231 : BitVec 32 := Scalar.addi v20 c3_i32_1069
  let c2_i32_1070 : BitVec 32 := 2#32
  let v1232 : BitVec 32 := Scalar.addi v1231 c2_i32_1070
  let c4_i32_1071 : BitVec 32 := 4#32
  let v1233 : BitVec 32 := Scalar.remsi v1232 c4_i32_1071
  let c512_i32_1072 : BitVec 32 := 512#32
  let v1234 : BitVec 32 := Scalar.muli v1233 c512_i32_1072
  let c0_i32_1073 : BitVec 32 := 0#32
  let v1235 : BitVec 32 := Scalar.addi v1234 c0_i32_1073
  v1235
def k0_dev37 (d0 : Dev nD) : Nat :=
  let c0_i32_1077 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_1076 : BitVec 32 := 1#32
  let v1237 : BitVec 32 := Scalar.muli v24 c1_i32_1076
  let v1238 : BitVec 32 := Scalar.addi c0_i32_1077 v1237
  v1238.toNat
def k0_dev38 (d0 : Dev nD) : Nat :=
  let c0_i32_1083 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_1082 : BitVec 32 := 1#32
  let v1245 : BitVec 32 := Scalar.muli v28 c1_i32_1082
  let v1246 : BitVec 32 := Scalar.addi c0_i32_1083 v1245
  v1246.toNat
def k0_mult71 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_1108 : BitVec 32 := 1#32
  let v1273 : BitVec 32 := Scalar.addi v20 c1_i32_1108
  let c2_i32_1109 : BitVec 32 := 2#32
  let v1274 : BitVec 32 := Scalar.subi v1273 c2_i32_1109
  let c4_i32_1110 : BitVec 32 := 4#32
  let v1275 : BitVec 32 := Scalar.addi v1274 c4_i32_1110
  let c4_i32_1111 : BitVec 32 := 4#32
  let v1276 : BitVec 32 := Scalar.remsi v1275 c4_i32_1111
  let c512_i32_1112 : BitVec 32 := 512#32
  let v1277 : BitVec 32 := Scalar.muli v1276 c512_i32_1112
  let c256_i32_1113 : BitVec 32 := 256#32
  let v1278 : BitVec 32 := Scalar.addi v1277 c256_i32_1113
  v1278
def k0_mult72 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c3_i32_1114 : BitVec 32 := 3#32
  let v1280 : BitVec 32 := Scalar.addi v20 c3_i32_1114
  let c2_i32_1115 : BitVec 32 := 2#32
  let v1281 : BitVec 32 := Scalar.addi v1280 c2_i32_1115
  let c4_i32_1116 : BitVec 32 := 4#32
  let v1282 : BitVec 32 := Scalar.remsi v1281 c4_i32_1116
  let c512_i32_1117 : BitVec 32 := 512#32
  let v1283 : BitVec 32 := Scalar.muli v1282 c512_i32_1117
  let c256_i32_1118 : BitVec 32 := 256#32
  let v1284 : BitVec 32 := Scalar.addi v1283 c256_i32_1118
  v1284
def k0_dev39 (d0 : Dev nD) : Nat :=
  let c0_i32_1122 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_1121 : BitVec 32 := 1#32
  let v1286 : BitVec 32 := Scalar.muli v24 c1_i32_1121
  let v1287 : BitVec 32 := Scalar.addi c0_i32_1122 v1286
  v1287.toNat
def k0_dev40 (d0 : Dev nD) : Nat :=
  let c0_i32_1128 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_1127 : BitVec 32 := 1#32
  let v1294 : BitVec 32 := Scalar.muli v28 c1_i32_1127
  let v1295 : BitVec 32 := Scalar.addi c0_i32_1128 v1294
  v1295.toNat
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x16384 : Shape := ⟨2, ![2048, 16384]⟩
abbrev S16384x1024 : Shape := ⟨2, ![16384, 1024]⟩
abbrev S2048x1024 : Shape := ⟨2, ![2048, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2048x16384, .bf16⟩
  | .hbm, ⟨1, _⟩ => ⟨S16384x1024, .bf16⟩
  | .hbm, ⟨2, _⟩ => ⟨S2048x1024, .f32⟩
  | .hbm, ⟨3, _⟩ => ⟨S2048x1024, .bf16⟩
  | _, _ => ⟨S2048x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== AttnKernel.lean ====
abbrev S2048x1024 : Shape := ⟨2, ![2048, 1024]⟩
abbrev S1024x1024 : Shape := ⟨2, ![1024, 1024]⟩
abbrev S128x1024 : Shape := ⟨2, ![128, 1024]⟩
abbrev S128x1 : Shape := ⟨2, ![128, 1]⟩
abbrev S128x2048 : Shape := ⟨2, ![128, 2048]⟩
abbrev S128x128 : Shape := ⟨2, ![128, 128]⟩
abbrev S2048x128 : Shape := ⟨2, ![2048, 128]⟩
abbrev S128 : Shape := ⟨1, ![128]⟩
abbrev S128x384 : Shape := ⟨2, ![128, 384]⟩
abbrev S384x128 : Shape := ⟨2, ![384, 128]⟩

abbrev nBuf : Space → Nat
  | .hbm => 5
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .bf16⟩
  | .hbm, ⟨3, _⟩ => ⟨S2048x1024, .bf16⟩
  | .hbm, ⟨4, _⟩ => ⟨S2048x1024, .bf16⟩
  | .local _ .vmem, ⟨0, _⟩ => ⟨S2048x1024, .bf16⟩
  | .local _ .vmem, ⟨1, _⟩ => ⟨S1024x1024, .bf16⟩
  | .local _ .vmem, ⟨2, _⟩ => ⟨S2048x1024, .bf16⟩
  | .local _ .vmem, ⟨3, _⟩ => ⟨S2048x1024, .bf16⟩
  | .local _ .vmem, ⟨4, _⟩ => ⟨S128x1024, .bf16⟩
  | .local _ .vmem, ⟨5, _⟩ => ⟨S128x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5

abbrev nD : Nat := 1
abbrev τ : Topo := Topo.v7x

variable {F : FTy → Type} [FloatOps F]

abbrev grid0 : Pipeline.Grid := ⟨1, ![16], ![false]⟩

def k0_mult1 (i : grid0.Coords) : BitVec 32 :=
  let arg0 : BitVec 32 := BitVec.ofNat 32 (i 0).val
  let c128_i32 : BitVec 32 := 128#32
  let v0 : BitVec 32 := Scalar.muli arg0 c128_i32
  v0
def k0_off1 (i : grid0.Coords) : Fin 2 → Nat :=
  let arg0 : BitVec 32 := BitVec.ofNat 32 (i 0).val
  let c128_i32 : BitVec 32 := 128#32
  let v0 : BitVec 32 := Scalar.muli arg0 c128_i32
  let v1 : BitVec 32 := v0
  let v2 : Index := Scalar.indexCast v1
  let c0 : Index := 0#32
  ![v2.toNat, 0]
def k0_cond2 (i : grid0.Coords) : BitVec 1 :=
  let arg0 : BitVec 32 := BitVec.ofNat 32 (i 0).val
  let c0_i32_4 : BitVec 32 := 0#32
  let v14 : BitVec 1 := Scalar.cmpi .sgt arg0 c0_i32_4
  let v15 : BitVec 32 := Scalar.extui v14
  let c0_i32_5 : BitVec 32 := 0#32
  let v16 : BitVec 1 := Scalar.cmpi .ne v15 c0_i32_5
  v16

def k0_mult2 (i : grid0.Coords) : BitVec 32 :=
  let c1664_i32 : BitVec 32 := 1664#32
  let c0_i32_7 : BitVec 32 := 0#32
  let arg0 : BitVec 32 := BitVec.ofNat 32 (i 0).val
  let c1_i32 : BitVec 32 := 1#32
  let v17 : BitVec 32 := Scalar.subi arg0 c1_i32
  let c128_i32_6 : BitVec 32 := 128#32
  let v18 : BitVec 32 := Scalar.muli v17 c128_i32_6
  let v19 : BitVec 32 := Scalar.maxsi c0_i32_7 v18
  let v20 : BitVec 32 := Scalar.minsi c1664_i32 v19
  v20
def k0_off2 (i : grid0.Coords) : Fin 2 → Nat :=
  let c1664_i32 : BitVec 32 := 1664#32
  let c0_i32_7 : BitVec 32 := 0#32
  let arg0 : BitVec 32 := BitVec.ofNat 32 (i 0).val
  let c1_i32 : BitVec 32 := 1#32
  let v17 : BitVec 32 := Scalar.subi arg0 c1_i32
  let c128_i32_6 : BitVec 32 := 128#32
  let v18 : BitVec 32 := Scalar.muli v17 c128_i32_6
  let v19 : BitVec 32 := Scalar.maxsi c0_i32_7 v18
  let v20 : BitVec 32 := Scalar.minsi c1664_i32 v19
  let v21 : BitVec 32 := v20
  let v40 : Index := Scalar.indexCast v21
  let c0_10 : Index := 0#32
  ![v40.toNat, 0]
def k0_off3 (i : grid0.Coords) : Fin 2 → Nat :=
  let c1664_i32 : BitVec 32 := 1664#32
  let c0_i32_7 : BitVec 32 := 0#32
  let arg0 : BitVec 32 := BitVec.ofNat 32 (i 0).val
  let c1_i32 : BitVec 32 := 1#32
  let v17 : BitVec 32 := Scalar.subi arg0 c1_i32
  let c128_i32_6 : BitVec 32 := 128#32
  let v18 : BitVec 32 := Scalar.muli v17 c128_i32_6
  let v19 : BitVec 32 := Scalar.maxsi c0_i32_7 v18
  let v20 : BitVec 32 := Scalar.minsi c1664_i32 v19
  let v21 : BitVec 32 := v20
  let v82 : Index := Scalar.indexCast v21
  let c128 : Index := 128#32
  ![v82.toNat, 128]
def k0_off4 (i : grid0.Coords) : Fin 2 → Nat :=
  let c1664_i32 : BitVec 32 := 1664#32
  let c0_i32_7 : BitVec 32 := 0#32
  let arg0 : BitVec 32 := BitVec.ofNat 32 (i 0).val
  let c1_i32 : BitVec 32 := 1#32
  let v17 : BitVec 32 := Scalar.subi arg0 c1_i32
  let c128_i32_6 : BitVec 32 := 128#32
  let v18 : BitVec 32 := Scalar.muli v17 c128_i32_6
  let v19 : BitVec 32 := Scalar.maxsi c0_i32_7 v18
  let v20 : BitVec 32 := Scalar.minsi c1664_i32 v19
  let v21 : BitVec 32 := v20
  let v124 : Index := Scalar.indexCast v21
  let c256 : Index := 256#32
  ![v124.toNat, 256]
def k0_off5 (i : grid0.Coords) : Fin 2 → Nat :=
  let c1664_i32 : BitVec 32 := 1664#32
  let c0_i32_7 : BitVec 32 := 0#32
  let arg0 : BitVec 32 := BitVec.ofNat 32 (i 0).val
  let c1_i32 : BitVec 32 := 1#32
  let v17 : BitVec 32 := Scalar.subi arg0 c1_i32
  let c128_i32_6 : BitVec 32 := 128#32
  let v18 : BitVec 32 := Scalar.muli v17 c128_i32_6
  let v19 : BitVec 32 := Scalar.maxsi c0_i32_7 v18
  let v20 : BitVec 32 := Scalar.minsi c1664_i32 v19
  let v21 : BitVec 32 := v20
  let v166 : Index := Scalar.indexCast v21
  let c384 : Index := 384#32
  ![v166.toNat, 384]
def k0_off6 (i : grid0.Coords) : Fin 2 → Nat :=
  let c1664_i32 : BitVec 32 := 1664#32
  let c0_i32_7 : BitVec 32 := 0#32
  let arg0 : BitVec 32 := BitVec.ofNat 32 (i 0).val
  let c1_i32 : BitVec 32 := 1#32
  let v17 : BitVec 32 := Scalar.subi arg0 c1_i32
  let c128_i32_6 : BitVec 32 := 128#32
  let v18 : BitVec 32 := Scalar.muli v17 c128_i32_6
  let v19 : BitVec 32 := Scalar.maxsi c0_i32_7 v18
  let v20 : BitVec 32 := Scalar.minsi c1664_i32 v19
  let v21 : BitVec 32 := v20
  let v208 : Index := Scalar.indexCast v21
  let c512 : Index := 512#32
  ![v208.toNat, 512]
def k0_off7 (i : grid0.Coords) : Fin 2 → Nat :=
  let c1664_i32 : BitVec 32 := 1664#32
  let c0_i32_7 : BitVec 32 := 0#32
  let arg0 : BitVec 32 := BitVec.ofNat 32 (i 0).val
  let c1_i32 : BitVec 32 := 1#32
  let v17 : BitVec 32 := Scalar.subi arg0 c1_i32
  let c128_i32_6 : BitVec 32 := 128#32
  let v18 : BitVec 32 := Scalar.muli v17 c128_i32_6
  let v19 : BitVec 32 := Scalar.maxsi c0_i32_7 v18
  let v20 : BitVec 32 := Scalar.minsi c1664_i32 v19
  let v21 : BitVec 32 := v20
  let v250 : Index := Scalar.indexCast v21
  let c640 : Index := 640#32
  ![v250.toNat, 640]
def k0_off8 (i : grid0.Coords) : Fin 2 → Nat :=
  let c1664_i32 : BitVec 32 := 1664#32
  let c0_i32_7 : BitVec 32 := 0#32
  let arg0 : BitVec 32 := BitVec.ofNat 32 (i 0).val
  let c1_i32 : BitVec 32 := 1#32
  let v17 : BitVec 32 := Scalar.subi arg0 c1_i32
  let c128_i32_6 : BitVec 32 := 128#32
  let v18 : BitVec 32 := Scalar.muli v17 c128_i32_6
  let v19 : BitVec 32 := Scalar.maxsi c0_i32_7 v18
  let v20 : BitVec 32 := Scalar.minsi c1664_i32 v19
  let v21 : BitVec 32 := v20
  let v292 : Index := Scalar.indexCast v21
  let c768 : Index := 768#32
  ![v292.toNat, 768]
def k0_off9 (i : grid0.Coords) : Fin 2 → Nat :=
  let c1664_i32 : BitVec 32 := 1664#32
  let c0_i32_7 : BitVec 32 := 0#32
  let arg0 : BitVec 32 := BitVec.ofNat 32 (i 0).val
  let c1_i32 : BitVec 32 := 1#32
  let v17 : BitVec 32 := Scalar.subi arg0 c1_i32
  let c128_i32_6 : BitVec 32 := 128#32
  let v18 : BitVec 32 := Scalar.muli v17 c128_i32_6
  let v19 : BitVec 32 := Scalar.maxsi c0_i32_7 v18
  let v20 : BitVec 32 := Scalar.minsi c1664_i32 v19
  let v21 : BitVec 32 := v20
  let v334 : Index := Scalar.indexCast v21
  let c896 : Index := 896#32
  ![v334.toNat, 896]
def k0_cond1 (i : grid0.Coords) : BitVec 1 :=
  let arg0 : BitVec 32 := BitVec.ofNat 32 (i 0).val
  let c0_i32 : BitVec 32 := 0#32
  let v11 : BitVec 1 := Scalar.cmpi .eq arg0 c0_i32
  let v12 : BitVec 32 := Scalar.extui v11
  let c0_i32_3 : BitVec 32 := 0#32
  let v13 : BitVec 1 := Scalar.cmpi .ne v12 c0_i32_3
  v13

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== AttnKernelIdeal.lean ====
variable {F : FTy → Type} [FloatOps F] [Named F]
def κ : String → Option EReal := fun
  | "mask" => some ⊥
  | _ => none
-- ==== AttnReferenceIdeal.lean ====
abbrev S2048x1024 : Shape := ⟨2, ![2048, 1024]⟩
abbrev S1024x1024 : Shape := ⟨2, ![1024, 1024]⟩
abbrev S2048x8x128 : Shape := ⟨3, ![2048, 8, 128]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S8x2048x2048 : Shape := ⟨3, ![8, 2048, 2048]⟩
abbrev S1x2048x2048 : Shape := ⟨3, ![1, 2048, 2048]⟩
abbrev S8x2048 : Shape := ⟨2, ![8, 2048]⟩
abbrev S8x2048x1 : Shape := ⟨3, ![8, 2048, 1]⟩
abbrev S1x2048x1 : Shape := ⟨3, ![1, 2048, 1]⟩
abbrev S8x128x2048 : Shape := ⟨3, ![8, 128, 2048]⟩

abbrev nBuf : Space → Nat
  | .hbm => 71
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .bf16⟩
  | .hbm, ⟨3, _⟩ => ⟨S2048x1024, .bf16⟩
  | .hbm, ⟨4, _⟩ => ⟨S2048x1024, .f32⟩
  | .hbm, ⟨5, _⟩ => ⟨S2048x1024, .bf16⟩
  | .hbm, ⟨6, _⟩ => ⟨S2048x8x128, .bf16⟩
  | .hbm, ⟨7, _⟩ => ⟨S2048x8x128, .bf16⟩
  | .hbm, ⟨8, _⟩ => ⟨S2048x8x128, .bf16⟩
  | .hbm, ⟨9, _⟩ => ⟨S2048, .i32⟩
  | .hbm, ⟨10, _⟩ => ⟨S2048x1, .i32⟩
  | .hbm, ⟨11, _⟩ => ⟨S2048, .i32⟩
  | .hbm, ⟨12, _⟩ => ⟨S1x2048, .i32⟩
  | .hbm, ⟨13, _⟩ => ⟨S2048x2048, .i32⟩
  | .hbm, ⟨14, _⟩ => ⟨S2048x2048, .i32⟩
  | .hbm, ⟨15, _⟩ => ⟨S2048x2048, .i32⟩
  | .hbm, ⟨16, _⟩ => ⟨S2048x2048, .i32⟩
  | .hbm, ⟨17, _⟩ => ⟨S_, .i32⟩
  | .hbm, ⟨18, _⟩ => ⟨S2048x2048, .i32⟩
  | .hbm, ⟨19, _⟩ => ⟨S2048x2048, .i1⟩
  | .hbm, ⟨20, _⟩ => ⟨S_, .i32⟩
  | .hbm, ⟨21, _⟩ => ⟨S1x2048, .i32⟩
  | .hbm, ⟨22, _⟩ => ⟨S1x2048, .i1⟩
  | .hbm, ⟨23, _⟩ => ⟨S_, .i32⟩
  | .hbm, ⟨24, _⟩ => ⟨S2048x1, .i32⟩
  | .hbm, ⟨25, _⟩ => ⟨S2048x1, .i1⟩
  | .hbm, ⟨26, _⟩ => ⟨S2048x2048, .i1⟩
  | .hbm, ⟨27, _⟩ => ⟨S2048x2048, .i1⟩
  | .hbm, ⟨28, _⟩ => ⟨S2048x2048, .i1⟩
  | .hbm, ⟨29, _⟩ => ⟨S2048x2048, .i1⟩
  | .hbm, ⟨30, _⟩ => ⟨S8x2048x2048, .f32⟩
  | .hbm, ⟨31, _⟩ => ⟨S8x2048x2048, .bf16⟩
  | .hbm, ⟨32, _⟩ => ⟨S8x2048x2048, .f32⟩
  | .hbm, ⟨33, _⟩ => ⟨S_, .f32⟩
  | .hbm, ⟨34, _⟩ => ⟨S8x2048x2048, .f32⟩
  | .hbm, ⟨35, _⟩ => ⟨S8x2048x2048, .f32⟩
  | .hbm, ⟨36, _⟩ => ⟨S1x2048x2048, .i1⟩
  | .hbm, ⟨37, _⟩ => ⟨S_, .f32⟩
  | .hbm, ⟨38, _⟩ => ⟨S_, .f32⟩
  | .hbm, ⟨39, _⟩ => ⟨S8x2048x2048, .i1⟩
  | .hbm, ⟨40, _⟩ => ⟨S8x2048x2048, .f32⟩
  | .hbm, ⟨41, _⟩ => ⟨S8x2048x2048, .f32⟩
  | .hbm, ⟨42, _⟩ => ⟨S_, .f32⟩
  | .hbm, ⟨43, _⟩ => ⟨S8x2048, .f32⟩
  | .hbm, ⟨44, _⟩ => ⟨S8x2048x1, .f32⟩
  | .hbm, ⟨45, _⟩ => ⟨S8x2048x2048, .f32⟩
  | .hbm, ⟨46, _⟩ => ⟨S8x2048x2048, .f32⟩
  | .hbm, ⟨47, _⟩ => ⟨S8x2048x2048, .f32⟩
  | .hbm, ⟨48, _⟩ => ⟨S_, .i1⟩
  | .hbm, ⟨49, _⟩ => ⟨S2048, .i1⟩
  | .hbm, ⟨50, _⟩ => ⟨S1x2048x1, .i1⟩
  | .hbm, ⟨51, _⟩ => ⟨S_, .f32⟩
  | .hbm, ⟨52, _⟩ => ⟨S8x2048, .f32⟩
  | .hbm, ⟨53, _⟩ => ⟨S8x2048x1, .f32⟩
  | .hbm, ⟨54, _⟩ => ⟨S_, .f32⟩
  | .hbm, ⟨55, _⟩ => ⟨S_, .f32⟩
  | .hbm, ⟨56, _⟩ => ⟨S8x2048x1, .i1⟩
  | .hbm, ⟨57, _⟩ => ⟨S8x2048x1, .f32⟩
  | .hbm, ⟨58, _⟩ => ⟨S8x2048x1, .f32⟩
  | .hbm, ⟨59, _⟩ => ⟨S8x2048x2048, .f32⟩
  | .hbm, ⟨60, _⟩ => ⟨S8x2048x2048, .f32⟩
  | .hbm, ⟨61, _⟩ => ⟨S1x2048x1, .i1⟩
  | .hbm, ⟨62, _⟩ => ⟨S_, .f32⟩
  | .hbm, ⟨63, _⟩ => ⟨S_, .f32⟩
  | .hbm, ⟨64, _⟩ => ⟨S8x2048x2048, .i1⟩
  | .hbm, ⟨65, _⟩ => ⟨S8x2048x2048, .f32⟩
  | .hbm, ⟨66, _⟩ => ⟨S8x2048x2048, .f32⟩
  | .hbm, ⟨67, _⟩ => ⟨S8x128x2048, .f32⟩
  | .hbm, ⟨68, _⟩ => ⟨S2048x8x128, .f32⟩
  | .hbm, ⟨69, _⟩ => ⟨S2048x1024, .f32⟩
  | .hbm, ⟨70, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_v13 : Ref sig .tc := ⟨.hbm, 18, rfl⟩
abbrev main_v14 : Ref sig .tc := ⟨.hbm, 19, rfl⟩
abbrev main_c_0 : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_2 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_c_4 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_7 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩

abbrev nD : Nat := 1
abbrev τ : Topo := Topo.v7x

variable {F : FTy → Type} [FloatOps F]
-- ==== Proof.Chan.lean ====
/-
# The channels of the hierarchical all-reduce: devices, regions, and the order they are used in

The sixteen devices form a 4 × 4 arrangement: device `c` has plane position `c % 4` and ring position `c / 4`.
The kernel makes 36 remote copies per device, numbered here in program order: channel `n` is

* `n < 12` — reduce-scatter in the plane, step `n / 4`, half `n / 2 % 2`, direction `n % 2`;
* `12 ≤ n < 18` — reduce-scatter across planes, step `(n - 12) / 2`, direction `n % 2`;
* `18 ≤ n < 24` — all-gather across planes, step `(n - 18) / 2`, direction `n % 2`;
* `24 ≤ n < 36` — all-gather in the plane, step `(n - 24) / 4`, half `n / 2 % 2`, direction `n % 2`.

Direction 0 moves the left 512 columns forward round the ring, direction 1 the right 512 columns backward.
An element of the output, seen from device `c`, is classified by two numbers: `jA` — the in-plane step, half and
direction at which `c` gives its quarter away (12 and above: the quarter `c` keeps) —, and `jB`, the same for the
128-row piece of a kept quarter.
-/
module

public import proofs.«01_k».proof.Proof.Gen.KernelIdeal

@[expose] public section

noncomputable section

namespace Cert.RingProof

open Cert.KernelIdeal Cert.KernelIdeal.Gen
open Idealize.ShloMosaic

/-! ## The devices -/

set_option backward.proofsInPublic true in
def planeR (c : Dev nD) : Dev nD := ⟨c.val / 4 * 4 + (c.val + 1) % 4, by have := c.isLt; simp only [nD] at *; omega⟩
set_option backward.proofsInPublic true in
def planeL (c : Dev nD) : Dev nD := ⟨c.val / 4 * 4 + (c.val + 3) % 4, by have := c.isLt; simp only [nD] at *; omega⟩
set_option backward.proofsInPublic true in
def ringR (c : Dev nD) : Dev nD := ⟨(c.val + 4) % 16, Nat.mod_lt _ (by decide)⟩
set_option backward.proofsInPublic true in
def ringL (c : Dev nD) : Dev nD := ⟨(c.val + 12) % 16, Nat.mod_lt _ (by decide)⟩

/-- The device channel `n` of `c` writes to. -/
def peer (n : ℕ) (c : Dev nD) : Dev nD :=
  if n < 12 ∨ 24 ≤ n then (if n % 2 = 0 then planeR c else planeL c) else (if n % 2 = 0 then ringR c else ringL c)

/-- The device whose channel `n` writes to `c`. -/
def orig (n : ℕ) (c : Dev nD) : Dev nD :=
  if n < 12 ∨ 24 ≤ n then (if n % 2 = 0 then planeL c else planeR c) else (if n % 2 = 0 then ringL c else ringR c)

theorem planeL_planeR (c : Dev nD) : planeL (planeR c) = c := by revert c; decide
theorem planeR_planeL (c : Dev nD) : planeR (planeL c) = c := by revert c; decide
theorem ringL_ringR (c : Dev nD) : ringL (ringR c) = c := by revert c; decide
theorem ringR_ringL (c : Dev nD) : ringR (ringL c) = c := by revert c; decide

theorem orig_peer (n : ℕ) (c : Dev nD) : orig n (peer n c) = c := by
  unfold orig peer; split <;> split <;> simp only [planeL_planeR, planeR_planeL, ringL_ringR, ringR_ringL]
theorem peer_orig (n : ℕ) (c : Dev nD) : peer n (orig n c) = c := by
  unfold orig peer; split <;> split <;> simp only [planeL_planeR, planeR_planeL, ringL_ringR, ringR_ringL]

/-- Four steps round a ring come back. -/
theorem orig4 (n : ℕ) (c : Dev nD) : orig n (orig n (orig n c)) = peer n c := by
  unfold orig peer; split <;> split <;> (revert c; decide)

theorem peer_congr {n k : ℕ} (h : (n < 12 ∨ 24 ≤ n) ↔ (k < 12 ∨ 24 ≤ k)) (h2 : n % 2 = k % 2) : peer n = peer k := by
  funext c; unfold peer; rw [h2]; simp only [h]
theorem orig_congr {n k : ℕ} (h : (n < 12 ∨ 24 ≤ n) ↔ (k < 12 ∨ 24 ≤ k)) (h2 : n % 2 = k % 2) : orig n = orig k := by
  funext c; unfold orig; rw [h2]; simp only [h]

theorem dev1_eq (c : Dev nD) : (⟨k0_dev1 c, k0_dev1_lt c⟩ : Dev nD) = planeL c := Fin.ext (by revert c; decide +kernel)
theorem dev2_eq (c : Dev nD) : (⟨k0_dev2 c, k0_dev2_lt c⟩ : Dev nD) = planeR c := Fin.ext (by revert c; decide +kernel)
theorem dev3_eq (c : Dev nD) : (⟨k0_dev3 c, k0_dev3_lt c⟩ : Dev nD) = ringL c := Fin.ext (by revert c; decide +kernel)
theorem dev4_eq (c : Dev nD) : (⟨k0_dev4 c, k0_dev4_lt c⟩ : Dev nD) = ringR c := Fin.ext (by revert c; decide +kernel)

/-! ## The element classes -/

/-- In-plane class of the elements in rows `128 * b`, …, `128 * b + 127` and columns `512 * d`, …, `512 * d + 511`, seen
    from device number `c`. -/
def kA (c b d : ℕ) : ℕ :=
  if d = 0 then 4 * ((c % 4 + 4 - b / 4) % 4) + 2 * (b % 4 / 2) else 4 * ((b / 4 + 4 - c % 4) % 4) + 2 * (b % 4 / 2) + 1

/-- Their cross-plane class. -/
def kB (c b d : ℕ) : ℕ :=
  if d = 0 then 12 + 2 * ((c / 4 + 4 - b % 4) % 4) else 13 + 2 * ((b % 4 + 4 - c / 4) % 4)

/-- The classes of the element at `(row, col)`. -/
def jA (c row col : ℕ) : ℕ := kA c (row / 128) (col / 512)
def jB (c row col : ℕ) : ℕ := kB c (row / 128) (col / 512)

/-- Elements of classes `a`, `b` are what channel `n` sends. -/
def sent (n a b : ℕ) : Prop :=
  (n < 12 ∧ a = n) ∨ (12 ≤ n ∧ n < 20 ∧ 12 ≤ a ∧ b = n) ∨ (20 ≤ n ∧ n < 24 ∧ 12 ≤ a ∧ b + 8 = n)
    ∨ (24 ≤ n ∧ n < 28 ∧ a + 12 = n) ∨ (28 ≤ n ∧ n < 36 ∧ a + 28 = n)

/-- Elements of classes `a`, `b` are what channel `n` brings. -/
def rcvd (n a b : ℕ) : Prop :=
  (n < 12 ∧ a = n + 4) ∨ (12 ≤ n ∧ n < 18 ∧ 12 ≤ a ∧ b = n + 2) ∨ (18 ≤ n ∧ n < 24 ∧ 12 ≤ a ∧ b + 6 = n)
    ∨ (24 ≤ n ∧ n < 36 ∧ a + 24 = n)

instance (n a b : ℕ) : Decidable (sent n a b) := by unfold sent; infer_instance
instance (n a b : ℕ) : Decidable (rcvd n a b) := by unfold rcvd; infer_instance

/-- First row, in units of 128, of what channel `n` sends from device number `c`. -/
def rq (n c : ℕ) : ℕ :=
  if n < 12 then
    (if n % 2 = 0 then 4 * ((c % 4 + 4 - n / 4) % 4) else 4 * ((c % 4 + n / 4) % 4)) + 2 * (n / 2 % 2)
  else if n < 18 then
    (if n % 2 = 0 then 4 * ((c % 4 + 1) % 4) + (c / 4 + 4 - (n - 12) / 2) % 4
      else 4 * ((c % 4 + 3) % 4) + (c / 4 + (n - 12) / 2) % 4)
  else if n < 24 then
    (if n % 2 = 0 then 4 * ((c % 4 + 1) % 4) + (c / 4 + 5 - (n - 18) / 2) % 4
      else 4 * ((c % 4 + 3) % 4) + (c / 4 + 3 + (n - 18) / 2) % 4)
  else
    (if n % 2 = 0 then 4 * ((c % 4 + 5 - (n - 24) / 4) % 4) else 4 * ((c % 4 + 3 + (n - 24) / 4) % 4)) + 2 * (n / 2 % 2)

/-- Rows of a channel's piece, in units of 128. -/
def hq (n : ℕ) : ℕ := if n < 12 ∨ 24 ≤ n then 2 else 1

/-- First row, first column. -/
def ro (n c : ℕ) : ℕ := 128 * rq n c
def co (n : ℕ) : ℕ := 512 * (n % 2)

theorem jA_lt (c row col : ℕ) : jA c row col < 16 := by unfold jA kA; split <;> omega
theorem jB_ge (c row col : ℕ) : 12 ≤ jB c row col := by unfold jB kB; split <;> omega
theorem jB_lt (c row col : ℕ) : jB c row col < 20 := by unfold jB kB; split <;> omega

theorem co_lt (n : ℕ) : co n + 512 ≤ 1024 := by unfold co; omega
theorem ro_lt (n c : ℕ) : ro n c + 128 * hq n ≤ 2048 := by unfold ro rq hq; (repeat' split) <;> omega

theorem mem_sent_blocks : ∀ (n : Fin 36) (c b : Fin 16) (d : Fin 2),
    ((rq n c ≤ b.val ∧ b.val < rq n c + hq n) ∧ d.val = n.val % 2) ↔ sent n (kA c b d) (kB c b d) := by
  decide +kernel

theorem sent_orig_blocks : ∀ (n : Fin 36) (c b : Fin 16) (d : Fin 2),
    sent n (kA (orig n c).val b d) (kB (orig n c).val b d) ↔ rcvd n (kA c b d) (kB c b d) := by
  decide +kernel

/-- Channel `n`'s rectangle holds exactly the elements of its class. -/
theorem mem_sent {n c row col : ℕ} (hn : n < 36) (hc : c < 16) (hr : row < 2048) (hl : col < 1024) :
    ((ro n c ≤ row ∧ row < ro n c + 128 * hq n) ∧ (co n ≤ col ∧ col < co n + 512)) ↔ sent n (jA c row col) (jB c row col) := by
  have h := mem_sent_blocks ⟨n, hn⟩ ⟨c, hc⟩ ⟨row / 128, by omega⟩ ⟨col / 512, by omega⟩
  rw [jA, jB, ← h]
  simp only [ro, co]
  omega

/-- What a device receives on channel `n` is what the sender's channel `n` sends. -/
theorem sent_orig {n row col : ℕ} {c : Dev nD} (hn : n < 36) (hr : row < 2048) (hl : col < 1024) :
    sent n (jA (orig n c).val row col) (jB (orig n c).val row col) ↔ rcvd n (jA c.val row col) (jB c.val row col) :=
  sent_orig_blocks ⟨n, hn⟩ c ⟨row / 128, by omega⟩ ⟨col / 512, by omega⟩

end Cert.RingProof

end
-- ==== Proof.Vals.lean ====
/-
# What the output buffer holds, and which part of it a device owns, at every point of the run

`partSum` is a device's own product (its partial sum), `gA s` the running sums of the in-plane reduce-scatter, `gB s`
those of the cross-plane one, `total` the finished matrix. `cont k c` is the output buffer of device `c` after the
first `k` of its eighteen additions; `own a bs br` says which element classes a device holds after `a` sends, `bs`
waits for sends and `br` waits for receives.
-/
module

public import proofs.«01_k».proof.Proof.Chan
public import proofs.«01_k».proof.Proof.Gen.KernelIdeal.Skeleton
public import Idealize.ShloMosaic.Lib.ValueIdx

@[expose] public section

noncomputable section

namespace Cert.RingProof

open Cert.KernelIdeal Cert.KernelIdeal.Gen
open Idealize.ShloMosaic Idealize.ShloMosaic.ValueIdx

variable {F : FTy → Type} [FloatOps F]

/-! ## Ownership -/

/-- A device that has sent on channels below `a`, waited for its sends below `bs` and its receives below `br` holds the
    elements of classes `A`, `B`. -/
def own (a bs br A B : ℕ) : Prop :=
  (A < 12 ∧ (a ≤ A ∨ (A + 24 < br ∧ ¬ (bs ≤ A + 28 ∧ A + 28 < a))))
    ∨ (12 ≤ A ∧ (B < 18 → (a ≤ B ∨ (B + 6 < br ∧ ¬ (B < 16 ∧ bs ≤ B + 8 ∧ B + 8 < a)))) ∧ (18 ≤ B → ¬ (bs ≤ B ∧ B < a))
      ∧ ¬ (bs ≤ A + 12 ∧ A + 12 < a))

instance (a bs br A B : ℕ) : Decidable (own a bs br A B) := by unfold own; infer_instance

/-- A property of all classes. -/
abbrev Classes (P : ℕ → ℕ → Prop) : Prop := ∀ (A : Fin 16) (B : Fin 20), 12 ≤ B.val → P A.val B.val

theorem Classes.at {P : ℕ → ℕ → Prop} (h : Classes P) (c row col : ℕ) : P (jA c row col) (jB c row col) :=
  h ⟨_, jA_lt c row col⟩ ⟨_, jB_lt c row col⟩ (jB_ge c row col)

/-- The elements of device `c`'s output a device in that state holds. -/
def ownSet (a bs br : ℕ) (c : Dev nD) : Finset S2048x1024.Idx :=
  Finset.univ.filter fun i => own a bs br (jA c.val (i 0).val (i 1).val) (jB c.val (i 0).val (i 1).val)

/-- The elements channel `n` of device `c` sends. -/
def reg (n : ℕ) (c : Dev nD) : Finset S2048x1024.Idx :=
  Finset.univ.filter fun i => sent n (jA c.val (i 0).val (i 1).val) (jB c.val (i 0).val (i 1).val)

theorem mem_ownSet {a bs br : ℕ} {c : Dev nD} {i : S2048x1024.Idx} :
    i ∈ ownSet a bs br c ↔ own a bs br (jA c.val (i 0).val (i 1).val) (jB c.val (i 0).val (i 1).val) := by
  simp only [ownSet, Finset.mem_filter, Finset.mem_univ, true_and]

theorem mem_reg {n : ℕ} {c : Dev nD} {i : S2048x1024.Idx} :
    i ∈ reg n c ↔ sent n (jA c.val (i 0).val (i 1).val) (jB c.val (i 0).val (i 1).val) := by
  simp only [reg, Finset.mem_filter, Finset.mem_univ, true_and]

theorem mem_reg_orig {n : ℕ} (hn : n < 36) {c : Dev nD} {i : S2048x1024.Idx} :
    i ∈ reg n (orig n c) ↔ rcvd n (jA c.val (i 0).val (i 1).val) (jB c.val (i 0).val (i 1).val) := by
  rw [mem_reg]; exact sent_orig hn (i 0).isLt (i 1).isLt

/-- A unit rectangle of the output at channel `n`'s offsets is the channel's region. -/
theorem unit_set {n : ℕ} (hn : n < 36) {c : Dev nD} {off size : Fin 2 → ℕ} {inb : ∀ a, off a + size a ≤ S2048x1024.size a}
    (hoff : off = ![ro n c.val, co n]) (hsize : size = ![128 * hq n, 512]) :
    (Rect.unit (s := S2048x1024) off size inb).set = reg n c := by
  subst hoff hsize
  ext i
  rw [Rect.mem_set_unit, mem_reg, ← mem_sent hn c.isLt (i 0).isLt (i 1).isLt]
  exact Fin.forall_fin_two

/-- `sent`'s region of `k` on one device is `n`'s on another, if so on classes. -/
theorem reg_succ {n k : ℕ} (hn : n < 36) (c : Dev nD) (h : Classes fun A B => sent k A B ↔ rcvd n A B) :
    reg k (peer n c) = reg n c := by
  ext i
  have h1 := mem_reg_orig hn (c := peer n c) (i := i)
  rw [orig_peer] at h1
  rw [h1, mem_reg]
  exact h.at _ _ _

theorem ownSet_univ {a bs br : ℕ} (c : Dev nD) (h : Classes fun A B => own a bs br A B) : ownSet a bs br c = Finset.univ := by
  ext i; simp only [mem_ownSet, Finset.mem_univ, iff_true]; exact h.at _ _ _

/-- A send takes the channel's region out of what the device holds. -/
theorem ownSet_send {n bs br : ℕ} (c : Dev nD)
    (h : Classes fun A B => (own (n + 1) bs br A B ↔ own n bs br A B ∧ ¬ sent n A B) ∧ (sent n A B → own n bs br A B)) :
    reg n c ⊆ ownSet n bs br c ∧ ownSet n bs br c \ reg n c = ownSet (n + 1) bs br c := by
  constructor
  · intro i hi
    rw [mem_ownSet]; exact (h.at _ _ _).2 (mem_reg.mp hi)
  · ext i
    rw [Finset.mem_sdiff, mem_ownSet, mem_ownSet, mem_reg]; exact (h.at _ _ _).1.symm

theorem ownSet_same {a bs br a' bs' br' : ℕ} (c : Dev nD) (h : Classes fun A B => own a bs br A B ↔ own a' bs' br' A B) :
    ownSet a bs br c = ownSet a' bs' br' c := by
  ext i; rw [mem_ownSet, mem_ownSet]; exact h.at _ _ _

/-- A finished send gives its region back. -/
theorem ownSet_back {n a br : ℕ} (c : Dev nD)
    (h : Classes fun A B => (own a (n + 1) br A B ↔ own a n br A B ∨ sent n A B) ∧ ¬ (own a n br A B ∧ sent n A B)) :
    Disjoint (ownSet a n br c) (reg n c) ∧ ownSet a n br c ∪ reg n c = ownSet a (n + 1) br c := by
  constructor
  · exact Finset.disjoint_left.mpr fun i h1 h2 => (h.at _ _ _).2 ⟨mem_ownSet.mp h1, mem_reg.mp h2⟩
  · ext i
    rw [Finset.mem_union, mem_ownSet, mem_ownSet, mem_reg]; exact (h.at _ _ _).1.symm

/-- A landing in the output adds its region. -/
theorem ownSet_land {n a bs : ℕ} (hn : n < 36) (c : Dev nD)
    (h : Classes fun A B => (own a bs (n + 1) A B ↔ own a bs n A B ∨ rcvd n A B) ∧ ¬ (own a bs n A B ∧ rcvd n A B)) :
    Disjoint (ownSet a bs n c) (reg n (orig n c)) ∧ ownSet a bs n c ∪ reg n (orig n c) = ownSet a bs (n + 1) c := by
  constructor
  · exact Finset.disjoint_left.mpr fun i h1 h2 => (h.at _ _ _).2 ⟨mem_ownSet.mp h1, (mem_reg_orig hn).mp h2⟩
  · ext i
    rw [Finset.mem_union, mem_ownSet, mem_ownSet, mem_reg_orig hn]; exact (h.at _ _ _).1.symm

/-- A received region the device holds. -/
theorem reg_subset {n a bs br : ℕ} (hn : n < 36) (c : Dev nD) (h : Classes fun A B => rcvd n A B → own a bs br A B) :
    reg n (orig n c) ⊆ ownSet a bs br c := by
  intro i hi
  rw [mem_ownSet]; exact h.at _ _ _ ((mem_reg_orig hn).mp hi)

/-! ## Contents -/

/-- The element of the output in row `r` and column `l`. -/
def at2 (r l : ℕ) : S2048x1024.Idx := ix2 (Fin.ofNat 2048 r) (Fin.ofNat 1024 l)

theorem at2_self (i : S2048x1024.Idx) : at2 (i 0).val (i 1).val = i := by
  unfold at2
  refine (funext fun a => ?_)
  match a with
  | ⟨0, _⟩ => exact Fin.ext (Nat.mod_eq_of_lt (i 0).isLt)
  | ⟨1, _⟩ => exact Fin.ext (Nat.mod_eq_of_lt (i 1).isLt)

variable (ctx : Dev nD → S2048x1024.Idx → Elt F .bf16) (wo : Dev nD → S1024x1024.Idx → Elt F .bf16)

/-- Rows `256 * b`, … of device `c`'s contexts. -/
def rows (c : Dev nD) (b : ℕ) : S256x1024.Idx → Elt F .bf16 := fun x => ctx c (at2 (256 * b + (x 0).val) (x 1).val)

/-- Device `c`'s own product, rounded to bf16: computed in blocks of 256 rows. -/
def partSum (c : Dev nD) : S2048x1024.Idx → Elt F .bf16 := fun i =>
  k0_pay1 (rows ctx c ((i 0).val / 256)) (wo c) (ix2 (Fin.ofNat 256 ((i 0).val % 256)) (Fin.ofNat 1024 (i 1).val))

/-- The running sum of the in-plane reduce-scatter after `s` steps. -/
def gA : ℕ → Dev nD → S2048x1024.Idx → Elt F .bf16
  | 0, c => partSum ctx wo c
  | s + 1, c => fun i => FloatOps.addf (φ := .bf16) (partSum ctx wo c i) (gA s (orig ((i 1).val / 512) c) i)

/-- The running sum of the cross-plane reduce-scatter after `s` steps. -/
def gB : ℕ → Dev nD → S2048x1024.Idx → Elt F .bf16
  | 0, c => gA ctx wo 3 c
  | s + 1, c => fun i => FloatOps.addf (φ := .bf16) (gA ctx wo 3 c i) (gB s (orig (12 + (i 1).val / 512) c) i)

set_option backward.proofsInPublic true in
/-- The device at which the sums of the elements in row block `b`, column half `d` are finished. -/
def holder (b d : ℕ) : Dev nD :=
  if d = 0 then ⟨4 * ((b % 4 + 3) % 4) + (b / 4 + 3) % 4, by simp only [nD]; omega⟩
  else ⟨4 * ((b % 4 + 1) % 4) + (b / 4 + 1) % 4, by simp only [nD]; omega⟩

theorem holder_blocks : ∀ (c b : Fin 16) (d : Fin 2), 12 ≤ kA c b d → 18 ≤ kB c b d → c = holder b d := by decide +kernel

theorem holder_eq (c : Dev nD) (i : S2048x1024.Idx) (hA : 12 ≤ jA c.val (i 0).val (i 1).val) (hB : 18 ≤ jB c.val (i 0).val (i 1).val) :
    holder ((i 0).val / 128) ((i 1).val / 512) = c := by
  have h0 : (i 0).val < 2048 := (i 0).isLt
  have h1 : (i 1).val < 1024 := (i 1).isLt
  exact (holder_blocks c ⟨(i 0).val / 128, by omega⟩ ⟨(i 1).val / 512, by omega⟩ hA hB).symm

/-- The finished matrix. -/
def total : S2048x1024.Idx → Elt F .bf16 := fun i => gB ctx wo 3 (holder ((i 0).val / 128) ((i 1).val / 512)) i

/-- What channel `n` of device `c` sends, on the elements of its region. -/
def sentVal (n : ℕ) (c : Dev nD) : S2048x1024.Idx → Elt F .bf16 :=
  if n < 12 then gA ctx wo (n / 4) c else if n < 18 then gB ctx wo ((n - 12) / 2) c else total ctx wo

/-- Device `c`'s output after `k` additions, on the elements it holds. -/
def cont (k : ℕ) (c : Dev nD) : S2048x1024.Idx → Elt F .bf16 := fun i =>
  if k < 12 then
    (if jA c.val (i 0).val (i 1).val < k + 4 then gA ctx wo (jA c.val (i 0).val (i 1).val / 4) c i else partSum ctx wo c i)
  else if jA c.val (i 0).val (i 1).val < 12 then total ctx wo i
  else if k < 18 then
    (if jB c.val (i 0).val (i 1).val < k + 2 then gB ctx wo ((jB c.val (i 0).val (i 1).val - 12) / 2) c i else gA ctx wo 3 c i)
  else total ctx wo i

theorem cont_zero (c : Dev nD) : cont ctx wo 0 c = partSum ctx wo c := by
  funext i
  unfold cont
  rw [if_pos (by decide)]
  split
  · rename_i h
    rw [show jA c.val (i 0).val (i 1).val / 4 = 0 by omega, gA]
  · rfl

theorem cont_last (c : Dev nD) : cont ctx wo 18 c = total ctx wo := by
  funext i
  unfold cont
  rw [if_neg (show ¬ 18 < 12 by decide), if_neg (show ¬ 18 < 18 by decide)]
  split <;> rfl

/-- `k` additions are enough for channel `n` to send its final value. -/
def Ready (n k : ℕ) : Prop := (n < 12 ∧ k < 12 ∧ n < k + 4) ∨ (12 ≤ n ∧ n < 18 ∧ 12 ≤ k ∧ k < 18 ∧ n < k + 2) ∨ (18 ≤ n ∧ k = 18)

instance (n k : ℕ) : Decidable (Ready n k) := by unfold Ready; infer_instance

theorem cont_sent {n k : ℕ} (h : Ready n k) {c : Dev nD} {i : S2048x1024.Idx} (hi : i ∈ reg n c) :
    cont ctx wo k c i = sentVal ctx wo n c i := by
  rw [mem_reg] at hi
  rcases h with ⟨h1, h2, h3⟩ | ⟨h1, h2, h3, h4, h5⟩ | ⟨h1, h2⟩
  · have hA : jA c.val (i 0).val (i 1).val = n := by unfold sent at hi; omega
    unfold cont sentVal
    rw [if_pos h2, hA, if_pos h3, if_pos h1]
  · have hA : 12 ≤ jA c.val (i 0).val (i 1).val ∧ jB c.val (i 0).val (i 1).val = n := by unfold sent at hi; omega
    unfold cont sentVal
    rw [if_neg (by omega), if_neg (by omega), if_pos h4, hA.2, if_pos h5, if_neg (by omega), if_pos h2]
  · subst h2
    rw [cont_last]
    unfold sentVal
    rw [if_neg (by omega), if_neg (by omega)]

theorem jA_parity (c row col : ℕ) (h : col < 1024) : jA c row col % 2 = col / 512 := by unfold jA kA; split <;> omega
theorem jB_parity (c row col : ℕ) (h : col < 1024) : jB c row col % 2 = col / 512 := by unfold jB kB; split <;> omega

/-- Addition `n` on the elements of what channel `n` brought. -/
theorem cont_add {n : ℕ} (hn : n < 18) {c : Dev nD} {i : S2048x1024.Idx} (hi : i ∈ reg n (orig n c)) :
    cont ctx wo (n + 1) c i = FloatOps.addf (φ := .bf16) (cont ctx wo n c i) (sentVal ctx wo n (orig n c) i) := by
  rw [mem_reg_orig (by omega)] at hi
  have hpA := jA_parity c.val (i 0).val (i 1).val (i 1).isLt
  have hpB := jB_parity c.val (i 0).val (i 1).val (i 1).isLt
  by_cases h : n < 12
  · have hA : jA c.val (i 0).val (i 1).val = n + 4 := by unfold rcvd at hi; omega
    rw [hA] at hpA
    have ho : orig ((i 1).val / 512) c = orig n c := congrFun (orig_congr (by omega) (by omega)) c
    have h0 : cont ctx wo n c i = partSum ctx wo c i := by
      unfold cont; rw [if_pos h, hA, if_neg (by omega)]
    have hs : sentVal ctx wo n (orig n c) = gA ctx wo (n / 4) (orig n c) := by unfold sentVal; rw [if_pos h]
    have h1 : cont ctx wo (n + 1) c i = gA ctx wo (n / 4 + 1) c i := by
      unfold cont
      by_cases h' : n + 1 < 12
      · rw [if_pos h', hA, if_pos (by omega), show (n + 4) / 4 = n / 4 + 1 by omega]
      · have : n = 11 := by omega
        subst this
        rw [if_neg h', if_neg (by omega), if_pos (by decide)]
        split
        · rename_i hB
          have := jB_ge c.val (i 0).val (i 1).val
          rw [show (jB c.val (i 0).val (i 1).val - 12) / 2 = 0 by omega]
          rfl
        · rfl
    rw [h1, h0, hs, gA]; dsimp only; rw [ho]
  · have hA : 12 ≤ jA c.val (i 0).val (i 1).val ∧ jB c.val (i 0).val (i 1).val = n + 2 := by unfold rcvd at hi; omega
    rw [hA.2] at hpB
    have ho : orig (12 + (i 1).val / 512) c = orig n c :=
      congrFun (orig_congr (by have : (i 1).val < 1024 := (i 1).isLt; omega) (by omega)) c
    have h0 : cont ctx wo n c i = gA ctx wo 3 c i := by
      unfold cont; rw [if_neg h, if_neg (by omega), if_pos hn, hA.2, if_neg (by omega)]
    have hs : sentVal ctx wo n (orig n c) = gB ctx wo ((n - 12) / 2) (orig n c) := by unfold sentVal; rw [if_neg h, if_pos hn]
    have h1 : cont ctx wo (n + 1) c i = gB ctx wo ((n - 12) / 2 + 1) c i := by
      unfold cont
      rw [if_neg (by omega), if_neg (by omega)]
      by_cases h' : n + 1 < 18
      · rw [if_pos h', hA.2, if_pos (by omega), show (n + 2 - 12) / 2 = (n - 12) / 2 + 1 by omega]
      · have : n = 17 := by omega
        subst this
        rw [if_neg h']
        unfold total
        rw [holder_eq c i hA.1 (by omega)]
    rw [h1, h0, hs, gB]; dsimp only; rw [ho]

/-- Addition `n` leaves the other elements the device holds alone. -/
theorem cont_stay {n : ℕ} (hn : n < 18) {c : Dev nD} {i : S2048x1024.Idx} (hi : i ∉ reg n (orig n c))
    (h11 : n = 11 → 12 ≤ jA c.val (i 0).val (i 1).val)
    (h17 : n = 17 → 12 ≤ jA c.val (i 0).val (i 1).val → 18 ≤ jB c.val (i 0).val (i 1).val) :
    cont ctx wo (n + 1) c i = cont ctx wo n c i := by
  rw [mem_reg_orig (by omega)] at hi
  have hA := jA_lt c.val (i 0).val (i 1).val
  have hB := jB_lt c.val (i 0).val (i 1).val
  have hB' := jB_ge c.val (i 0).val (i 1).val
  unfold rcvd at hi
  unfold cont
  by_cases h : n + 1 < 12
  · rw [if_pos h, if_pos (show n < 12 by omega)]
    by_cases h' : jA c.val (i 0).val (i 1).val < n + 4
    · rw [if_pos h', if_pos (by omega)]
    · rw [if_neg h', if_neg (by omega)]
  · rw [if_neg h]
    by_cases h2 : n = 11
    · subst h2
      have := h11 rfl
      rw [if_neg (show ¬ jA c.val (i 0).val (i 1).val < 12 by omega), if_pos (show 11 + 1 < 18 by decide),
        if_pos (show 11 < 12 by decide), if_pos (show jA c.val (i 0).val (i 1).val < 11 + 4 by omega),
        show jA c.val (i 0).val (i 1).val / 4 = 3 by omega]
      split
      · rw [show (jB c.val (i 0).val (i 1).val - 12) / 2 = 0 by omega]; rfl
      · rfl
    · rw [if_neg (show ¬ n < 12 by omega)]
      by_cases h3 : jA c.val (i 0).val (i 1).val < 12
      · rw [if_pos h3, if_pos h3]
      · rw [if_neg h3, if_neg h3, if_pos hn]
        by_cases h4 : n + 1 < 18
        · rw [if_pos h4]
          by_cases h' : jB c.val (i 0).val (i 1).val < n + 2
          · rw [if_pos h', if_pos (by omega)]
          · rw [if_neg h', if_neg (by omega)]
        · have : n = 17 := by omega
          subst this
          have h5 := h17 rfl (by omega)
          rw [if_neg h4, if_pos (by omega), show (jB c.val (i 0).val (i 1).val - 12) / 2 = 3 by omega]
          unfold total
          rw [holder_eq c i (by omega) h5]

/-- Element `(x, y)` of what channel `n` leaves in device `c`'s staging slot. -/
def landVal (n : ℕ) (c : Dev nD) (x y : ℕ) : Elt F .bf16 :=
  sentVal ctx wo n (orig n c) (at2 (ro n (orig n c).val + x) (co n + y))

/-- The in-plane staging buffer of direction `d` on device `c` once its slots have landed, slot by slot; -/
def stagA (d : ℕ) (c : Dev nD) : S6x256x512.Idx → Elt F .bf16 := fun i => landVal ctx wo (2 * (i 0).val + d) c (i 1).val (i 2).val
/-- the cross-plane one. -/
def stagB (d : ℕ) (c : Dev nD) : S3x128x512.Idx → Elt F .bf16 := fun i => landVal ctx wo (12 + 2 * (i 0).val + d) c (i 1).val (i 2).val

end Cert.RingProof

end
-- ==== Proof.Sched.lean ====
/-
# The protocol: what every semaphore is for

Each device has one barrier cell, and for each of the 36 channels a send cell and a receive cell; every cell is used for
one round.

* barrier cell of `c`: four signals of one unit, one from each neighbour; the signal from the neighbour that `c` will write
  to on group `d` of channels hands over that neighbour's staging slots of the group;
* send cell `n` of `c`: the transfer's credit; in the all-gather it gives the source region back, finished;
* receive cell `n` of `c`: the transfer's credit; in the reduce-scatter it hands over the staging slot holding the
  sender's running sum, with the sender's output region to write into later and the regions handed on to the sender
  before; in the all-gather it hands over `c`'s own output region, finished, and the regions still to be written.
-/
module

public import proofs.«01_k».proof.Proof.Vals
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.RingProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (four duty names) -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## The cells -/

abbrev barS : Sem sig := (SemArray.scalar (sig.barrier 0 rfl) : Sems sig S_).sem

set_option backward.proofsInPublic true in
/-- Channel `n`'s send semaphore, -/
def sendSem (n : ℕ) : DmaSem sig :=
  ⟨(3 + 24 * (n / 12) + 12 * (n % 2) + n % 12 / 2) % 75, Nat.mod_lt _ (by decide)⟩
set_option backward.proofsInPublic true in
/-- its receive semaphore. -/
def recvSem (n : ℕ) : DmaSem sig :=
  ⟨(9 + 24 * (n / 12) + 12 * (n % 2) + n % 12 / 2) % 75, Nat.mod_lt _ (by decide)⟩

/-- The channel a semaphore belongs to, -/
def chanOf (s : ℕ) : ℕ := 12 * ((s - 3) / 24) + 2 * ((s - 3) % 6) + (s - 3) % 24 / 12
/-- and whether it is a receive semaphore. -/
def isRecv (s : ℕ) : Bool := decide ((s - 3) % 12 / 6 = 1)

theorem chanOf_send {n : ℕ} (hn : n < 36) : chanOf (sendSem n).val = n :=
  (by decide +kernel : ∀ n : Fin 36, chanOf (sendSem n.val).val = n.val) ⟨n, hn⟩
theorem chanOf_recv {n : ℕ} (hn : n < 36) : chanOf (recvSem n).val = n :=
  (by decide +kernel : ∀ n : Fin 36, chanOf (recvSem n.val).val = n.val) ⟨n, hn⟩
theorem isRecv_send {n : ℕ} (hn : n < 36) : isRecv (sendSem n).val = false :=
  (by decide +kernel : ∀ n : Fin 36, isRecv (sendSem n.val).val = false) ⟨n, hn⟩
theorem isRecv_recv {n : ℕ} (hn : n < 36) : isRecv (recvSem n).val = true :=
  (by decide +kernel : ∀ n : Fin 36, isRecv (recvSem n.val).val = true) ⟨n, hn⟩

abbrev barCell (c : Dev nD) : GSem nD τ sig := ((c : Thread nD τ), .reg barS)
abbrev sendCell (n : ℕ) (c : Dev nD) : GSem nD τ sig := ((c : Thread nD τ), .dma (sendSem n))
abbrev recvCell (n : ℕ) (c : Dev nD) : GSem nD τ sig := ((c : Thread nD τ), .dma (recvSem n))

/-- The credit of a transfer of 256 rows, -/
def NA : ℕ := sig.dmaCredit .tc (Kind.tc.table .vmem) (Memref.whole cc0_stg2_0).view.buf S256x512 .bf16
/-- of one of 128 rows, -/
def NB : ℕ := sig.dmaCredit .tc (Kind.tc.table .vmem) (Memref.whole cc0_stg2_0).view.buf S128x512 .bf16
/-- of channel `n`'s. -/
def amt (n : ℕ) : ℕ := if n < 12 ∨ 24 ≤ n then NA else NB

theorem amt_pos (n : ℕ) : 0 < amt n := by unfold amt; split <;> decide

/-! ## What the cells hand over -/

/-- The elements `I` of device `c`'s output at contents `f`, -/
def outPts (c : Dev nD) (I : Finset S2048x1024.Idx) (f : S2048x1024.Idx → Elt F .bf16) : sProp 𝕄 :=
  ((c : Thread nD τ).loc cc0_stg2_0) ↦[I]{fullShare} f
/-- at some contents. -/
def outAny (c : Dev nD) (I : Finset S2048x1024.Idx) : sProp 𝕄 := iprop(∃ f, outPts (F := F) c I f)

/-- Slot `j` of an in-plane staging buffer, of a cross-plane one. -/
def slotA (j : ℕ) : Finset S6x256x512.Idx := Finset.univ.filter fun i => (i 0).val = j
def slotB (j : ℕ) : Finset S3x128x512.Idx := Finset.univ.filter fun i => (i 0).val = j

/-- Channel `n`'s staging slot on device `c`, at some contents, -/
def slotAny (n : ℕ) (c : Dev nD) : sProp 𝕄 :=
  if n < 12 then
    (if n % 2 = 0 then iprop(∃ f : S6x256x512.Idx → Elt F .bf16, ((c : Thread nD τ).loc cc0_scratch0) ↦[slotA (n / 2)]{fullShare} f)
      else iprop(∃ f : S6x256x512.Idx → Elt F .bf16, ((c : Thread nD τ).loc cc0_scratch1) ↦[slotA (n / 2)]{fullShare} f))
  else if n < 18 then
    (if n % 2 = 0 then iprop(∃ f : S3x128x512.Idx → Elt F .bf16, ((c : Thread nD τ).loc cc0_scratch2) ↦[slotB ((n - 12) / 2)]{fullShare} f)
      else iprop(∃ f : S3x128x512.Idx → Elt F .bf16, ((c : Thread nD τ).loc cc0_scratch3) ↦[slotB ((n - 12) / 2)]{fullShare} f))
  else iprop(emp)

variable (ctx : Dev nD → S2048x1024.Idx → Elt F .bf16) (wo : Dev nD → S1024x1024.Idx → Elt F .bf16)

/-- and holding what the channel brings. -/
def slotFull (n : ℕ) (c : Dev nD) : sProp 𝕄 :=
  if n < 12 then
    (if n % 2 = 0 then ((c : Thread nD τ).loc cc0_scratch0) ↦[slotA (n / 2)]{fullShare} (stagA ctx wo 0 c)
      else ((c : Thread nD τ).loc cc0_scratch1) ↦[slotA (n / 2)]{fullShare} (stagA ctx wo 1 c))
  else if n < 18 then
    (if n % 2 = 0 then ((c : Thread nD τ).loc cc0_scratch2) ↦[slotB ((n - 12) / 2)]{fullShare} (stagB ctx wo 0 c)
      else ((c : Thread nD τ).loc cc0_scratch3) ↦[slotB ((n - 12) / 2)]{fullShare} (stagB ctx wo 1 c))
  else iprop(emp)

/-- The elements `I` of the outputs of the next `k` devices after `c` in the direction `o`. -/
def chain (o : Dev nD → Dev nD) (I : Finset S2048x1024.Idx) : ℕ → Dev nD → sProp 𝕄
  | 0, _ => iprop(emp)
  | k + 1, c => iprop(outAny (F := F) (o c) I ∗ chain o I k (o c))

/-- The regions a device holds, besides its own, when it sends on channel `n`: those of the devices that its sum has come
    through, or those that the finished piece is still to go to. -/
def pack (n : ℕ) (c : Dev nD) : sProp 𝕄 :=
  if n < 12 then chain (F := F) (orig n) (reg n c) (n / 4) c
  else if n < 18 then chain (F := F) (orig n) (reg n c) ((n - 12) / 2) c
  else if n < 24 then chain (F := F) (peer n) (reg n c) (3 - (n - 18) / 2) c
  else chain (F := F) (peer n) (reg n c) (3 - (n - 24) / 4) c

/-- The channel on which a device sends on what it received on channel `n` (36: none). -/
def succ (n : ℕ) : ℕ := if n < 8 then n + 4 else if n < 12 then n + 16 else if n < 22 then n + 2 else if n < 24 then 36 else n + 4

/-- What is left of the sender's regions when channel `n`'s finished piece has landed on `c`. -/
def tailPack (n : ℕ) (c : Dev nD) : sProp 𝕄 :=
  chain (F := F) (peer n) (reg n (orig n c)) (if n < 24 then 2 - (n - 18) / 2 else 2 - (n - 24) / 4) c

/-- Channel `n`'s receive cell on `c`, its send cell. -/
def recvPay (n : ℕ) (c : Dev nD) : sProp 𝕄 :=
  if n < 18 then iprop(slotFull ctx wo n c ∗ pack (F := F) (succ n) c)
  else iprop(outPts c (reg n (orig n c)) (total ctx wo) ∗ tailPack (F := F) n c)
def sendPay (n : ℕ) (c : Dev nD) : sProp 𝕄 :=
  if n < 18 then iprop(emp) else outPts c (reg n c) (total ctx wo)

/-- The channels of group `d`: in-plane forward and backward, cross-plane forward and backward. -/
def grp (d : Fin 4) : Finset ℕ := (Finset.range 18).filter fun n => 2 * (n / 12) + n % 2 = d.val

/-- The barrier cell of `c`, duty `d`: the slots of group `d` on the device that `c` writes to. -/
def barPay (c : Dev nD) (d : Fin 4) : sProp 𝕄 := bigSep (grp d) fun n => slotAny (F := F) n (peer n c)

omit [FloatOps F] in
instance outPts_storable (c : Dev nD) (I) (f : S2048x1024.Idx → Elt F .bf16) : BI.Storable (upEmb : UEmb _ 𝕄) (outPts c I f) := by
  unfold outPts; infer_instance
omit [FloatOps F] in
instance outAny_storable (c : Dev nD) (I) : BI.Storable (upEmb : UEmb _ 𝕄) (outAny (F := F) c I) := by unfold outAny; infer_instance
omit [FloatOps F] in
instance chain_storable (o : Dev nD → Dev nD) (I) (k : ℕ) (c : Dev nD) : BI.Storable (upEmb : UEmb _ 𝕄) (chain (F := F) o I k c) := by
  induction k generalizing c with
  | zero => unfold chain; infer_instance
  | succ k ih => unfold chain; haveI := ih (o c); infer_instance
omit [FloatOps F] in
instance slotAny_storable (n : ℕ) (c : Dev nD) : BI.Storable (upEmb : UEmb _ 𝕄) (slotAny (F := F) n c) := by
  unfold slotAny; (repeat' split) <;> infer_instance
instance slotFull_storable (n : ℕ) (c : Dev nD) : BI.Storable (upEmb : UEmb _ 𝕄) (slotFull ctx wo n c) := by
  unfold slotFull; (repeat' split) <;> infer_instance
omit [FloatOps F] in
instance pack_storable (n : ℕ) (c : Dev nD) : BI.Storable (upEmb : UEmb _ 𝕄) (pack (F := F) n c) := by
  unfold pack; (repeat' split) <;> infer_instance
omit [FloatOps F] in
instance tailPack_storable (n : ℕ) (c : Dev nD) : BI.Storable (upEmb : UEmb _ 𝕄) (tailPack (F := F) n c) := by
  unfold tailPack; infer_instance
instance recvPay_storable (n : ℕ) (c : Dev nD) : BI.Storable (upEmb : UEmb _ 𝕄) (recvPay ctx wo n c) := by
  unfold recvPay; split <;> infer_instance
instance sendPay_storable (n : ℕ) (c : Dev nD) : BI.Storable (upEmb : UEmb _ 𝕄) (sendPay ctx wo n c) := by
  unfold sendPay; split <;> infer_instance
omit [FloatOps F] in
instance barPay_storable (c : Dev nD) (d : Fin 4) : BI.Storable (upEmb : UEmb _ 𝕄) (barPay (F := F) c d) := by
  unfold barPay; infer_instance

/-! ## The schedule -/

/-- One round of every TensorCore cell: four duties of one unit on a barrier cell, one of the transfer's credit on a send
    or receive cell. -/
def Rd : Rounds.Schedule (GSem nD τ sig) (Fin 4) 𝕄 where
  duties g r := if r = 0 ∧ g.1.2 = .tc then (match g.2 with | .reg _ => Finset.univ | .dma _ => {0}) else ∅
  unitless _ := False
  amount g _ _ := match g.2 with | .reg _ => 1 | .dma s => amt (chanOf s.val)
  payload g _ d := match g.2 with
    | .reg _ => barPay g.1.1 d
    | .dma s => if isRecv s.val = true then recvPay ctx wo (chanOf s.val) g.1.1 else sendPay ctx wo (chanOf s.val) g.1.1
  amount_pos g _ _ _ := by
    cases g.2 with
    | reg _ => exact Nat.one_pos
    | dma s => exact amt_pos _

instance Rd_payload_storable (g : GSem nD τ sig) (r : ℕ) (d : Fin 4) :
    BI.Storable (upEmb : UEmb _ 𝕄) ((Rd ctx wo).payload g r d) := by
  obtain ⟨⟨c, p⟩, sm⟩ := g
  cases sm with
  | reg s => exact barPay_storable c d
  | dma s =>
    show BI.Storable upEmb (if isRecv s.val = true then recvPay ctx wo (chanOf s.val) c else sendPay ctx wo (chanOf s.val) c)
    split <;> infer_instance

theorem duties_bar (c : Dev nD) : (Rd ctx wo).duties (barCell c) 0 = Finset.univ := rfl
theorem duties_dma (c : Dev nD) (s : DmaSem sig) : (Rd ctx wo).duties ((c : Thread nD τ), .dma s) 0 = {0} := rfl
theorem duties_later (g : GSem nD τ sig) : ∀ r, 1 ≤ r → (Rd ctx wo).duties g r = ∅ :=
  fun r hr => if_neg fun h => by omega

theorem amount_bar (c : Dev nD) (d : Fin 4) : (Rd ctx wo).amount (barCell c) 0 d = 1 := rfl
theorem amount_send {n : ℕ} (hn : n < 36) (c : Dev nD) (d : Fin 4) : (Rd ctx wo).amount (sendCell n c) 0 d = amt n :=
  congrArg amt (chanOf_send hn)
theorem amount_recv {n : ℕ} (hn : n < 36) (c : Dev nD) (d : Fin 4) : (Rd ctx wo).amount (recvCell n c) 0 d = amt n :=
  congrArg amt (chanOf_recv hn)

theorem expect_bar (c : Dev nD) : (Rd ctx wo).expect (barCell c) 0 = 4 := by
  unfold Schedule.expect Schedule.amountOf
  rw [duties_bar, Finset.sum_congr rfl fun d _ => amount_bar ctx wo c d, Finset.sum_const, Finset.card_univ, Fintype.card_fin, smul_eq_mul]
theorem expect_send {n : ℕ} (hn : n < 36) (c : Dev nD) : (Rd ctx wo).expect (sendCell n c) 0 = amt n := by
  unfold Schedule.expect Schedule.amountOf; rw [duties_dma, Finset.sum_singleton, amount_send ctx wo hn]
theorem expect_recv {n : ℕ} (hn : n < 36) (c : Dev nD) : (Rd ctx wo).expect (recvCell n c) 0 = amt n := by
  unfold Schedule.expect Schedule.amountOf; rw [duties_dma, Finset.sum_singleton, amount_recv ctx wo hn]

theorem payload_bar (c : Dev nD) (d : Fin 4) : (Rd ctx wo).payload (barCell c) 0 d = barPay c d := rfl
theorem payload_send {n : ℕ} (hn : n < 36) (c : Dev nD) (d : Fin 4) : (Rd ctx wo).payload (sendCell n c) 0 d = sendPay ctx wo n c := by
  show (if isRecv (sendSem n).val = true then recvPay ctx wo (chanOf (sendSem n).val) c else sendPay ctx wo (chanOf (sendSem n).val) c) = _
  rw [isRecv_send hn, chanOf_send hn]; exact if_neg Bool.false_ne_true
theorem payload_recv {n : ℕ} (hn : n < 36) (c : Dev nD) (d : Fin 4) : (Rd ctx wo).payload (recvCell n c) 0 d = recvPay ctx wo n c := by
  show (if isRecv (recvSem n).val = true then recvPay ctx wo (chanOf (recvSem n).val) c else sendPay ctx wo (chanOf (recvSem n).val) c) = _
  rw [isRecv_recv hn, chanOf_recv hn]; exact if_pos rfl

theorem rest_bar (c : Dev nD) :
    bigSep ((Rd ctx wo).duties (barCell c) 0 \ ∅) (fun d => (Rd ctx wo).payload (barCell c) 0 d) = bigSep Finset.univ fun d => barPay (F := F) c d := by
  rw [Finset.sdiff_empty, duties_bar]; rfl
theorem rest_send {n : ℕ} (hn : n < 36) (c : Dev nD) :
    bigSep ((Rd ctx wo).duties (sendCell n c) 0 \ ∅) (fun d => (Rd ctx wo).payload (sendCell n c) 0 d) = sendPay ctx wo n c := by
  rw [Finset.sdiff_empty, duties_dma, bigSep_singleton, payload_send ctx wo hn]
theorem rest_recv {n : ℕ} (hn : n < 36) (c : Dev nD) :
    bigSep ((Rd ctx wo).duties (recvCell n c) 0 \ ∅) (fun d => (Rd ctx wo).payload (recvCell n c) 0 d) = recvPay ctx wo n c := by
  rw [Finset.sdiff_empty, duties_dma, bigSep_singleton, payload_recv ctx wo hn]

/-! ## What a device owes; the levels -/

/-- After the sends on the channels below `a`: the receive cells of the rest. -/
def owed (a : ℕ) (c : Dev nD) : CellTallies nD τ sig Unit := ∑ n ∈ Finset.Ico a 36, tallyAt (recvCell n (peer n c)) () (amt n)

theorem owed_succ {n : ℕ} (hn : n < 36) (c : Dev nD) : owed n c = owed (n + 1) c + tallyAt (recvCell n (peer n c)) () (amt n) := by
  unfold owed; rw [Finset.sum_eq_sum_Ico_succ_bot hn, add_comm]
theorem owed_end (c : Dev nD) : owed 36 c = 0 := by unfold owed; rw [Finset.Ico_self, Finset.sum_empty]

theorem owed_pos {a : ℕ} {c : Dev nD} {g : GSem nD τ sig} {u : Unit} (h : 0 < owed a c g u) :
    ∃ n, a ≤ n ∧ n < 36 ∧ g = recvCell n (peer n c) := by
  unfold owed at h
  rw [Finset.sum_apply, Finsupp.finset_sum_apply] at h
  obtain ⟨n, hn, hp⟩ := Finset.exists_ne_zero_of_sum_ne_zero h.ne'
  rw [Finset.mem_Ico] at hn
  refine ⟨n, hn.1, hn.2, ?_⟩
  rw [tallyAt_apply] at hp
  by_contra hg
  exact hp (if_neg fun h' => hg h'.1)

def L (g : GSem nD τ sig) : Finset Unit := if g.1.2 = .tc then {()} else ∅
/-- Staging and send cells at 0, barrier cells at 1, the receive cell of channel `n` at `n + 2`. -/
def lv (g : GSem nD τ sig) (_ : Unit) : ℕ :=
  match g.2 with | .reg _ => 1 | .dma s => if isRecv s.val = true then chanOf s.val + 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_recv {n : ℕ} (hn : n < 36) (c : Dev nD) : lv (recvCell n c) () = n + 2 := by
  show (if isRecv (recvSem n).val = true then chanOf (recvSem n).val + 2 else 0) = _
  rw [isRecv_recv hn, chanOf_recv hn]; exact if_pos rfl
theorem lv_send {n : ℕ} (hn : n < 36) (c : Dev nD) : lv (sendCell n c) () = 0 := by
  show (if isRecv (sendSem n).val = true then chanOf (sendSem n).val + 2 else 0) = _
  rw [isRecv_send hn]; exact if_neg Bool.false_ne_true

omit [FloatOps F] in
/-- A wait below every receive cell still owed. -/
theorem mayWait_owed (c : Dev nD) (sm : SemLoc sig) {a ℓ : ℕ} (hl : lv ((c : Thread nD τ), sm) () ≤ ℓ) (ha : ℓ < a + 2) :
    (levAts L lv : sProp 𝕄) ⊢ MayWait (c : Thread nD τ) sm () (owed a c) :=
  MayOwe.of_cut (L := L) (lev := lv) ℓ (fun p hp => by rw [Finset.mem_singleton.mp hp, L_tc]; exact Finset.mem_singleton_self _)
    (fun g u hg => by obtain ⟨n, _, _, rfl⟩ := owed_pos hg; rw [L_tc]; exact Finset.mem_singleton_self _)
    (fun p hp => by rw [Finset.mem_singleton.mp hp]; exact hl)
    (fun g u hg => by obtain ⟨n, h1, h2, rfl⟩ := owed_pos hg; rw [lv_recv h2]; omega)

end Cert.RingProof

end
-- ==== Proof.State.lean ====
/-
# The state of a device between two operations

It is described by how many of its sends it has issued (`a`), how many send waits (`bs`) and receive waits (`br`) it has
done, and how many additions (`k`): the elements of its output it holds and their contents, the regions of other outputs it
has been handed, and the protocol's tokens for the channels still to come.
-/
module

public import proofs.«01_k».proof.Proof.Sched

@[expose] public section

noncomputable section

namespace Cert.RingProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Families over consecutive channels -/

omit [FloatOps F] in
theorem bigSep_first {a b : ℕ} (h : a < b) (Φ : ℕ → sProp 𝕄) :
    bigSep (Finset.Ico a b) Φ = iprop(Φ a ∗ bigSep (Finset.Ico (a + 1) b) Φ) := by
  have h1 : Finset.Ico a b = insert a (Finset.Ico (a + 1) b) := by
    ext x; simp only [Finset.mem_Ico, Finset.mem_insert]; omega
  rw [h1, bigSep_insert (by simp only [Finset.mem_Ico]; omega)]
  rfl

omit [FloatOps F] in
theorem bigSep_last {a b : ℕ} (h : a ≤ b) (Φ : ℕ → sProp 𝕄) :
    bigSep (Finset.Ico a (b + 1)) Φ = iprop(Φ b ∗ bigSep (Finset.Ico a b) Φ) := by
  have h1 : Finset.Ico a (b + 1) = insert b (Finset.Ico a b) := by
    ext x; simp only [Finset.mem_Ico, Finset.mem_insert]; omega
  rw [h1, bigSep_insert (by simp only [Finset.mem_Ico]; omega)]
  rfl

omit [FloatOps F] in
theorem bigSep_next (n : ℕ) (Φ : ℕ → sProp 𝕄) :
    bigSep (Finset.range (n + 1)) Φ = iprop(Φ n ∗ bigSep (Finset.range n) Φ) := by
  have h1 : Finset.range (n + 1) = insert n (Finset.range n) := by
    ext x; simp only [Finset.mem_range, Finset.mem_insert]; omega
  rw [h1, bigSep_insert (by simp only [Finset.mem_range]; omega)]
  rfl

omit [FloatOps F] in
theorem bigSep_channels (m : ℕ) (Φ : ℕ → sProp 𝕄) :
    bigSep (Finset.univ : Finset (Fin m)) (fun n => Φ n.val) = bigSep (Finset.range m) Φ := by
  have h : Finset.range m = Finset.univ.map (Fin.valEmbedding : Fin m ↪ ℕ) := by
    ext x; simp only [Finset.mem_range, Finset.mem_map, Finset.mem_univ, true_and, Fin.valEmbedding_apply]
    exact ⟨fun h => ⟨⟨x, h⟩, rfl⟩, fun ⟨y, hy⟩ => hy ▸ y.isLt⟩
  rw [h, bigSep_map]
  rfl

/-! ## Regions of the output -/

omit [FloatOps F] in
theorem outPts_union (c : Dev nD) {I J : Finset S2048x1024.Idx} (h : Disjoint I J) (f : S2048x1024.Idx → Elt F .bf16) :
    outPts c (I ∪ J) f ⊣⊢ iprop(outPts (F := F) c I f ∗ outPts c J f) := pointsTo_union h

omit [FloatOps F] in
theorem outPts_split (c : Dev nD) {I J : Finset S2048x1024.Idx} (h : I ⊆ J) (f : S2048x1024.Idx → Elt F .bf16) :
    outPts c J f ⊣⊢ iprop(outPts (F := F) c I f ∗ outPts c (J \ I) f) := pointsTo_split_subset h

omit [FloatOps F] in
theorem outPts_congr (c : Dev nD) {I : Finset S2048x1024.Idx} {f g : S2048x1024.Idx → Elt F .bf16} (h : ∀ i ∈ I, f i = g i) :
    (outPts c I f : sProp 𝕄) = outPts c I g := pointsTo_congr h

/-! ## The regions handed around -/

theorem orig3_peer (n : ℕ) (c : Dev nD) : peer n (peer n c) = orig n (orig n c) := by
  have := orig4 n (peer n c)
  rw [orig_peer] at this
  exact this.symm
theorem peer3_orig (n : ℕ) (c : Dev nD) : peer n (peer n (peer n c)) = orig n c := by rw [orig3_peer, orig_peer]

omit [FloatOps F] in
/-- The three other devices of a ring, in the two orders. -/
theorem chain_turn (n : ℕ) (I : Finset S2048x1024.Idx) (c : Dev nD) :
    chain (F := F) (orig n) I 3 c ⊢ chain (F := F) (peer n) I 3 c := by
  simp only [chain]
  rw [orig4, peer3_orig, orig3_peer]
  iintro ⟨H1, H2, H3, H4⟩
  isplitl [H3]; · iexact H3
  isplitl [H2]; · iexact H2
  isplitl [H1]; · iexact H1
  iexact H4

omit [FloatOps F] in
theorem chain_cons (o : Dev nD → Dev nD) (I : Finset S2048x1024.Idx) (k : ℕ) (c : Dev nD) (f : S2048x1024.Idx → Elt F .bf16) :
    iprop(outPts (F := F) (o c) I f ∗ chain (F := F) o I k (o c)) ⊢ chain (F := F) o I (k + 1) c := by
  show _ ⊢ iprop(outAny (F := F) (o c) I ∗ chain (F := F) o I k (o c))
  iintro ⟨H1, H2⟩
  isplitl [H1]
  · unfold outAny; iexists f; iexact H1
  iexact H2

/-- The directions and positions of a channel and the one its piece is sent on with. -/
theorem succ_facts : ∀ n : Fin 32,
    (((n.val < 12 ∨ 24 ≤ n.val) ↔ (succ n.val < 12 ∨ 24 ≤ succ n.val)) ∧ n.val % 2 = succ n.val % 2) ∨ 22 ≤ n.val := by decide +kernel

theorem succ_sent : ∀ n : Fin 36, succ n.val < 36 → Classes fun A B => sent (succ n.val) A B ↔ rcvd n.val A B := by decide +kernel

theorem peer_succ {n : ℕ} (h : n < 22 ∨ 24 ≤ n) (hn : n < 32) : peer (succ n) = peer n ∧ orig (succ n) = orig n := by
  have h1 : ((n < 12 ∨ 24 ≤ n) ↔ (succ n < 12 ∨ 24 ≤ succ n)) ∧ n % 2 = succ n % 2 := by
    unfold succ; (repeat' split) <;> omega
  exact ⟨(peer_congr h1.1 h1.2).symm, (orig_congr h1.1 h1.2).symm⟩

/-- The region a device receives on a channel is the one it sends next. -/
theorem reg_succ' {n : ℕ} (h : n < 22 ∨ 24 ≤ n) (hn : n < 32) (c : Dev nD) : reg (succ n) c = reg n (orig n c) := by
  have h1 := reg_succ (n := n) (k := succ n) (by omega) (orig n c)
    (succ_sent ⟨n, by omega⟩ (by show succ n < 36; unfold succ; (repeat' split) <;> omega))
  rw [peer_orig] at h1
  exact h1

omit [FloatOps F] in
/-- A reduce-scatter transfer hands its source region on with the others. -/
theorem pack_land {n : ℕ} (hn : n < 18) (c : Dev nD) (f : S2048x1024.Idx → Elt F .bf16) :
    iprop(outPts (F := F) c (reg n c) f ∗ pack (F := F) n c) ⊢ pack (F := F) (succ n) (peer n c) := by
  have hp := peer_succ (n := n) (by omega) (by omega)
  have hr := reg_succ' (n := n) (by omega) (by omega) (peer n c)
  rw [orig_peer] at hr
  have key : ∀ k, iprop(outPts (F := F) c (reg n c) f ∗ chain (F := F) (orig n) (reg n c) k c)
      ⊢ chain (F := F) (orig n) (reg n c) (k + 1) (peer n c) := fun k => by
    have := chain_cons (F := F) (orig n) (reg n c) k (peer n c) f
    rw [orig_peer] at this
    exact this
  unfold pack
  rw [hr, hp.1, hp.2]
  by_cases h8 : n < 8
  · have hs : succ n = n + 4 := if_pos h8
    rw [if_pos (show n < 12 by omega), hs, if_pos (show n + 4 < 12 by omega), show (n + 4) / 4 = n / 4 + 1 by omega]
    exact key _
  by_cases h12 : n < 12
  · have hs : succ n = n + 16 := by unfold succ; rw [if_neg h8, if_pos h12]
    rw [if_pos h12, hs, if_neg (show ¬ n + 16 < 12 by omega), if_neg (show ¬ n + 16 < 18 by omega), if_neg (show ¬ n + 16 < 24 by omega),
      show n / 4 = 2 by omega, show 3 - (n + 16 - 24) / 4 = 3 by omega]
    exact (key 2).trans (chain_turn _ _ _)
  · have hs : succ n = n + 2 := by unfold succ; rw [if_neg h8, if_neg h12, if_pos (by omega)]
    rw [if_neg h12, if_pos hn, hs, if_neg (show ¬ n + 2 < 12 by omega)]
    by_cases h16 : n < 16
    · rw [if_pos (show n + 2 < 18 by omega), show (n + 2 - 12) / 2 = (n - 12) / 2 + 1 by omega]
      exact key _
    · rw [if_neg (show ¬ n + 2 < 18 by omega), if_pos (show n + 2 < 24 by omega), show (n - 12) / 2 = 2 by omega,
        show 3 - (n + 2 - 18) / 2 = 3 by omega]
      exact (key 2).trans (chain_turn _ _ _)

omit [FloatOps F] in
/-- An all-gather send writes the next region of the pack and passes the rest. -/
theorem pack_gather {n : ℕ} (h18 : 18 ≤ n) (hn : n < 36) (c : Dev nD) :
    pack (F := F) n c = iprop(outAny (F := F) (peer n c) (reg n c) ∗ tailPack (F := F) n (peer n c)) := by
  unfold pack tailPack
  rw [if_neg (show ¬ n < 12 by omega), if_neg (show ¬ n < 18 by omega), orig_peer]
  split
  · rw [show 3 - (n - 18) / 2 = 2 - (n - 18) / 2 + 1 by omega]; rfl
  · rw [show 3 - (n - 24) / 4 = 2 - (n - 24) / 4 + 1 by omega]; rfl

omit [FloatOps F] in
theorem tail_pack {n : ℕ} (h18 : 18 ≤ n) (h : n < 22 ∨ 24 ≤ n) (hn : n < 32) (c : Dev nD) :
    tailPack (F := F) n c = pack (F := F) (succ n) c := by
  have hp := peer_succ h hn
  unfold pack tailPack
  rw [reg_succ' h hn, hp.1]
  by_cases h22 : n < 22
  · have hs : succ n = n + 2 := by unfold succ; rw [if_neg (by omega), if_neg (by omega), if_pos h22]
    rw [hs, if_pos (show n < 24 by omega), if_neg (show ¬ n + 2 < 12 by omega), if_neg (show ¬ n + 2 < 18 by omega),
      if_pos (show n + 2 < 24 by omega), show 2 - (n - 18) / 2 = 3 - (n + 2 - 18) / 2 by omega]
  · have hs : succ n = n + 4 := by unfold succ; rw [if_neg (by omega), if_neg (by omega), if_neg h22, if_neg (by omega)]
    rw [hs, if_neg (show ¬ n < 24 by omega), if_neg (show ¬ n + 4 < 12 by omega), if_neg (show ¬ n + 4 < 18 by omega),
      if_neg (show ¬ n + 4 < 24 by omega), show 2 - (n - 24) / 4 = 3 - (n + 4 - 24) / 4 by omega]

/-! ## The cells, indexed; the persistent record -/

/-- A device's cells: its barrier cell, its send cells, its receive cells. -/
abbrev KI : Type := Unit ⊕ (Fin 36 ⊕ Fin 36)

def csem : KI → SemLoc sig
  | .inl _ => .reg barS
  | .inr (.inl n) => .dma (sendSem n.val)
  | .inr (.inr n) => .dma (recvSem n.val)

abbrev kcell (p : Dev nD × KI) : GSem nD τ sig := ((p.1 : Thread nD τ), csem p.2)

variable (ctx : Dev nD → S2048x1024.Idx → Elt F .bf16) (wo : Dev nD → S1024x1024.Idx → Elt F .bf16)
variable (K : Dev nD × KI → ℕ)

/-- Every cell's invariant, that every cell has reached its round, and the levels. -/
def recs : sProp 𝕄 :=
  iprop((bigSep Finset.univ fun p : Dev nD × KI => cellInv ER (Rd ctx wo) (K p) (kcell p))
    ∗ (bigSep Finset.univ fun p : Dev nD × KI => reached ER (kcell p) 0) ∗ levAts L lv)

instance recs_persistent : BI.Persistent (recs ctx wo K) := by unfold recs; infer_instance

theorem recs_inv (p : Dev nD × KI) : recs ctx wo K ⊢ cellInv ER (Rd ctx wo) (K p) (kcell p) := by
  have h : (bigSep Finset.univ fun p : Dev nD × KI => cellInv ER (Rd ctx wo) (K p) (kcell p)) ⊢ cellInv ER (Rd ctx wo) (K p) (kcell p) :=
    bigSep_elim (Finset.mem_univ p)
  unfold recs
  iintro ⟨H, -, -⟩
  iapply h
  iexact H

theorem recs_reached (p : Dev nD × KI) : recs ctx wo K ⊢ reached ER (kcell p) 0 := by
  have h : (bigSep Finset.univ fun p : Dev nD × KI => (reached ER (kcell p) 0 : sProp 𝕄)) ⊢ reached ER (kcell p) 0 :=
    bigSep_elim (Finset.mem_univ p)
  unfold recs
  iintro ⟨-, H, -⟩
  iapply h
  iexact H

theorem recs_levs : recs ctx wo K ⊢ (levAts L lv : sProp 𝕄) := by unfold recs; iintro ⟨-, -, H⟩; iexact H

/-! ## The state -/

/-- When a pack arrives: at the start (0), or with a receive wait. -/
def acq (n : ℕ) : ℕ := if n < 4 ∨ n = 12 ∨ n = 13 then 0 else if n < 12 then n - 3 else if n < 24 then n - 1 else if n < 28 then n - 15 else n - 3

/-- The channels whose pack is held. -/
def held (a br : ℕ) : Finset ℕ := (Finset.range 36).filter fun n => a ≤ n ∧ acq n ≤ br

/-- What a device still has for the channels it has yet to send on: the slot to write, the two tokens; -/
def toks (a : ℕ) (c : Dev nD) : sProp 𝕄 :=
  bigSep (Finset.Ico a 36) fun n => iprop(slotAny (F := F) n (peer n c) ∗ dutyTok ER (sendCell n c) 0 0 ∗ dutyTok ER (recvCell n (peer n c)) 0 0)
/-- its positions in the send cells it has yet to wait for; -/
def posS (bs : ℕ) (c : Dev nD) : sProp 𝕄 := bigSep (Finset.Ico bs 36) fun n => atPos ER (sendCell n c) 0 ∅ 0
/-- its positions in the receive cells it has yet to wait for, and the credit to do so; -/
def posR (br : ℕ) (c : Dev nD) : sProp 𝕄 :=
  bigSep (Finset.Ico br 36) fun n => iprop(atPos ER (recvCell n c) 0 ∅ 0 ∗ cred (tallyAt (recvCell n c) () (amt n)))
/-- the credit of the sends in flight; -/
def credS (bs a : ℕ) (c : Dev nD) : sProp 𝕄 := bigSep (Finset.Ico bs a) fun n => cred (tallyAt (sendCell n c) () (amt n))
/-- the send cells that are done; -/
def doneS (bs : ℕ) (c : Dev nD) : sProp 𝕄 := bigSep (Finset.range bs) fun n => semVal (sendCell n c) 0
/-- the receive cells that are done, with what has landed. -/
def doneR (br : ℕ) (c : Dev nD) : sProp 𝕄 := bigSep (Finset.range br) fun n => iprop(semVal (recvCell n c) 0 ∗ slotFull ctx wo n c)

/-- The state, `R` carried along. -/
def St (R : sProp 𝕄) (a bs br k : ℕ) (c : Dev nD) : sProp 𝕄 :=
  iprop(R ∗ recs ctx wo K ∗ outPts c (ownSet a bs br c) (cont ctx wo k c) ∗ (bigSep (held a br) fun n => pack (F := F) n c)
    ∗ toks (F := F) a c ∗ posS (F := F) bs c ∗ posR (F := F) br c ∗ credS (F := F) bs a c ∗ doneS (F := F) bs c ∗ doneR ctx wo br c
    ∗ ∃ W, owes (c : Thread nD τ) (owed a c) W)

end Cert.RingProof

end
-- ==== Proof.Views.lean ====
/-
# The pieces of the buffers the operations go through

A unit rectangle of the output at channel `n`'s offsets, and slot `j` of a staging buffer with its unit axis dropped: which
elements they are, and what reading or writing them does.
-/
module

public import proofs.«01_k».proof.Proof.State
public import Idealize.ShloMosaic.Lib.ValueLayout

@[expose] public section

noncomputable section

namespace Cert.RingProof

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The output -/

abbrev oM : Memref sig .tc .vmem S2048x1024 .bf16 := Memref.whole cc0_stg2_0

abbrev oSl (off size : Fin 2 → ℕ) (inb : ∀ a, off a + size a ≤ S2048x1024.size a)
    (h : ∀ a, (Rect.unit (s := S2048x1024) off size inb).stride a = 1) : Memref sig .tc .vmem ⟨2, size⟩ .bf16 :=
  oM.slice (Rect.unit (s := S2048x1024) off size inb) h

theorem rect_emb {off size : Fin 2 → ℕ} {inb : ∀ a, off a + size a ≤ S2048x1024.size a} (x : (⟨2, size⟩ : Shape).Idx) :
    (Rect.unit (s := S2048x1024) off size inb).emb x = at2 (off 0 + (x 0).val) (off 1 + (x 1).val) := by
  rw [← at2_self ((Rect.unit (s := S2048x1024) off size inb).emb x)]
  have h : ∀ a, ((Rect.unit (s := S2048x1024) off size inb).emb x a).val = off a + (x a).val := fun a => by
    rw [Rect.emb_apply]; show off a + 1 * (x a).val = _; rw [Nat.one_mul]
  rw [h 0, h 1]

theorem oSl_set {n : ℕ} (hn : n < 36) {c : Dev nD} {off size : Fin 2 → ℕ} {inb : ∀ a, off a + size a ≤ S2048x1024.size a}
    {h : ∀ a, (Rect.unit (s := S2048x1024) off size inb).stride a = 1}
    (hoff : off = ![ro n c.val, co n]) (hsize : size = ![128 * hq n, 512]) :
    ((oSl off size inb h).view.set : Finset S2048x1024.Idx) = reg n c := by
  have h1 : ((oSl off size inb h).view.set : Finset S2048x1024.Idx) = (Rect.unit (s := S2048x1024) off size inb).set :=
    View.set_slice_whole cc0_stg2_0 (Rect.unit (s := S2048x1024) off size inb)
  rw [h1]
  exact unit_set hn hoff hsize

omit [FloatOps F] in
theorem oSl_pts {n : ℕ} (hn : n < 36) {c : Dev nD} {off size : Fin 2 → ℕ} {inb : ∀ a, off a + size a ≤ S2048x1024.size a}
    {h : ∀ a, (Rect.unit (s := S2048x1024) off size inb).stride a = 1}
    (hoff : off = ![ro n c.val, co n]) (hsize : size = ![128 * hq n, 512]) (d : Dev nD) (f : S2048x1024.Idx → Elt F .bf16) :
    (outPts d (reg n c) f : sProp 𝕄) = ((oSl off size inb h).view.loc (d : Thread nD τ) ↦[(oSl off size inb h).view.set]{fullShare} f) := by
  rw [← oSl_set (h := h) (inb := inb) hn hoff hsize]; rfl

theorem at2_mem {n : ℕ} (hn : n < 36) {c : Dev nD} {off size : Fin 2 → ℕ} {inb : ∀ a, off a + size a ≤ S2048x1024.size a}
    (hoff : off = ![ro n c.val, co n]) (hsize : size = ![128 * hq n, 512]) (x : (⟨2, size⟩ : Shape).Idx) :
    at2 (ro n c.val + (x 0).val) (co n + (x 1).val) ∈ reg n c := by
  have h1 := rect_emb (inb := inb) x
  have h2 : (Rect.unit (s := S2048x1024) off size inb).emb x ∈ (Rect.unit (s := S2048x1024) off size inb).set := by
    rw [← Rect.map_emb_univ]; exact Finset.mem_map_of_mem _ (Finset.mem_univ x)
  rw [unit_set hn hoff hsize, h1] at h2
  subst hoff
  exact h2

omit [FloatOps F] in
theorem oSl_read {n : ℕ} {c : Dev nD} {off size : Fin 2 → ℕ} {inb : ∀ a, off a + size a ≤ S2048x1024.size a}
    {h : ∀ a, (Rect.unit (s := S2048x1024) off size inb).stride a = 1}
    (hoff : off = ![ro n c.val, co n]) (f : S2048x1024.Idx → Elt F .bf16) (x : (⟨2, size⟩ : Shape).Idx) :
    (oSl off size inb h).view.read (Elt F) f x = f (at2 (ro n c.val + (x 0).val) (co n + (x 1).val)) := by
  show f ((Rect.unit (s := S2048x1024) off size inb).emb x) = _
  rw [rect_emb]
  subst hoff
  rfl

/-! ## The staging slots -/

variable {m a b : ℕ}

theorem slice3_emb {off : Fin 3 → ℕ} {inb : ∀ i, off i + (⟨3, ![1, a, b]⟩ : Shape).size i ≤ (⟨3, ![m, a, b]⟩ : Shape).size i}
    {j : ℕ} (hoff : off = ![j, 0, 0]) (hj : j < m) (x : Fin a) (y : Fin b) :
    (Rect.unit (s := ⟨3, ![m, a, b]⟩) off (⟨3, ![1, a, b]⟩ : Shape).size inb).emb (ix3 (0 : Fin 1) x y) = ix3 (⟨j, hj⟩ : Fin m) x y := by
  subst hoff
  funext i
  apply Fin.ext
  rw [Rect.emb_apply]
  match i with
  | ⟨0, _⟩ => show j + 1 * 0 = j; omega
  | ⟨1, _⟩ => show 0 + 1 * x.val = x.val; omega
  | ⟨2, _⟩ => show 0 + 1 * y.val = y.val; omega

abbrev slotSl (M : Memref sig .tc .vmem ⟨3, ![m, a, b]⟩ .bf16) (off : Fin 3 → ℕ)
    (inb : ∀ i, off i + (⟨3, ![1, a, b]⟩ : Shape).size i ≤ (⟨3, ![m, a, b]⟩ : Shape).size i)
    (h : ∀ i, (Rect.unit (s := ⟨3, ![m, a, b]⟩) off (⟨3, ![1, a, b]⟩ : Shape).size inb).stride i = 1)
    (hq : (⟨3, ![1, a, b]⟩ : Shape).Squeezes ⟨2, ![a, b]⟩) : Memref sig .tc .vmem ⟨2, ![a, b]⟩ .bf16 :=
  (M.slice (Rect.unit (s := ⟨3, ![m, a, b]⟩) off (⟨3, ![1, a, b]⟩ : Shape).size inb) h).squeeze ⟨2, ![a, b]⟩ hq

theorem slotSl_emb (M : Memref sig .tc .vmem ⟨3, ![m, a, b]⟩ .bf16) {off : Fin 3 → ℕ}
    {inb : ∀ i, off i + (⟨3, ![1, a, b]⟩ : Shape).size i ≤ (⟨3, ![m, a, b]⟩ : Shape).size i}
    {h : ∀ i, (Rect.unit (s := ⟨3, ![m, a, b]⟩) off (⟨3, ![1, a, b]⟩ : Shape).size inb).stride i = 1}
    {hq : (⟨3, ![1, a, b]⟩ : Shape).Squeezes ⟨2, ![a, b]⟩}
    {j : ℕ} (hoff : off = ![j, 0, 0]) (hj : j < m) (x : Fin a) (y : Fin b) :
    (slotSl M off inb h hq).view.emb (ix2 x y) = M.view.emb (ix3 (⟨j, hj⟩ : Fin m) x y) := by
  have h2 : Shape.reshapeEquiv hq.numel_eq (ix2 x y) = ix3 (⟨0, Nat.one_pos⟩ : Fin 1) x y := reshapeEquiv_ix2_1ab _ x y
  have h3 : (slotSl M off inb h hq).view.emb (ix2 x y)
      = M.view.emb ((Rect.unit (s := ⟨3, ![m, a, b]⟩) off (⟨3, ![1, a, b]⟩ : Shape).size inb).emb (Shape.reshapeEquiv hq.numel_eq (ix2 x y))) := rfl
  rw [h3, h2, ← slice3_emb (inb := inb) hoff hj x y]
  rfl

theorem slotSl_set (M : Memref sig .tc .vmem ⟨3, ![m, a, b]⟩ .bf16) {off : Fin 3 → ℕ}
    {inb : ∀ i, off i + (⟨3, ![1, a, b]⟩ : Shape).size i ≤ (⟨3, ![m, a, b]⟩ : Shape).size i}
    {h : ∀ i, (Rect.unit (s := ⟨3, ![m, a, b]⟩) off (⟨3, ![1, a, b]⟩ : Shape).size inb).stride i = 1}
    {hq : (⟨3, ![1, a, b]⟩ : Shape).Squeezes ⟨2, ![a, b]⟩}
    {j : ℕ} (hoff : off = ![j, 0, 0]) (hj : j < m) :
    (slotSl M off inb h hq).view.set
      = (Finset.univ.filter fun i : (⟨3, ![m, a, b]⟩ : Shape).Idx => (i 0).val = j).map M.view.emb := by
  ext i
  constructor
  · intro hi
    obtain ⟨x, -, rfl⟩ := Finset.mem_map.mp hi
    obtain ⟨p, q, rfl⟩ : ∃ (p : Fin a) (q : Fin b), x = ix2 p q := ⟨x 0, x 1, funext fun i => by
      match i with
      | ⟨0, _⟩ => rfl
      | ⟨1, _⟩ => rfl⟩
    rw [slotSl_emb M hoff hj]
    exact Finset.mem_map_of_mem _ (Finset.mem_filter.mpr ⟨Finset.mem_univ _, rfl⟩)
  · intro hi
    obtain ⟨y, hy, rfl⟩ := Finset.mem_map.mp hi
    have hy0 := (Finset.mem_filter.mp hy).2
    obtain ⟨p, q, rfl⟩ : ∃ (p : Fin a) (q : Fin b), y = ix3 (⟨j, hj⟩ : Fin m) p q := ⟨y 1, y 2, funext fun i => by
      match i with
      | ⟨0, _⟩ => exact Fin.ext hy0
      | ⟨1, _⟩ => rfl
      | ⟨2, _⟩ => rfl⟩
    rw [← slotSl_emb M (h := h) (hq := hq) (inb := inb) hoff hj]
    exact View.emb_mem_set _ _

omit [FloatOps F] in
/-- A slot written with `v` holds any contents that agree with `v` there. -/
theorem slotSl_written (M : Memref sig .tc .vmem ⟨3, ![m, a, b]⟩ .bf16) {off : Fin 3 → ℕ}
    {inb : ∀ i, off i + (⟨3, ![1, a, b]⟩ : Shape).size i ≤ (⟨3, ![m, a, b]⟩ : Shape).size i}
    {h : ∀ i, (Rect.unit (s := ⟨3, ![m, a, b]⟩) off (⟨3, ![1, a, b]⟩ : Shape).size inb).stride i = 1}
    {hq : (⟨3, ![1, a, b]⟩ : Shape).Squeezes ⟨2, ![a, b]⟩}
    {j : ℕ} (hoff : off = ![j, 0, 0]) (hj : j < m) (f g : M.view.ty.Contents (Elt F)) (v : (⟨2, ![a, b]⟩ : Shape).Idx → Elt F .bf16)
    (hg : ∀ x y, g (M.view.emb (ix3 (⟨j, hj⟩ : Fin m) x y)) = cast (congrArg (Elt F) M.view.elt_eq.symm) (v (ix2 x y))) :
    ∀ i ∈ (slotSl M off inb h hq).view.set, (slotSl M off inb h hq).view.write (Elt F) f v Finset.univ i = g i := by
  intro i hi
  obtain ⟨x, -, rfl⟩ := Finset.mem_map.mp hi
  rw [View.write_emb_of_mem _ _ (Finset.mem_univ x)]
  obtain ⟨p, q, rfl⟩ : ∃ (p : Fin a) (q : Fin b), x = ix2 p q := ⟨x 0, x 1, funext fun i => by
    match i with
    | ⟨0, _⟩ => rfl
    | ⟨1, _⟩ => rfl⟩
  rw [slotSl_emb M hoff hj, hg]

variable (ctx : Dev nD → S2048x1024.Idx → Elt F .bf16) (wo : Dev nD → S1024x1024.Idx → Elt F .bf16)

/-- A memref that is channel `n`'s staging slot. -/
structure Lands (n : ℕ) {size : Fin 2 → ℕ} (dst : Memref sig .tc .vmem ⟨2, size⟩ .bf16) : Prop where
  any : ∀ c : Dev nD, slotAny (F := F) n c ⊢ iprop(∃ fd, dst.view.loc (c : Thread nD τ) ↦[dst.view.set]{fullShare} fd)
  full : ∀ (c : Dev nD) (fd) (v : (⟨2, size⟩ : Shape).Idx → Elt F .bf16), (∀ x, v x = landVal ctx wo n c (x 0).val (x 1).val) →
    (dst.view.loc (c : Thread nD τ) ↦[dst.view.set]{fullShare} dst.view.write (Elt F) fd v Finset.univ) ⊢ slotFull ctx wo n c

section Families

variable {off : Fin 3 → ℕ}

theorem landsA0 {j : ℕ} (hj : j < 6) {inb h hs} (hoff : off = ![j, 0, 0] := by rfl) :
    Lands ctx wo (2 * j) (slotSl (m := 6) (a := 256) (b := 512) (Memref.whole cc0_scratch0) off inb h hs) := by
  have hset : ((slotSl (m := 6) (a := 256) (b := 512) (Memref.whole cc0_scratch0) off inb h hs).view.set : Finset S6x256x512.Idx) = slotA j :=
    (slotSl_set _ hoff hj).trans (Finset.map_refl)
  have e2 : (2 * j) % 2 = 0 := by omega
  have e3 : (2 * j) / 2 = j := by omega
  constructor
  · intro c
    unfold slotAny
    rw [if_pos (show 2 * j < 12 by omega), if_pos e2, e3, ← hset]
    exact Entails.refl _
  · intro c fd v hv
    unfold slotFull
    rw [if_pos (show 2 * j < 12 by omega), if_pos e2, e3, ← hset]
    exact Entails.of_eq (pointsTo_congr (slotSl_written (F := F) _ hoff hj fd _ v fun x y => (hv (ix2 x y)).symm))

theorem landsA1 {j : ℕ} (hj : j < 6) {inb h hs} (hoff : off = ![j, 0, 0] := by rfl) :
    Lands ctx wo (2 * j + 1) (slotSl (m := 6) (a := 256) (b := 512) (Memref.whole cc0_scratch1) off inb h hs) := by
  have hset : ((slotSl (m := 6) (a := 256) (b := 512) (Memref.whole cc0_scratch1) off inb h hs).view.set : Finset S6x256x512.Idx) = slotA j :=
    (slotSl_set _ hoff hj).trans (Finset.map_refl)
  have e2 : (2 * j + 1) % 2 = 1 := by omega
  have e3 : (2 * j + 1) / 2 = j := by omega
  constructor
  · intro c
    unfold slotAny
    rw [if_pos (show 2 * j + 1 < 12 by omega), if_neg (show ¬ (2 * j + 1) % 2 = 0 by omega), e3, ← hset]
    exact Entails.refl _
  · intro c fd v hv
    unfold slotFull
    rw [if_pos (show 2 * j + 1 < 12 by omega), if_neg (show ¬ (2 * j + 1) % 2 = 0 by omega), e3, ← hset]
    exact Entails.of_eq (pointsTo_congr (slotSl_written (F := F) _ hoff hj fd _ v fun x y => (hv (ix2 x y)).symm))

theorem landsB0 {j : ℕ} (hj : j < 3) {inb h hs} (hoff : off = ![j, 0, 0] := by rfl) :
    Lands ctx wo (12 + 2 * j) (slotSl (m := 3) (a := 128) (b := 512) (Memref.whole cc0_scratch2) off inb h hs) := by
  have hset : ((slotSl (m := 3) (a := 128) (b := 512) (Memref.whole cc0_scratch2) off inb h hs).view.set : Finset S3x128x512.Idx) = slotB j :=
    (slotSl_set _ hoff hj).trans (Finset.map_refl)
  have e2 : (12 + 2 * j) % 2 = 0 := by omega
  have e3 : (12 + 2 * j - 12) / 2 = j := by omega
  constructor
  · intro c
    unfold slotAny
    rw [if_neg (show ¬ 12 + 2 * j < 12 by omega), if_pos (show 12 + 2 * j < 18 by omega), if_pos e2, e3, ← hset]
    exact Entails.refl _
  · intro c fd v hv
    unfold slotFull
    rw [if_neg (show ¬ 12 + 2 * j < 12 by omega), if_pos (show 12 + 2 * j < 18 by omega), if_pos e2, e3, ← hset]
    exact Entails.of_eq (pointsTo_congr (slotSl_written (F := F) _ hoff hj fd _ v fun x y => (hv (ix2 x y)).symm))

theorem landsB1 {j : ℕ} (hj : j < 3) {inb h hs} (hoff : off = ![j, 0, 0] := by rfl) :
    Lands ctx wo (12 + 2 * j + 1) (slotSl (m := 3) (a := 128) (b := 512) (Memref.whole cc0_scratch3) off inb h hs) := by
  have hset : ((slotSl (m := 3) (a := 128) (b := 512) (Memref.whole cc0_scratch3) off inb h hs).view.set : Finset S3x128x512.Idx) = slotB j :=
    (slotSl_set _ hoff hj).trans (Finset.map_refl)
  have e2 : (12 + 2 * j + 1) % 2 = 1 := by omega
  have e3 : (12 + 2 * j + 1 - 12) / 2 = j := by omega
  constructor
  · intro c
    unfold slotAny
    rw [if_neg (show ¬ 12 + 2 * j + 1 < 12 by omega), if_pos (show 12 + 2 * j + 1 < 18 by omega), if_neg (show ¬ (12 + 2 * j + 1) % 2 = 0 by omega), e3, ← hset]
    exact Entails.refl _
  · intro c fd v hv
    unfold slotFull
    rw [if_neg (show ¬ 12 + 2 * j + 1 < 12 by omega), if_pos (show 12 + 2 * j + 1 < 18 by omega), if_neg (show ¬ (12 + 2 * j + 1) % 2 = 0 by omega), e3, ← hset]
    exact Entails.of_eq (pointsTo_congr (slotSl_written (F := F) _ hoff hj fd _ v fun x y => (hv (ix2 x y)).symm))

end Families

end Cert.RingProof

end
-- ==== Proof.Sends.lean ====
/-
# Sends and waits, as steps between states
-/
module

public import proofs.«01_k».proof.Proof.Views

@[expose] public section

set_option maxRecDepth 10000

noncomputable section

namespace Cert.RingProof

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The assertions. -/
abbrev SP (F : FTy → Type) : Type := sProp (MT nD τ sig Unit (Elt F) ℕ UU ℕ)

/-- The program `p` on device `c`, leading to `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (ctx : Dev nD → S2048x1024.Idx → Elt F .bf16) (wo : Dev nD → S1024x1024.Idx → Elt F .bf16)
variable (K : Dev nD × KI → ℕ)

/-! ## Packs -/

omit [FloatOps F] in
theorem held_send {n br : ℕ} (hn : n < 36) (h : acq n ≤ br) (Φ : ℕ → sProp 𝕄) :
    bigSep (held n br) Φ = iprop(Φ n ∗ bigSep (held (n + 1) br) Φ) := by
  have h1 : held n br = insert n (held (n + 1) br) := by
    ext x; simp only [held, Finset.mem_filter, Finset.mem_range, Finset.mem_insert]
    constructor
    · rintro ⟨h1, h2, h3⟩
      by_cases hx : x = n
      · exact .inl hx
      · exact .inr ⟨h1, by omega, h3⟩
    · rintro (rfl | ⟨h1, h2, h3⟩)
      · exact ⟨hn, le_refl _, h⟩
      · exact ⟨h1, by omega, h3⟩
  rw [h1, bigSep_insert (by simp only [held, Finset.mem_filter]; omega)]
  rfl

theorem acq_step : ∀ n k : Fin 36, acq k.val ≤ n.val + 1 ↔ acq k.val ≤ n.val ∨ k.val = succ n.val := by decide +kernel
theorem acq_succ : ∀ n : Fin 36, ¬ acq (succ n.val) ≤ n.val := by decide +kernel

omit [FloatOps F] in
theorem held_recv {n a : ℕ} (hn : n < 36) (h : succ n < 36) (ha : a ≤ succ n) (Φ : ℕ → sProp 𝕄) :
    bigSep (held a (n + 1)) Φ = iprop(Φ (succ n) ∗ bigSep (held a n) Φ) := by
  have h1 : held a (n + 1) = insert (succ n) (held a n) := by
    ext x; simp only [held, Finset.mem_filter, Finset.mem_range, Finset.mem_insert]
    constructor
    · rintro ⟨h1, h2, h3⟩
      rcases (acq_step ⟨n, hn⟩ ⟨x, h1⟩).mp h3 with h4 | h4
      · exact .inr ⟨h1, h2, h4⟩
      · exact .inl h4
    · rintro (rfl | ⟨h1, h2, h3⟩)
      · exact ⟨h, ha, (acq_step ⟨n, hn⟩ ⟨succ n, h⟩).mpr (.inr rfl)⟩
      · exact ⟨h1, h2, by omega⟩
  rw [h1, bigSep_insert (fun hm => acq_succ ⟨n, hn⟩ (Finset.mem_filter.mp hm).2.2)]
  rfl

theorem held_last {n a : ℕ} (hn : n < 36) (h : 36 ≤ succ n) : held a (n + 1) = held a n := by
  ext x; simp only [held, Finset.mem_filter, Finset.mem_range]
  constructor
  · rintro ⟨h1, h2, h3⟩
    rcases (acq_step ⟨n, hn⟩ ⟨x, h1⟩).mp h3 with h4 | h4
    · exact ⟨h1, h2, h4⟩
    · dsimp only at h4; omega
  · rintro ⟨h1, h2, h3⟩
    exact ⟨h1, h2, by omega⟩

/-! ## Sends -/

section Send

variable {R : SP F} {n bs br k : ℕ} {c : Dev nD} {α : Type} {Q : α → SP F} {p : PUnit → Prog (TpuEff nD τ sig (Elt F) Λ₀ .tc) α}
variable {size : Fin 2 → ℕ} {offf : Dev nD → Fin 2 → ℕ} {inb : ∀ a, offf c a + size a ≤ S2048x1024.size a}
  {hsl : ∀ a, (Rect.unit (s := S2048x1024) (offf c) size inb).stride a = 1} {dvf : Dev nD → ℕ} {hlt : dvf c < nD}
  {sS sem : SemLoc sig} {hsrc : (oSl (offf c) size inb hsl).view.WordExact}

/-- A reduce-scatter send: the source region goes along, and the pack. -/
theorem send_rs {dst : Memref sig .tc .vmem ⟨2, size⟩ .bf16} {hsc : (dst : Memref sig (Dev.tc (⟨dvf c, hlt⟩ : Dev nD) : Thread nD τ).2.kind .vmem ⟨2, size⟩ .bf16).view.ref.isScScratch = false}
    {hdst : dst.view.WordExact}
    {hsem : DmaTarget.Typed .vmem sem (.remote (Dev.tc (⟨dvf c, hlt⟩ : Dev nD) : Thread nD τ) dst sS hsc)}
    (hL : Lands ctx wo n dst)
    (hn : n < 18 := by decide) (hbs : bs ≤ n := by decide) (hacq : acq n ≤ br := by decide) (hrd : Ready n k := by decide)
    (hcl : Classes fun A B => (own (n + 1) bs br A B ↔ own n bs br A B ∧ ¬ sent n A B) ∧ (sent n A B → own n bs br A B) := by decide +kernel)
    (hoff : ∀ c, offf c = ![ro n c.val, co n] := by decide +kernel) (hsize : size = ![128 * hq n, 512] := by rfl)
    (hdv : ∀ c, dvf c = (peer n c).val := by decide +kernel)
    (hsS : sS = .dma (sendSem n) := by rfl) (hsem' : sem = .dma (recvSem n) := by rfl) (hN : dst.view.amount sem = amt n := by rfl)
    (hk : St ctx wo K R (n + 1) bs br k c ⊢ WP c (p ⟨⟩) Q) :
    St ctx wo K R n bs br k c ⊢ WP c (.op (.enqueueDma (oSl (offf c) size inb hsl) (.remote (Dev.tc (⟨dvf c, hlt⟩ : Dev nD) : Thread nD τ) dst sS hsc) sem hsrc hdst hsem) p) Q := by
  have hn36 : n < 36 := by omega
  subst hsS hsem'
  have hc' : (⟨dvf c, hlt⟩ : Dev nD) = peer n c := Fin.ext (hdv c)
  generalize (⟨dvf c, hlt⟩ : Dev nD) = c' at hc' hsc hsem ⊢
  subst hc'
  obtain ⟨hsub, hrest⟩ := ownSet_send c hcl
  have hpts := oSl_pts (F := F) (h := hsl) (inb := inb) hn36 (hoff c) hsize c (cont ctx wo k c)
  have hv : ∀ x, (oSl (offf c) size inb hsl).view.read (Elt F) (cont ctx wo k c) x = landVal ctx wo n (peer n c) (x 0).val (x 1).val := fun x => by
    rw [oSl_read (h := hsl) (inb := inb) (hoff c), cont_sent ctx wo hrd (at2_mem (inb := inb) hn36 (hoff c) hsize x)]
    unfold landVal
    rw [orig_peer]
  have hpay₁ : (iprop(emp) : sProp 𝕄) ⊢ (Rd ctx wo).payload (sendCell n c) 0 0 := by
    rw [payload_send ctx wo hn36]; unfold sendPay; rw [if_pos hn]
  have hpay₂ : ∀ fd, iprop(((dst.view.loc (peer n c : Thread nD τ) ↦[dst.view.set]{fullShare} (dst.view.write (Elt F) fd
        ((oSl (offf c) size inb hsl).view.read (Elt F) (cont ctx wo k c)) Finset.univ)) ∗ pack (F := F) n c)
      ∗ ((oSl (offf c) size inb hsl).view.loc (c : Thread nD τ) ↦[(oSl (offf c) size inb hsl).view.set]{fullShare} cont ctx wo k c))
      ⊢ (Rd ctx wo).payload (recvCell n (peer n c)) 0 0 := fun fd => by
    rw [payload_recv ctx wo hn36]; unfold recvPay; rw [if_pos hn]
    iintro ⟨⟨Hd, Hp⟩, Hs⟩
    isplitl [Hd]
    · iapply (hL.full (peer n c) fd _ hv); iexact Hd
    iapply (pack_land hn c (cont ctx wo k c))
    isplitl [Hs]
    · iapply (Entails.of_eq hpts.symm); iexact Hs
    iexact Hp
  unfold St
  iintro ⟨HR, #Hrec, Hout, Hheld, Htok, HpS, HpR, HcS, HdS, HdR, %W, HO⟩
  ihave Hout := (outPts_split c hsub (cont ctx wo k c)).1 $$ Hout
  icases Hout with ⟨Hsrc, Hout⟩
  ihave Hheld := (Entails.of_eq (held_send hn36 hacq fun n => pack (F := F) n c)) $$ Hheld
  icases Hheld with ⟨Hpack, Hheld⟩
  unfold toks
  ihave Htok := (Entails.of_eq (bigSep_first hn36 _)) $$ Htok
  icases Htok with ⟨⟨Hslot, HtS, HtR⟩, Htok⟩
  ihave Hslot := (hL.any (peer n c)) $$ Hslot
  icases Hslot with ⟨%fd, Hslot⟩
  iapply (Rounds.wp_send_landing_pointsTo_with 𝒱₀ ER (Rd ctx wo) (c : Thread nD τ) none
    (c' := (peer n c : Thread nD τ)) (src := oSl (offf c) size inb hsl) (dst := dst)
    (κ₁ := K (c, .inr (.inl ⟨n, hn36⟩))) (κ₂ := K (peer n c, .inr (.inr ⟨n, hn36⟩)))
    (r₁ := 0) (r₂ := 0) (d₁ := 0) (d₂ := 0) (fs := cont ctx wo k c) (fd := fd) (F := pack (F := F) n c) (q := fullShare) (W := W)
    (by rw [duties_dma]; exact Finset.mem_singleton_self _) (by rw [duties_dma]; exact Finset.mem_singleton_self _)
    () () (amt n) hN (amount_send ctx wo hn36 c 0) (amount_recv ctx wo hn36 (peer n c) 0) (owed (n + 1) c) (owed_succ hn36 c)
    hpay₁ (hpay₂ fd)) $$ [Hsrc Hslot Hpack HO HtS HtR]
  · isplitr; · iapply (recs_inv ctx wo K (c, .inr (.inl ⟨n, hn36⟩))); iexact Hrec
    isplitr; · iapply (recs_inv ctx wo K (peer n c, .inr (.inr ⟨n, hn36⟩))); iexact Hrec
    isplitl [Hsrc]
    · iapply (Entails.of_eq hpts); iexact Hsrc
    isplitl [Hslot Hpack]
    · isplitl [Hslot]; · iexact Hslot
      iexact Hpack
    isplitl [HO]; · iexact HO
    isplitl [HtS]; · iexact HtS
    isplitr; · iapply (recs_reached ctx wo K (c, .inr (.inl ⟨n, hn36⟩))); iexact Hrec
    isplitl [HtR]; · iexact HtR
    iapply (recs_reached ctx wo K (peer n c, .inr (.inr ⟨n, hn36⟩))); iexact Hrec
  iintro ⟨HcS1, HO⟩
  iapply hk
  unfold St toks credS
  rw [bigSep_last hbs]
  isplitl [HR]; · iexact HR
  isplitr; · iexact Hrec
  isplitl [Hout]
  · rw [← hrest]; iexact Hout
  isplitl [Hheld]; · iexact Hheld
  isplitl [Htok]; · iexact Htok
  isplitl [HpS]; · iexact HpS
  isplitl [HpR]; · iexact HpR
  isplitl [HcS HcS1]
  · isplitl [HcS1]; · iexact HcS1
    iexact HcS
  isplitl [HdS]; · iexact HdS
  isplitl [HdR]; · iexact HdR
  iexists W
  iexact HO

/-- An all-gather send: it writes the next region of the pack, and the rest goes along. -/
theorem send_ag {hsc : (oSl (offf c) size inb hsl : Memref sig (Dev.tc (⟨dvf c, hlt⟩ : Dev nD) : Thread nD τ).2.kind .vmem ⟨2, size⟩ .bf16).view.ref.isScScratch = false}
    {hdst : (oSl (offf c) size inb hsl).view.WordExact}
    {hsem : DmaTarget.Typed .vmem sem (.remote (Dev.tc (⟨dvf c, hlt⟩ : Dev nD) : Thread nD τ) (oSl (offf c) size inb hsl) sS hsc)}
    (n : ℕ)
    (h18 : 18 ≤ n := by decide) (hn : n < 36 := by decide) (hbs : bs ≤ n := by decide) (hacq : acq n ≤ br := by decide)
    (hcl : Classes fun A B => (own (n + 1) bs br A B ↔ own n bs br A B ∧ ¬ sent n A B) ∧ (sent n A B → own n bs br A B) := by decide +kernel)
    (hoff : ∀ c, offf c = ![ro n c.val, co n] := by decide +kernel) (hsize : size = ![128 * hq n, 512] := by rfl)
    (hdv : ∀ c, dvf c = (peer n c).val := by decide +kernel)
    (hsS : sS = .dma (sendSem n) := by rfl) (hsem' : sem = .dma (recvSem n) := by rfl)
    (hN : (oSl (offf c) size inb hsl).view.amount sem = amt n := by rfl)
    (hk : St ctx wo K R (n + 1) bs br 18 c ⊢ WP c (p ⟨⟩) Q) :
    St ctx wo K R n bs br 18 c ⊢ WP c (.op (.enqueueDma (oSl (offf c) size inb hsl) (.remote (Dev.tc (⟨dvf c, hlt⟩ : Dev nD) : Thread nD τ) (oSl (offf c) size inb hsl) sS hsc) sem hsrc hdst hsem) p) Q := by
  subst hsS hsem'
  have hc' : (⟨dvf c, hlt⟩ : Dev nD) = peer n c := Fin.ext (hdv c)
  generalize (⟨dvf c, hlt⟩ : Dev nD) = c' at hc' hsc hsem ⊢
  subst hc'
  obtain ⟨hsub, hrest⟩ := ownSet_send c hcl
  have hpts := oSl_pts (F := F) (h := hsl) (inb := inb) hn (hoff c) hsize
  have hpay₁ : ((oSl (offf c) size inb hsl).view.loc (c : Thread nD τ) ↦[(oSl (offf c) size inb hsl).view.set]{fullShare} total ctx wo : sProp 𝕄)
      ⊢ (Rd ctx wo).payload (sendCell n c) 0 0 := by
    rw [payload_send ctx wo hn]; unfold sendPay; rw [if_neg (show ¬ n < 18 by omega), hpts]
  have hpay₂ : ∀ fd, iprop((((oSl (offf c) size inb hsl).view.loc (peer n c : Thread nD τ)) ↦[(oSl (offf c) size inb hsl).view.set]{fullShare} ((oSl (offf c) size inb hsl).view.write (Elt F) fd
        ((oSl (offf c) size inb hsl).view.read (Elt F) (total ctx wo)) Finset.univ)) ∗ tailPack (F := F) n (peer n c))
      ⊢ (Rd ctx wo).payload (recvCell n (peer n c)) 0 0 := fun fd => by
    rw [payload_recv ctx wo hn]; unfold recvPay; rw [if_neg (show ¬ n < 18 by omega), orig_peer, hpts, View.write_read_eq_piecewise,
      pointsTo_congr (g := total ctx wo) (fun i hi => Finset.piecewise_eq_of_mem _ _ _ hi)]
  unfold St
  rw [cont_last]
  iintro ⟨HR, #Hrec, Hout, Hheld, Htok, HpS, HpR, HcS, HdS, HdR, %W, HO⟩
  ihave Hout := (outPts_split c hsub (total ctx wo)).1 $$ Hout
  icases Hout with ⟨Hsrc, Hout⟩
  ihave Hheld := (Entails.of_eq (held_send hn hacq fun n => pack (F := F) n c)) $$ Hheld
  icases Hheld with ⟨Hpack, Hheld⟩
  ihave Hpack := (Entails.of_eq (pack_gather h18 hn c)) $$ Hpack
  unfold outAny
  icases Hpack with ⟨⟨%fd, Hslot⟩, Hpack⟩
  unfold toks
  ihave Htok := (Entails.of_eq (bigSep_first hn _)) $$ Htok
  icases Htok with ⟨⟨-, HtS, HtR⟩, Htok⟩
  iapply (Rounds.wp_send_pointsTo_with 𝒱₀ ER (Rd ctx wo) (c : Thread nD τ) none
    (c' := (peer n c : Thread nD τ)) (src := oSl (offf c) size inb hsl) (dst := oSl (offf c) size inb hsl)
    (κ₁ := K (c, .inr (.inl ⟨n, hn⟩))) (κ₂ := K (peer n c, .inr (.inr ⟨n, hn⟩)))
    (r₁ := 0) (r₂ := 0) (d₁ := 0) (d₂ := 0) (fs := total ctx wo) (fd := fd) (F := tailPack (F := F) n (peer n c)) (q := fullShare) (W := W)
    (by rw [duties_dma]; exact Finset.mem_singleton_self _) (by rw [duties_dma]; exact Finset.mem_singleton_self _)
    () () (amt n) hN (amount_send ctx wo hn c 0) (amount_recv ctx wo hn (peer n c) 0) (owed (n + 1) c) (owed_succ hn c)
    hpay₁ (hpay₂ fd)) $$ [Hsrc Hslot Hpack HO HtS HtR]
  · isplitr; · iapply (recs_inv ctx wo K (c, .inr (.inl ⟨n, hn⟩))); iexact Hrec
    isplitr; · iapply (recs_inv ctx wo K (peer n c, .inr (.inr ⟨n, hn⟩))); iexact Hrec
    isplitl [Hsrc]
    · iapply (Entails.of_eq (hpts c (total ctx wo))); iexact Hsrc
    isplitl [Hslot Hpack]
    · isplitl [Hslot]
      · iapply (Entails.of_eq (hpts (peer n c) fd)); iexact Hslot
      iexact Hpack
    isplitl [HO]; · iexact HO
    isplitl [HtS]; · iexact HtS
    isplitr; · iapply (recs_reached ctx wo K (c, .inr (.inl ⟨n, hn⟩))); iexact Hrec
    isplitl [HtR]; · iexact HtR
    iapply (recs_reached ctx wo K (peer n c, .inr (.inr ⟨n, hn⟩))); iexact Hrec
  iintro ⟨HcS1, HO⟩
  iapply hk
  unfold St toks credS
  rw [bigSep_last hbs, cont_last]
  isplitl [HR]; · iexact HR
  isplitr; · iexact Hrec
  isplitl [Hout]
  · rw [← hrest]; iexact Hout
  isplitl [Hheld]; · iexact Hheld
  isplitl [Htok]; · iexact Htok
  isplitl [HpS]; · iexact HpS
  isplitl [HpR]; · iexact HpR
  isplitl [HcS HcS1]
  · isplitl [HcS1]; · iexact HcS1
    iexact HcS
  isplitl [HdS]; · iexact HdS
  isplitl [HdR]; · iexact HdR
  iexists W
  iexact HO

end Send

/-! ## Waits -/

section Wait

variable {R : SP F} {n a k : ℕ} {c : Dev nD} {α : Type} {Q : α → SP F} {p : PUnit → Prog (TpuEff nD τ sig (Elt F) Λ₀ .tc) α}

/-- A wait for the one round of a DMA cell: its payload, and the cell at zero. -/
theorem wait_dma (s : DmaSem sig) (i : KI) (hi : csem i = .dma s) {a ℓ N : ℕ} {X : SP F} {W : Waits sig Unit} {s' d' : Shape}
    (hX : bigSep ((Rd ctx wo).duties ((c : Thread nD τ), .dma s) 0 \ ∅) (fun d => (Rd ctx wo).payload ((c : Thread nD τ), .dma s) 0 d) = X)
    (hE : (Rd ctx wo).expect ((c : Thread nD τ), .dma s) 0 = N)
    (hl : lv ((c : Thread nD τ), .dma s) () ≤ ℓ) (ha : ℓ < a + 2)
    {src : Memref sig .tc .vmem s' .bf16} {dst : Memref sig .tc .vmem d' .bf16} {hsrc : src.view.WordExact} {hdst : dst.view.WordExact}
    (hN : dst.view.dmaCredit = N) :
    iprop(recs ctx wo K ∗ cred (tallyAt ((c : Thread nD τ), SemLoc.dma s) () N) ∗ owes (c : Thread nD τ) (owed a c) W ∗ atPos ER ((c : Thread nD τ), SemLoc.dma s) 0 ∅ 0)
      ⊢ iprop(((owes (c : Thread nD τ) (owed a c) (insert (SemLoc.dma s, ()) W) ∗ semVal ((c : Thread nD τ), SemLoc.dma s) 0 ∗ X) -∗ WP c (p ⟨⟩) Q)
          -∗ WP c (.op (.waitDma2 s src dst hsrc hdst) p) Q) := by
  have hinv : recs ctx wo K ⊢ cellInv ER (Rd ctx wo) (K (c, i)) ((c : Thread nD τ), SemLoc.dma s) := by
    have := recs_inv ctx wo K (c, i)
    unfold kcell at this
    rw [hi] at this
    exact this
  have hmay : recs ctx wo K ⊢ MayWait (c : Thread nD τ) (.dma s) () (owed a c) :=
    (recs_levs ctx wo K).trans (mayWait_owed (F := F) c (.dma s) (a := a) (ℓ := ℓ) hl ha)
  iintro ⟨#Hrec, Hc, HO, Hat⟩ Hk
  ihave #HI := hinv $$ Hrec
  iapply (Rounds.wp_wait_rest_token 𝒱₀ ER (Rd ctx wo) (c : Thread nD τ) none (κ := K (c, i))
      (wpE_waitDma2_eq 𝒱₀ (c : Thread nD τ) none Set.univ) (Set.mem_univ _) () (O := owed a c) (W := W) (R := 0) (m := 0) (T := ∅)
      (by rw [Nat.zero_add, hN, hE])) $$ [Hc HO Hat]
  · isplitr; · iexact HI
    isplitl [Hc]; · rw [hN]; iexact Hc
    isplitl [HO]; · iexact HO
    isplitr
    · iapply hmay; iexact Hrec
    iexact Hat
  iintro ⟨HO, Hat, -, Hpay⟩
  imod (Rounds.cell_close ER (Rd ctx wo) (Set.mem_univ (K (c, i))) (fun h => h) (R := 0 + 1) (duties_later ctx wo _)) $$ [Hat] with Hz
  · isplitr; · iexact HI
    iexact Hat
  iapply Hk
  isplitl [HO]; · iexact HO
  isplitl [Hz]; · iexact Hz
  iapply (Entails.of_eq hX); iexact Hpay

section Ops

variable {s' d' : Shape} {src : Memref sig .tc .vmem s' .bf16} {dst : Memref sig .tc .vmem d' .bf16} {hsrc : src.view.WordExact}
  {hdst : dst.view.WordExact} {s : DmaSem sig}

/-- Waiting for a reduce-scatter send: nothing comes back. -/
theorem wait_send_rs {br : ℕ} (n : ℕ) (hn : n < 18 := by decide) (ha : n < a := by decide)
    (hcl : Classes fun A B => own a n br A B ↔ own a (n + 1) br A B := by decide +kernel)
    (hs : s = sendSem n := by rfl) (hN : dst.view.dmaCredit = amt n := by rfl)
    (hk : St ctx wo K R a (n + 1) br k c ⊢ WP c (p ⟨⟩) Q) :
    St ctx wo K R a n br k c ⊢ WP c (.op (.waitDma2 s src dst hsrc hdst) p) Q := by
  subst hs
  have hn36 : n < 36 := by omega
  have hset := ownSet_same c hcl
  unfold St posS credS
  iintro ⟨HR, #Hrec, Hout, Hheld, Htok, HpS, HpR, HcS, HdS, HdR, %W, HO⟩
  ihave HpS := (Entails.of_eq (bigSep_first hn36 _)) $$ HpS
  icases HpS with ⟨Hat, HpS⟩
  ihave HcS := (Entails.of_eq (bigSep_first ha _)) $$ HcS
  icases HcS with ⟨Hc, HcS⟩
  iapply (wait_dma ctx wo K (sendSem n) (.inr (.inl ⟨n, hn36⟩)) rfl (a := a) (W := W) (ℓ := 0) (rest_send ctx wo hn36 c) (expect_send ctx wo hn36 c)
    (le_of_eq (lv_send hn36 c)) (by omega) hN) $$ [Hc HO Hat]
  · isplitr; · iexact Hrec
    isplitl [Hc]; · iexact Hc
    isplitl [HO]; · iexact HO
    iexact Hat
  iintro ⟨HO, Hz, -⟩
  iapply hk
  unfold St posS credS doneS
  rw [bigSep_next, ← hset]
  isplitl [HR]; · iexact HR
  isplitr; · iexact Hrec
  isplitl [Hout]; · iexact Hout
  isplitl [Hheld]; · iexact Hheld
  isplitl [Htok]; · iexact Htok
  isplitl [HpS]; · iexact HpS
  isplitl [HpR]; · iexact HpR
  isplitl [HcS]; · iexact HcS
  isplitl [HdS Hz]
  · isplitl [Hz]; · iexact Hz
    iexact HdS
  isplitl [HdR]; · iexact HdR
  iexists _
  iexact HO

/-- Waiting for an all-gather send: the source region comes back. -/
theorem wait_send_ag {br : ℕ} (n : ℕ) (h18 : 18 ≤ n := by decide) (hn : n < 36 := by decide) (ha : n < a := by decide)
    (hcl : Classes fun A B => (own a (n + 1) br A B ↔ own a n br A B ∨ sent n A B) ∧ ¬ (own a n br A B ∧ sent n A B) := by decide +kernel)
    (hs : s = sendSem n := by rfl) (hN : dst.view.dmaCredit = amt n := by rfl)
    (hk : St ctx wo K R a (n + 1) br 18 c ⊢ WP c (p ⟨⟩) Q) :
    St ctx wo K R a n br 18 c ⊢ WP c (.op (.waitDma2 s src dst hsrc hdst) p) Q := by
  subst hs
  obtain ⟨hdis, hun⟩ := ownSet_back c hcl
  unfold St posS credS
  rw [cont_last]
  iintro ⟨HR, #Hrec, Hout, Hheld, Htok, HpS, HpR, HcS, HdS, HdR, %W, HO⟩
  ihave HpS := (Entails.of_eq (bigSep_first hn _)) $$ HpS
  icases HpS with ⟨Hat, HpS⟩
  ihave HcS := (Entails.of_eq (bigSep_first ha _)) $$ HcS
  icases HcS with ⟨Hc, HcS⟩
  iapply (wait_dma ctx wo K (sendSem n) (.inr (.inl ⟨n, hn⟩)) rfl (a := a) (W := W) (ℓ := 0) (rest_send ctx wo hn c) (expect_send ctx wo hn c)
    (le_of_eq (lv_send hn c)) (by omega) hN) $$ [Hc HO Hat]
  · isplitr; · iexact Hrec
    isplitl [Hc]; · iexact Hc
    isplitl [HO]; · iexact HO
    iexact Hat
  unfold sendPay
  rw [if_neg (show ¬ n < 18 by omega)]
  iintro ⟨HO, Hz, Hback⟩
  iapply hk
  unfold St posS credS doneS
  rw [bigSep_next, ← hun, cont_last]
  isplitl [HR]; · iexact HR
  isplitr; · iexact Hrec
  isplitl [Hout Hback]
  · iapply (outPts_union c hdis (total ctx wo)).2
    isplitl [Hout]; · iexact Hout
    iexact Hback
  isplitl [Hheld]; · iexact Hheld
  isplitl [Htok]; · iexact Htok
  isplitl [HpS]; · iexact HpS
  isplitl [HpR]; · iexact HpR
  isplitl [HcS]; · iexact HcS
  isplitl [HdS Hz]
  · isplitl [Hz]; · iexact Hz
    iexact HdS
  isplitl [HdR]; · iexact HdR
  iexists _
  iexact HO

/-- Waiting for a reduce-scatter transfer: the staging slot has landed, and the pack for the next send. -/
theorem wait_recv_rs {bs : ℕ} (n : ℕ) (hn : n < 18 := by decide) (ha : n < a := by decide) (has : a ≤ succ n := by decide)
    (hcl : Classes fun A B => own a bs n A B ↔ own a bs (n + 1) A B := by decide +kernel)
    (hs : s = recvSem n := by rfl) (hN : dst.view.dmaCredit = amt n := by rfl)
    (hk : St ctx wo K R a bs (n + 1) k c ⊢ WP c (p ⟨⟩) Q) :
    St ctx wo K R a bs n k c ⊢ WP c (.op (.waitDma2 s src dst hsrc hdst) p) Q := by
  subst hs
  have hn36 : n < 36 := by omega
  have hsn : succ n < 36 := by unfold succ; (repeat' split) <;> omega
  have hset := ownSet_same c hcl
  unfold St posR
  iintro ⟨HR, #Hrec, Hout, Hheld, Htok, HpS, HpR, HcS, HdS, HdR, %W, HO⟩
  ihave HpR := (Entails.of_eq (bigSep_first hn36 _)) $$ HpR
  icases HpR with ⟨⟨Hat, Hc⟩, HpR⟩
  iapply (wait_dma ctx wo K (recvSem n) (.inr (.inr ⟨n, hn36⟩)) rfl (a := a) (W := W) (ℓ := n + 2) (rest_recv ctx wo hn36 c) (expect_recv ctx wo hn36 c)
    (le_of_eq (lv_recv hn36 c)) (by omega) hN) $$ [Hc HO Hat]
  · isplitr; · iexact Hrec
    isplitl [Hc]; · iexact Hc
    isplitl [HO]; · iexact HO
    iexact Hat
  unfold recvPay
  rw [if_pos hn]
  iintro ⟨HO, Hz, Hfull, Hpack⟩
  iapply hk
  unfold St posR doneR
  rw [bigSep_next, ← hset, held_recv hn36 hsn has]
  isplitl [HR]; · iexact HR
  isplitr; · iexact Hrec
  isplitl [Hout]; · iexact Hout
  isplitl [Hheld Hpack]
  · isplitl [Hpack]; · iexact Hpack
    iexact Hheld
  isplitl [Htok]; · iexact Htok
  isplitl [HpS]; · iexact HpS
  isplitl [HpR]; · iexact HpR
  isplitl [HcS]; · iexact HcS
  isplitl [HdS]; · iexact HdS
  isplitl [HdR Hz Hfull]
  · isplitl [Hz Hfull]
    · isplitl [Hz]; · iexact Hz
      iexact Hfull
    iexact HdR
  iexists _
  iexact HO

/-- Waiting for an all-gather transfer: the device's own region comes back, finished, and what is left of the pack. -/
theorem wait_recv_ag {bs : ℕ} (n : ℕ) (h18 : 18 ≤ n := by decide) (hn : n < 36 := by decide) (ha : n < a := by decide)
    (hcs : (n < 22 ∨ 24 ≤ n) ∧ n < 32 ∧ succ n < 36 ∧ a ≤ succ n ∨ 36 ≤ succ n := by decide)
    (hcl : Classes fun A B => (own a bs (n + 1) A B ↔ own a bs n A B ∨ rcvd n A B) ∧ ¬ (own a bs n A B ∧ rcvd n A B) := by decide +kernel)
    (hs : s = recvSem n := by rfl) (hN : dst.view.dmaCredit = amt n := by rfl)
    (hk : St ctx wo K R a bs (n + 1) 18 c ⊢ WP c (p ⟨⟩) Q) :
    St ctx wo K R a bs n 18 c ⊢ WP c (.op (.waitDma2 s src dst hsrc hdst) p) Q := by
  subst hs
  obtain ⟨hdis, hun⟩ := ownSet_land hn c hcl
  have hheld : iprop(tailPack (F := F) n c ∗ bigSep (held a n) fun n => pack (F := F) n c) ⊢ bigSep (held a (n + 1)) fun n => pack (F := F) n c := by
    rcases hcs with ⟨h1, h2, h3, h4⟩ | h1
    · rw [held_recv hn h3 h4, tail_pack h18 h1 h2 c]
    · rw [held_last hn h1]
      iintro ⟨-, H⟩
      iexact H
  have hfull : (slotFull ctx wo n c : sProp 𝕄) = iprop(emp) := by
    unfold slotFull; rw [if_neg (by omega), if_neg (by omega)]
  unfold St posR
  rw [cont_last]
  iintro ⟨HR, #Hrec, Hout, Hheld, Htok, HpS, HpR, HcS, HdS, HdR, %W, HO⟩
  ihave HpR := (Entails.of_eq (bigSep_first hn _)) $$ HpR
  icases HpR with ⟨⟨Hat, Hc⟩, HpR⟩
  iapply (wait_dma ctx wo K (recvSem n) (.inr (.inr ⟨n, hn⟩)) rfl (a := a) (W := W) (ℓ := n + 2) (rest_recv ctx wo hn c) (expect_recv ctx wo hn c)
    (le_of_eq (lv_recv hn c)) (by omega) hN) $$ [Hc HO Hat]
  · isplitr; · iexact Hrec
    isplitl [Hc]; · iexact Hc
    isplitl [HO]; · iexact HO
    iexact Hat
  unfold recvPay
  rw [if_neg (show ¬ n < 18 by omega)]
  iintro ⟨HO, Hz, Hland, Hpack⟩
  iapply hk
  unfold St posR doneR
  rw [bigSep_next, ← hun, cont_last, hfull]
  isplitl [HR]; · iexact HR
  isplitr; · iexact Hrec
  isplitl [Hout Hland]
  · iapply (outPts_union c hdis (total ctx wo)).2
    isplitl [Hout]; · iexact Hout
    iexact Hland
  isplitl [Hheld Hpack]
  · iapply hheld
    isplitl [Hpack]; · iexact Hpack
    iexact Hheld
  isplitl [Htok]; · iexact Htok
  isplitl [HpS]; · iexact HpS
  isplitl [HpR]; · iexact HpR
  isplitl [HcS]; · iexact HcS
  isplitl [HdS]; · iexact HdS
  isplitl [HdR Hz]
  · isplitl [Hz]
    · isplitl [Hz]; · iexact Hz
      iempintro
    iexact HdR
  iexists _
  iexact HO

end Ops

end Wait

end Cert.RingProof

end
-- ==== Proof.Ops.lean ====
/-
# Loads and additions, as steps between states
-/
module

public import proofs.«01_k».proof.Proof.Sends

@[expose] public section

set_option maxRecDepth 10000

noncomputable section

namespace Cert.RingProof

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (ctx : Dev nD → S2048x1024.Idx → Elt F .bf16) (wo : Dev nD → S1024x1024.Idx → Elt F .bf16)
variable (K : Dev nD × KI → ℕ)

section Out

variable {R : SP F} {n a bs br k : ℕ} {c : Dev nD} {α : Type} {Q : α → SP F}
variable {size : Fin 2 → ℕ} {offf : Dev nD → Fin 2 → ℕ} {inb : ∀ a, offf c a + size a ≤ S2048x1024.size a}

/-- The region of the output that channel `n` adds to, as the set of a rectangle. -/
theorem add_set (hn : n < 36) (hoff : ∀ c, offf c = ![ro n (orig n c).val, co n]) (hsize : size = ![128 * hq n, 512]) :
    ((oM.access (Rect.unit (s := S2048x1024) (offf c) size inb)).set : Finset S2048x1024.Idx) = reg n (orig n c) := by
  have h1 : ((oM.access (Rect.unit (s := S2048x1024) (offf c) size inb)).set : Finset S2048x1024.Idx)
      = (Rect.unit (s := S2048x1024) (offf c) size inb).set := View.set_slice_whole cc0_stg2_0 _
  rw [h1]
  exact unit_set hn (hoff c) hsize

/-- A load of the region that channel `n`'s addition is to. -/
theorem load_out (n : ℕ) {p : ((⟨2, size⟩ : Shape).Idx → Elt F .bf16) → Prog (TpuEff nD τ sig (Elt F) Λ₀ .tc) α}
    {hl : oM.view.LoadsAt (Rect.unit (s := S2048x1024) (offf c) size inb).toLoadRect}
    (hn : n < 36 := by decide)
    (hcl : Classes fun A B => rcvd n A B → own a bs br A B := by decide +kernel)
    (hoff : ∀ c, offf c = ![ro n (orig n c).val, co n] := by decide +kernel) (hsize : size = ![128 * hq n, 512] := by rfl)
    (hk : ∀ v : (⟨2, size⟩ : Shape).Idx → Elt F .bf16, (∀ x, v x = cont ctx wo k c (at2 (ro n (orig n c).val + (x 0).val) (co n + (x 1).val))) →
      St ctx wo K R a bs br k c ⊢ WP c (p v) Q) :
    St ctx wo K R a bs br k c ⊢ WP c (.op (.load oM (Rect.unit (s := S2048x1024) (offf c) size inb).toLoadRect hl) p) Q := by
  have hsub : ((oM.access (Rect.unit (s := S2048x1024) (offf c) size inb)).set : Finset S2048x1024.Idx) ⊆ ownSet a bs br c := by
    rw [add_set hn hoff hsize]; exact reg_subset hn c hcl
  have hv : ∀ x, (oM.access (Rect.unit (s := S2048x1024) (offf c) size inb)).read (Elt F) (cont ctx wo k c) x
      = cont ctx wo k c (at2 (ro n (orig n c).val + (x 0).val) (co n + (x 1).val)) := fun x => by
    show cont ctx wo k c ((Rect.unit (s := S2048x1024) (offf c) size inb).emb x) = _
    rw [rect_emb, congrFun (hoff c) 0, congrFun (hoff c) 1]
    rfl
  have hk' := hk _ hv
  unfold St at hk' ⊢
  unfold outPts at hk' ⊢
  iintro ⟨HR, #Hrec, Hout, Hrest⟩
  iapply (wp_load_rect 𝒱₀ (c : Thread nD τ) none Set.univ (m := oM) hsub) $$ Hout
  iintro Hout
  iapply hk'
  isplitl [HR]; · iexact HR
  isplitr; · iexact Hrec
  isplitl [Hout]; · iexact Hout
  iexact Hrest

/-- The addition itself: the sum goes over the region. -/
theorem store_add (n : ℕ) {p : PUnit → Prog (TpuEff nD τ sig (Elt F) Λ₀ .tc) α} {v : (⟨2, size⟩ : Shape).Idx → Elt F .bf16}
    {hx : (oM.access (Rect.unit (s := S2048x1024) (offf c) size inb)).Stores Finset.univ}
    {hm : Finset.univ = Finset.univ ∨ ∀ a, (Rect.unit (s := S2048x1024) (offf c) size inb).stride a = 1}
    (hn : n < 18 := by decide)
    (hcl : Classes fun A B => (rcvd n A B → own a bs br A B)
      ∧ (own a bs br A B → ¬ rcvd n A B → (n = 11 → 12 ≤ A) ∧ (n = 17 → 12 ≤ A → 18 ≤ B)) := by decide +kernel)
    (hoff : ∀ c, offf c = ![ro n (orig n c).val, co n] := by decide +kernel) (hsize : size = ![128 * hq n, 512] := by rfl)
    (hv : ∀ x, v x = FloatOps.addf (φ := .bf16) (cont ctx wo n c (at2 (ro n (orig n c).val + (x 0).val) (co n + (x 1).val)))
      (landVal ctx wo n c (x 0).val (x 1).val))
    (hk : St ctx wo K R a bs br (n + 1) c ⊢ WP c (p ⟨⟩) Q) :
    St ctx wo K R a bs br n c ⊢ WP c (.op (.store oM (Rect.unit (s := S2048x1024) (offf c) size inb) v Finset.univ hx hm) p) Q := by
  have hn36 : n < 36 := by omega
  have hset := add_set (inb := inb) hn36 hoff hsize
  have hsub : ((oM.access (Rect.unit (s := S2048x1024) (offf c) size inb)).setOn Finset.univ : Finset S2048x1024.Idx) ⊆ ownSet a bs br c := by
    rw [View.setOn_univ, hset]; exact reg_subset hn36 c fun A B hB => (hcl A B hB).1
  have hw : ∀ i ∈ ownSet a bs br c, (oM.access (Rect.unit (s := S2048x1024) (offf c) size inb)).write (Elt F) (cont ctx wo n c) v Finset.univ i
      = cont ctx wo (n + 1) c i := fun i hi => by
    by_cases hr : i ∈ reg n (orig n c)
    · rw [← hset] at hr
      obtain ⟨x, -, rfl⟩ := Finset.mem_map.mp hr
      have he : (oM.access (Rect.unit (s := S2048x1024) (offf c) size inb)).emb x = at2 (ro n (orig n c).val + (x 0).val) (co n + (x 1).val) := by
        have := rect_emb (inb := inb) x
        rw [congrFun (hoff c) 0, congrFun (hoff c) 1] at this
        exact this
      rw [View.write_emb_of_mem _ _ (Finset.mem_univ x)]
      show v x = _
      rw [hset] at hr
      rw [hv, cont_add ctx wo hn hr, he]
      rfl
    · rw [View.write_of_not_mem _ _ _ (by rw [View.setOn_univ, hset]; exact hr)]
      have h1 := (mem_ownSet.mp hi)
      have h2 := (hcl.at c.val (i 0).val (i 1).val).2 h1 (fun h => hr ((mem_reg_orig hn36).mpr h))
      exact (cont_stay ctx wo hn hr h2.1 h2.2).symm
  unfold St at hk ⊢
  unfold outPts at hk ⊢
  iintro ⟨HR, #Hrec, Hout, Hrest⟩
  iapply (wp_store 𝒱₀ (c : Thread nD τ) none Set.univ (m := oM) hsub) $$ Hout
  iintro Hout
  iapply hk
  isplitl [HR]; · iexact HR
  isplitr; · iexact Hrec
  isplitl [Hout]
  · iapply (Entails.of_eq (pointsTo_congr hw)); iexact Hout
  iexact Hrest

end Out

/-! ## The staging slots -/

section Slot

variable {m a b : ℕ}

/-- A memref and a rectangle of it that read channel `n`'s staging slot. -/
def ReadsSlot (n : ℕ) (M : Memref sig .tc .vmem ⟨3, ![m, a, b]⟩ .bf16) (r : Rect ⟨3, ![m, a, b]⟩) (g : r.shape.Idx → ℕ × ℕ) : Prop :=
  ∀ c : Dev nD, ∃ S f, (M.access r).set ⊆ S ∧ slotFull ctx wo n c = ((M.access r).loc (c : Thread nD τ) ↦[S]{fullShare} f)
    ∧ ∀ x, (M.access r).read (Elt F) f x = landVal ctx wo n c (g x).1 (g x).2

theorem load_slot {R : SP F} {n x0 bs br k : ℕ} {c : Dev nD} {α : Type} {Q : α → SP F} {M : Memref sig .tc .vmem ⟨3, ![m, a, b]⟩ .bf16}
    {off : Fin 3 → ℕ} {inb : ∀ i, off i + (⟨3, ![1, a, b]⟩ : Shape).size i ≤ (⟨3, ![m, a, b]⟩ : Shape).size i}
    {p : ((⟨3, ![1, a, b]⟩ : Shape).Idx → Elt F .bf16) → Prog (TpuEff nD τ sig (Elt F) Λ₀ .tc) α}
    {hl : M.view.LoadsAt (Rect.unit (s := ⟨3, ![m, a, b]⟩) off (⟨3, ![1, a, b]⟩ : Shape).size inb).toLoadRect}
    (hM : ReadsSlot ctx wo n M (Rect.unit (s := ⟨3, ![m, a, b]⟩) off (⟨3, ![1, a, b]⟩ : Shape).size inb) (fun x => ((x 1).val, (x 2).val)))
    (hn : n < br := by decide)
    (hk : ∀ w : (⟨3, ![1, a, b]⟩ : Shape).Idx → Elt F .bf16, (∀ x, w x = landVal ctx wo n c (x 1).val (x 2).val) →
      St ctx wo K R x0 bs br k c ⊢ WP c (p w) Q) :
    St ctx wo K R x0 bs br k c ⊢ WP c (.op (.load M (Rect.unit (s := ⟨3, ![m, a, b]⟩) off (⟨3, ![1, a, b]⟩ : Shape).size inb).toLoadRect hl) p) Q := by
  obtain ⟨S, f, hS, hfull, hread⟩ := hM c
  have hk' := hk _ hread
  have herase : (doneR ctx wo br c : SP F) = iprop((semVal (recvCell n c) 0 ∗ slotFull ctx wo n c)
      ∗ bigSep ((Finset.range br).erase n) fun n => iprop(semVal (recvCell n c) 0 ∗ slotFull ctx wo n c)) := by
    unfold doneR
    exact bigSep_erase (Finset.mem_range.mpr hn)
  unfold St at hk' ⊢
  rw [herase, hfull] at hk' ⊢
  iintro ⟨HR, #Hrec, Hout, Hheld, Htok, HpS, HpR, HcS, HdS, ⟨⟨Hz, Hs⟩, HdR⟩, HO⟩
  iapply (wp_load_rect 𝒱₀ (c : Thread nD τ) none Set.univ (m := M) hS) $$ Hs
  iintro Hs
  iapply hk'
  isplitl [HR]; · iexact HR
  isplitr; · iexact Hrec
  isplitl [Hout]; · iexact Hout
  isplitl [Hheld]; · iexact Hheld
  isplitl [Htok]; · iexact Htok
  isplitl [HpS]; · iexact HpS
  isplitl [HpR]; · iexact HpR
  isplitl [HcS]; · iexact HcS
  isplitl [HdS]; · iexact HdS
  isplitl [Hz Hs HdR]
  · isplitl [Hz Hs]
    · isplitl [Hz]; · iexact Hz
      iexact Hs
    iexact HdR
  iexact HO

/-- An element of a one-slot rectangle. -/
theorem slot_elem {off : Fin 3 → ℕ} {inb : ∀ i, off i + (⟨3, ![1, a, b]⟩ : Shape).size i ≤ (⟨3, ![m, a, b]⟩ : Shape).size i} {j : ℕ}
    (hoff : off = ![j, 0, 0]) (x : (⟨3, ![1, a, b]⟩ : Shape).Idx) :
    (((Rect.unit (s := ⟨3, ![m, a, b]⟩) off (⟨3, ![1, a, b]⟩ : Shape).size inb).emb x 0).val = j)
      ∧ (((Rect.unit (s := ⟨3, ![m, a, b]⟩) off (⟨3, ![1, a, b]⟩ : Shape).size inb).emb x 1).val = (x 1).val)
      ∧ (((Rect.unit (s := ⟨3, ![m, a, b]⟩) off (⟨3, ![1, a, b]⟩ : Shape).size inb).emb x 2).val = (x 2).val) := by
  subst hoff
  have h0 : (x 0).val < 1 := (x 0).isLt
  refine ⟨?_, ?_, ?_⟩ <;> rw [Rect.emb_apply]
  · show j + 1 * (x 0).val = j; omega
  · show 0 + 1 * (x 1).val = (x 1).val; omega
  · show 0 + 1 * (x 2).val = (x 2).val; omega

end Slot

section Families

variable {off : Fin 3 → ℕ}

theorem readsA0 {j : ℕ} (hj : j < 6) {inb} (hoff : off = ![j, 0, 0] := by rfl) :
    ReadsSlot ctx wo (m := 6) (a := 256) (b := 512) (2 * j) (Memref.whole cc0_scratch0)
      (Rect.unit (s := ⟨3, ![6, 256, 512]⟩) off (⟨3, ![1, 256, 512]⟩ : Shape).size inb) (fun x => ((x 1).val, (x 2).val)) := fun c => by
  refine ⟨slotA j, stagA ctx wo 0 c, ?_, ?_, fun x => ?_⟩
  · intro i hi
    obtain ⟨x, -, rfl⟩ := Finset.mem_map.mp hi
    exact Finset.mem_filter.mpr ⟨Finset.mem_univ _, (slot_elem (inb := inb) hoff x).1⟩
  · unfold slotFull
    rw [if_pos (show 2 * j < 12 by omega), if_pos (show (2 * j) % 2 = 0 by omega), show (2 * j) / 2 = j by omega]
  · obtain ⟨h0, h1, h2⟩ := slot_elem (inb := inb) hoff x
    show landVal ctx wo (2 * ((Rect.unit (s := ⟨3, ![6, 256, 512]⟩) off (⟨3, ![1, 256, 512]⟩ : Shape).size inb).emb x 0).val + 0) c ((Rect.unit (s := ⟨3, ![6, 256, 512]⟩) off (⟨3, ![1, 256, 512]⟩ : Shape).size inb).emb x 1).val
      ((Rect.unit (s := ⟨3, ![6, 256, 512]⟩) off (⟨3, ![1, 256, 512]⟩ : Shape).size inb).emb x 2).val = landVal ctx wo (2 * j) c (x 1).val (x 2).val
    rw [h0, h1, h2, Nat.add_zero]

theorem readsA1 {j : ℕ} (hj : j < 6) {inb} (hoff : off = ![j, 0, 0] := by rfl) :
    ReadsSlot ctx wo (m := 6) (a := 256) (b := 512) (2 * j + 1) (Memref.whole cc0_scratch1)
      (Rect.unit (s := ⟨3, ![6, 256, 512]⟩) off (⟨3, ![1, 256, 512]⟩ : Shape).size inb) (fun x => ((x 1).val, (x 2).val)) := fun c => by
  refine ⟨slotA j, stagA ctx wo 1 c, ?_, ?_, fun x => ?_⟩
  · intro i hi
    obtain ⟨x, -, rfl⟩ := Finset.mem_map.mp hi
    exact Finset.mem_filter.mpr ⟨Finset.mem_univ _, (slot_elem (inb := inb) hoff x).1⟩
  · unfold slotFull
    rw [if_pos (show 2 * j + 1 < 12 by omega), if_neg (show ¬ (2 * j + 1) % 2 = 0 by omega), show (2 * j + 1) / 2 = j by omega]
  · obtain ⟨h0, h1, h2⟩ := slot_elem (inb := inb) hoff x
    show landVal ctx wo (2 * ((Rect.unit (s := ⟨3, ![6, 256, 512]⟩) off (⟨3, ![1, 256, 512]⟩ : Shape).size inb).emb x 0).val + 1) c ((Rect.unit (s := ⟨3, ![6, 256, 512]⟩) off (⟨3, ![1, 256, 512]⟩ : Shape).size inb).emb x 1).val
      ((Rect.unit (s := ⟨3, ![6, 256, 512]⟩) off (⟨3, ![1, 256, 512]⟩ : Shape).size inb).emb x 2).val = landVal ctx wo (2 * j + 1) c (x 1).val (x 2).val
    rw [h0, h1, h2]

theorem readsB0 {j : ℕ} (hj : j < 3) {inb} (hoff : off = ![j, 0, 0] := by rfl) :
    ReadsSlot ctx wo (m := 3) (a := 128) (b := 512) (12 + 2 * j) (Memref.whole cc0_scratch2)
      (Rect.unit (s := ⟨3, ![3, 128, 512]⟩) off (⟨3, ![1, 128, 512]⟩ : Shape).size inb) (fun x => ((x 1).val, (x 2).val)) := fun c => by
  refine ⟨slotB j, stagB ctx wo 0 c, ?_, ?_, fun x => ?_⟩
  · intro i hi
    obtain ⟨x, -, rfl⟩ := Finset.mem_map.mp hi
    exact Finset.mem_filter.mpr ⟨Finset.mem_univ _, (slot_elem (inb := inb) hoff x).1⟩
  · unfold slotFull
    rw [if_neg (show ¬ 12 + 2 * j < 12 by omega), if_pos (show 12 + 2 * j < 18 by omega), if_pos (show (12 + 2 * j) % 2 = 0 by omega),
      show (12 + 2 * j - 12) / 2 = j by omega]
  · obtain ⟨h0, h1, h2⟩ := slot_elem (inb := inb) hoff x
    show landVal ctx wo (12 + 2 * ((Rect.unit (s := ⟨3, ![3, 128, 512]⟩) off (⟨3, ![1, 128, 512]⟩ : Shape).size inb).emb x 0).val + 0) c ((Rect.unit (s := ⟨3, ![3, 128, 512]⟩) off (⟨3, ![1, 128, 512]⟩ : Shape).size inb).emb x 1).val
      ((Rect.unit (s := ⟨3, ![3, 128, 512]⟩) off (⟨3, ![1, 128, 512]⟩ : Shape).size inb).emb x 2).val = landVal ctx wo (12 + 2 * j) c (x 1).val (x 2).val
    rw [h0, h1, h2, Nat.add_zero]

theorem readsB1 {j : ℕ} (hj : j < 3) {inb} (hoff : off = ![j, 0, 0] := by rfl) :
    ReadsSlot ctx wo (m := 3) (a := 128) (b := 512) (12 + 2 * j + 1) (Memref.whole cc0_scratch3)
      (Rect.unit (s := ⟨3, ![3, 128, 512]⟩) off (⟨3, ![1, 128, 512]⟩ : Shape).size inb) (fun x => ((x 1).val, (x 2).val)) := fun c => by
  refine ⟨slotB j, stagB ctx wo 1 c, ?_, ?_, fun x => ?_⟩
  · intro i hi
    obtain ⟨x, -, rfl⟩ := Finset.mem_map.mp hi
    exact Finset.mem_filter.mpr ⟨Finset.mem_univ _, (slot_elem (inb := inb) hoff x).1⟩
  · unfold slotFull
    rw [if_neg (show ¬ 12 + 2 * j + 1 < 12 by omega), if_pos (show 12 + 2 * j + 1 < 18 by omega), if_neg (show ¬ (12 + 2 * j + 1) % 2 = 0 by omega),
      show (12 + 2 * j + 1 - 12) / 2 = j by omega]
  · obtain ⟨h0, h1, h2⟩ := slot_elem (inb := inb) hoff x
    show landVal ctx wo (12 + 2 * ((Rect.unit (s := ⟨3, ![3, 128, 512]⟩) off (⟨3, ![1, 128, 512]⟩ : Shape).size inb).emb x 0).val + 1) c ((Rect.unit (s := ⟨3, ![3, 128, 512]⟩) off (⟨3, ![1, 128, 512]⟩ : Shape).size inb).emb x 1).val
      ((Rect.unit (s := ⟨3, ![3, 128, 512]⟩) off (⟨3, ![1, 128, 512]⟩ : Shape).size inb).emb x 2).val = landVal ctx wo (12 + 2 * j + 1) c (x 1).val (x 2).val
    rw [h0, h1, h2]

end Families

/-! ## The sum -/

/-- An element of the sum of what the output and the staging slot held. -/
theorem sum_elem {a b : ℕ} (v : (⟨2, ![a, b]⟩ : Shape).Idx → Elt F .bf16) (w : (⟨3, ![1, a, b]⟩ : Shape).Idx → Elt F .bf16)
    (h1 : (⟨2, ![a, b]⟩ : Shape).ShapeCasts ⟨2, ![a, b]⟩) (h2 : (⟨3, ![1, a, b]⟩ : Shape).ShapeCasts ⟨2, ![a, b]⟩)
    {g : ℕ → ℕ → Elt F .bf16} {f : ℕ → ℕ → Elt F .bf16} (hv : ∀ x, v x = f (x 0).val (x 1).val) (hw : ∀ x, w x = g (x 1).val (x 2).val)
    (x : (⟨2, ![a, b]⟩ : Shape).Idx) :
    (addf (shapeCast ⟨2, ![a, b]⟩ v h1) (shapeCast ⟨2, ![a, b]⟩ w h2) : FVec F ⟨2, ![a, b]⟩ .bf16) x
      = FloatOps.addf (φ := .bf16) (f (x 0).val (x 1).val) (g (x 0).val (x 1).val) := by
  obtain ⟨p, q, rfl⟩ : ∃ (p : Fin a) (q : Fin b), x = ix2 p q := ⟨x 0, x 1, funext fun i => by
    match i with
    | ⟨0, _⟩ => rfl
    | ⟨1, _⟩ => rfl⟩
  show FloatOps.addf (φ := .bf16) (shapeCast ⟨2, ![a, b]⟩ v h1 (ix2 p q)) (shapeCast ⟨2, ![a, b]⟩ w h2 (ix2 p q)) = _
  rw [shapeCast_self, shapeCast_1ab_ab_apply, hv, hw]
  rfl

/-- A vector that is what device `c` holds where addition `n` goes, after `k` additions; -/
def AtOut (n k : ℕ) (c : Dev nD) {a b : ℕ} (v : (⟨2, ![a, b]⟩ : Shape).Idx → Elt F .bf16) : Prop :=
  ∀ x, v x = cont ctx wo k c (at2 (ro n (orig n c).val + (x 0).val) (co n + (x 1).val))
/-- one that is what channel `n` left in the staging slot; -/
def AtSlot (n : ℕ) (c : Dev nD) {a b : ℕ} (w : (⟨3, ![1, a, b]⟩ : Shape).Idx → Elt F .bf16) : Prop :=
  ∀ x, w x = landVal ctx wo n c (x 1).val (x 2).val
/-- their sum. -/
def IsSum (n : ℕ) (c : Dev nD) {a b : ℕ} (u : (⟨2, ![a, b]⟩ : Shape).Idx → Elt F .bf16) : Prop :=
  ∀ x, u x = FloatOps.addf (φ := .bf16) (cont ctx wo n c (at2 (ro n (orig n c).val + (x 0).val) (co n + (x 1).val)))
    (landVal ctx wo n c (x 0).val (x 1).val)

theorem isSum {n : ℕ} {c : Dev nD} {a b : ℕ} {v : (⟨2, ![a, b]⟩ : Shape).Idx → Elt F .bf16} {w : (⟨3, ![1, a, b]⟩ : Shape).Idx → Elt F .bf16}
    (h1 : (⟨2, ![a, b]⟩ : Shape).ShapeCasts ⟨2, ![a, b]⟩) (h2 : (⟨3, ![1, a, b]⟩ : Shape).ShapeCasts ⟨2, ![a, b]⟩)
    (hv : AtOut ctx wo n n c v) (hw : AtSlot ctx wo n c w) :
    IsSum ctx wo n c (addf (shapeCast ⟨2, ![a, b]⟩ v h1) (shapeCast ⟨2, ![a, b]⟩ w h2) : FVec F ⟨2, ![a, b]⟩ .bf16) := fun x =>
  sum_elem v w h1 h2 (f := fun p q => cont ctx wo n c (at2 (ro n (orig n c).val + p) (co n + q))) (g := landVal ctx wo n c) hv hw x

theorem isSum' {n : ℕ} {c : Dev nD} {a b : ℕ} {v : (⟨2, ![a, b]⟩ : Shape).Idx → Elt F .bf16} {w : (⟨3, ![1, a, b]⟩ : Shape).Idx → Elt F .bf16}
    (h1 : (⟨2, ![a, b]⟩ : Shape).ShapeCasts ⟨2, ![a, b]⟩) (h2 : (⟨3, ![1, a, b]⟩ : Shape).ShapeCasts ⟨2, ![a, b]⟩)
    (hv : AtOut ctx wo n n c v) (hw : AtSlot ctx wo n c w) :
    IsSum ctx wo n c (addf v (shapeCast ⟨2, ![a, b]⟩ w h2) : FVec F ⟨2, ![a, b]⟩ .bf16) := by
  have h := isSum ctx wo h1 h2 hv hw
  rwa [shapeCast_self] at h

/-- A whole addition: both loads, the load whose value is not used, and the store. -/
theorem add_rs {R : SP F} {x0 bs br : ℕ} {c : Dev nD} {α : Type} {Q : α → SP F} {m a b : ℕ} (n : ℕ)
    {offf : Dev nD → Fin 2 → ℕ} {inb inb' inb'' : ∀ i, offf c i + (![a, b] : Fin 2 → ℕ) i ≤ S2048x1024.size i}
    {M : Memref sig .tc .vmem ⟨3, ![m, a, b]⟩ .bf16}
    {off : Fin 3 → ℕ} {inbM : ∀ i, off i + (⟨3, ![1, a, b]⟩ : Shape).size i ≤ (⟨3, ![m, a, b]⟩ : Shape).size i}
    {hl : oM.view.LoadsAt (Rect.unit (s := S2048x1024) (offf c) ![a, b] inb).toLoadRect}
    {hl' : oM.view.LoadsAt (Rect.unit (s := S2048x1024) (offf c) ![a, b] inb').toLoadRect}
    {hlM : M.view.LoadsAt (Rect.unit (s := ⟨3, ![m, a, b]⟩) off (⟨3, ![1, a, b]⟩ : Shape).size inbM).toLoadRect}
    {hx : (oM.access (Rect.unit (s := S2048x1024) (offf c) ![a, b] inb'')).Stores Finset.univ}
    {hm : Finset.univ = Finset.univ ∨ ∀ i, (Rect.unit (s := S2048x1024) (offf c) ![a, b] inb'').stride i = 1}
    {pay : ((⟨2, ![a, b]⟩ : Shape).Idx → Elt F .bf16) → ((⟨3, ![1, a, b]⟩ : Shape).Idx → Elt F .bf16) → (⟨2, ![a, b]⟩ : Shape).Idx → Elt F .bf16}
    {p : PUnit → Prog (TpuEff nD τ sig (Elt F) Λ₀ .tc) α}
    (hM : ReadsSlot ctx wo n M (Rect.unit (s := ⟨3, ![m, a, b]⟩) off (⟨3, ![1, a, b]⟩ : Shape).size inbM) (fun x => ((x 1).val, (x 2).val)))
    (h1 : (⟨2, ![a, b]⟩ : Shape).ShapeCasts ⟨2, ![a, b]⟩) (h2 : (⟨3, ![1, a, b]⟩ : Shape).ShapeCasts ⟨2, ![a, b]⟩)
    (hpay : ∀ v w, pay v w = (addf (shapeCast ⟨2, ![a, b]⟩ v h1) (shapeCast ⟨2, ![a, b]⟩ w h2) : FVec F ⟨2, ![a, b]⟩ .bf16) := by intros; rfl)
    (hn : n < 18 := by decide) (hbr : n < br := by decide)
    (hcl : Classes fun A B => (rcvd n A B → own x0 bs br A B)
      ∧ (own x0 bs br A B → ¬ rcvd n A B → (n = 11 → 12 ≤ A) ∧ (n = 17 → 12 ≤ A → 18 ≤ B)) := by decide +kernel)
    (hoff : ∀ c, offf c = ![ro n (orig n c).val, co n] := by decide +kernel) (hsize : (![a, b] : Fin 2 → ℕ) = ![128 * hq n, 512] := by rfl)
    (hk : St ctx wo K R x0 bs br (n + 1) c ⊢ WP c (p ⟨⟩) Q) :
    St ctx wo K R x0 bs br n c ⊢ WP c (.op (.load oM (Rect.unit (s := S2048x1024) (offf c) ![a, b] inb).toLoadRect hl) fun v =>
      .op (.load M (Rect.unit (s := ⟨3, ![m, a, b]⟩) off (⟨3, ![1, a, b]⟩ : Shape).size inbM).toLoadRect hlM) fun w =>
      .op (.load oM (Rect.unit (s := S2048x1024) (offf c) ![a, b] inb').toLoadRect hl') fun _ =>
      .op (.store oM (Rect.unit (s := S2048x1024) (offf c) ![a, b] inb'') (pay v w) Finset.univ hx hm) p) Q := by
  have hcl' : Classes fun A B => rcvd n A B → own x0 bs br A B := fun A B hB => (hcl A B hB).1
  refine load_out ctx wo K n (by omega) hcl' hoff hsize fun v hv => ?_
  refine load_slot ctx wo K hM hbr fun w hw => ?_
  refine load_out ctx wo K n (by omega) hcl' hoff hsize fun _ _ => ?_
  refine store_add ctx wo K n hn hcl hoff hsize ?_ hk
  rw [hpay]
  exact isSum ctx wo h1 h2 hv hw

/-- The end of a part. -/
theorem part_end {c : Dev nD} {α : Type} {Q : α → SP F} {P : SP F} {r : α} (hk : P ⊢ Q r) : P ⊢ WP c (.ret r) Q := by
  unfold WP
  rw [wp_ret]
  exact hk.trans fupd_intro

/-- A part of the body at the kernel's buffers and semaphores. -/
abbrev atBufs {β : Type 1} (f : (arg0 : Memref sig .tc .vmem S2048x1024 .bf16) → arg0.IsWhole → (arg1 : Memref sig .tc .vmem S1024x1024 .bf16) → arg1.IsWhole
    → (arg2 : Memref sig .tc .vmem S2048x1024 .bf16) → arg2.IsWhole → (arg3 : Memref sig .tc .vmem S6x256x512 .bf16) → arg3.IsWhole
    → (arg4 : Memref sig .tc .vmem S6x256x512 .bf16) → arg4.IsWhole → (arg5 : Memref sig .tc .vmem S3x128x512 .bf16) → arg5.IsWhole
    → (arg6 : Memref sig .tc .vmem S3x128x512 .bf16) → arg6.IsWhole
    → (arg7 arg8 arg9 arg10 arg11 arg12 arg13 arg14 arg15 arg16 arg17 arg18 : DmaSems sig S6) → β) : β :=
  f (Memref.whole cc0_stg0_0) (Memref.isWhole_whole _) (Memref.whole cc0_stg1_0) (Memref.isWhole_whole _) (Memref.whole cc0_stg2_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4 cc0_scratch5 cc0_scratch6 cc0_scratch7 cc0_scratch8 cc0_scratch9 cc0_scratch10 cc0_scratch11 cc0_scratch12 cc0_scratch13
    cc0_scratch14 cc0_scratch15

end Cert.RingProof

end
-- ==== Proof.Start.lean ====
/-
# The start of the body: the barrier, and a device's own product

Every device signals its four neighbours, handing each the staging slots that it writes, and waits for the four signals
to itself; then it fills its output with its own product, 256 rows at a time.
-/
module

public import proofs.«01_k».proof.Proof.Ops

@[expose] public section

set_option maxRecDepth 10000

noncomputable section

namespace Cert.RingProof

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (ctx : Dev nD → S2048x1024.Idx → Elt F .bf16) (wo : Dev nD → S1024x1024.Idx → Elt F .bf16)
variable (K : Dev nD × KI → ℕ)

/-! ## The barrier -/

/-- The neighbour whose barrier cell a device pays duty `d` of. -/
def nb (d : Fin 4) : Dev nD → Dev nD := ![planeL, planeR, ringL, ringR] d

theorem grp_peer : ∀ d : Fin 4, ∀ n ∈ grp d, peer n = peer (12 * (d.val / 2) + d.val % 2) := by
  intro d n hn
  simp only [grp, Finset.mem_filter, Finset.mem_range] at hn
  have := d.isLt
  exact peer_congr (by omega) (by omega)

theorem peer_nb (d : Fin 4) (c : Dev nD) {n : ℕ} (hn : n ∈ grp d) : peer n (nb d c) = c := by
  rw [grp_peer d n hn]
  match d with
  | 0 => exact planeR_planeL c
  | 1 => exact planeL_planeR c
  | 2 => exact ringR_ringL c
  | 3 => exact ringL_ringR c

theorem range_grp : Finset.range 18 = grp 0 ∪ (grp 1 ∪ (grp 2 ∪ grp 3)) := by decide

omit [FloatOps F] in
/-- The channels of the reduce-scatters, by group. -/
theorem bigSep_grp (Φ : ℕ → sProp 𝕄) :
    bigSep (Finset.range 18) Φ = iprop(bigSep (grp 0) Φ ∗ bigSep (grp 1) Φ ∗ bigSep (grp 2) Φ ∗ bigSep (grp 3) Φ) := by
  rw [range_grp, bigSep_union (by decide), bigSep_union (by decide), bigSep_union (by decide)]
  rfl

omit [FloatOps F] in
theorem barPay_nb (d : Fin 4) (c : Dev nD) : (barPay (F := F) (nb d c) d : sProp 𝕄) = bigSep (grp d) fun n => slotAny (F := F) n c := by
  unfold barPay
  exact bigSep_congr fun n hn => by rw [peer_nb d c hn]

omit [FloatOps F] in
theorem barPay_all (c : Dev nD) :
    (bigSep Finset.univ fun d => barPay (F := F) c d : sProp 𝕄) = bigSep (Finset.range 18) fun n => slotAny (F := F) n (peer n c) := by
  rw [bigSep_grp, show (Finset.univ : Finset (Fin 4)) = insert 0 (insert 1 (insert 2 {3})) from by decide,
    bigSep_insert (by decide), bigSep_insert (by decide), bigSep_insert (by decide), bigSep_singleton]
  rfl

/-- What a device owes at the start: its sends, and a unit to each neighbour's barrier cell. -/
def owed₀ (c : Dev nD) : CellTallies nD τ sig Unit :=
  owed 0 c + tallyAt (barCell (nb 3 c)) () 1 + tallyAt (barCell (nb 2 c)) () 1 + tallyAt (barCell (nb 1 c)) () 1 + tallyAt (barCell (nb 0 c)) () 1

/-- One signal: the neighbour gets the slots that it writes. -/
theorem bar_signal (d : Fin 4) (c : Dev nD) {α : Type} {Q : α → SP F} {p : PUnit → Prog (TpuEff nD τ sig (Elt F) Λ₀ .tc) α} {X : SP F}
    {O O' : CellTallies nD τ sig Unit} {x : Dev nD} (hx : x = nb d c) (hO : O' = O + tallyAt (barCell (nb d c)) () 1)
    (hk : iprop((recs ctx wo K ∗ ∃ W, owes (c : Thread nD τ) O W) ∗ X) ⊢ WP c (p ⟨⟩) Q) :
    iprop((recs ctx wo K ∗ ∃ W, owes (c : Thread nD τ) O' W) ∗ dutyTok ER (barCell (nb d c)) 0 d ∗ (bigSep (grp d) fun n => slotAny (F := F) n c) ∗ X)
      ⊢ WP c (.op (.semSignal (x : Thread nD τ) barS (1#32).toNat) p) Q := by
  subst hx
  iintro ⟨⟨#Hrec, %W, HO⟩, Ht, Hs, HX⟩
  ihave HI := (recs_inv ctx wo K (nb d c, .inl ())) $$ Hrec
  ihave Hr := (recs_reached ctx wo K (nb d c, .inl ())) $$ Hrec
  iapply (Rounds.wp_signal 𝒱₀ ER (Rd ctx wo) (c : Thread nD τ) none (dst := (nb d c : Thread nD τ)) (κ := K (nb d c, .inl ()))
      (d := d) (by rw [duties_bar]; exact Finset.mem_univ _) ((amount_bar ctx wo (nb d c) d).trans (by decide)) () O hO)
    $$ [HO Ht Hs HI Hr]
  · isplitl [HI]; · iexact HI
    isplitl [HO]; · iexact HO
    isplitl [Ht]; · iexact Ht
    isplitl [Hs]
    · rw [payload_bar, barPay_nb]; iexact Hs
    · iexact Hr
  iintro HO
  iapply hk
  isplitl [HO]
  · isplitr; · iexact Hrec
    iexists W; iexact HO
  iexact HX

/-- The wait for the four signals: the slots that the device writes, on its neighbours. -/
theorem bar_wait (c : Dev nD) {α : Type} {Q : α → SP F} {p : PUnit → Prog (TpuEff nD τ sig (Elt F) Λ₀ .tc) α} {X : SP F}
    (hk : iprop((recs ctx wo K ∗ ∃ W, owes (c : Thread nD τ) (owed 0 c) W) ∗ (semVal (barCell c) 0
        ∗ bigSep (Finset.range 18) fun n => slotAny (F := F) n (peer n c)) ∗ X) ⊢ WP c (p ⟨⟩) Q) :
    iprop((recs ctx wo K ∗ ∃ W, owes (c : Thread nD τ) (owed 0 c) W) ∗ (atPos ER (barCell c) 0 ∅ 0 ∗ cred (tallyAt (barCell c) () 4)) ∗ X)
      ⊢ WP c (.op (.semWait barS (4#32).toNat) p) Q := by
  iintro ⟨⟨#Hrec, %W, HO⟩, ⟨Hat, Hc⟩, HX⟩
  ihave #HI := (recs_inv ctx wo K (c, .inl ())) $$ Hrec
  ihave #Hl := (recs_levs ctx wo K) $$ Hrec
  iapply (Rounds.wp_wait_rest_token 𝒱₀ ER (Rd ctx wo) (c : Thread nD τ) none (κ := K (c, .inl ()))
      (wpE_semWait_eq 𝒱₀ (c : Thread nD τ) none Set.univ) (Set.mem_univ _) () (O := owed 0 c) (W := W) (R := 0) (m := 0) (T := ∅)
      (by rw [expect_bar]; decide)) $$ [Hc HO Hat]
  · isplitr; · iexact HI
    isplitl [Hc]; · iexact Hc
    isplitl [HO]; · iexact HO
    isplitr
    · iapply (mayWait_owed (F := F) c (.reg barS) (a := 0) (ℓ := 1) (le_of_eq (lv_bar c)) (by omega)); iexact Hl
    iexact Hat
  iintro ⟨HO, Hat, -, Hpay⟩
  ihave Hp := (Entails.of_eq ((rest_bar ctx wo c).trans (barPay_all c))) $$ Hpay
  imod (Rounds.cell_close ER (Rd ctx wo) (Set.mem_univ (K (c, .inl ()))) (fun h => h) (R := 0 + 1) (duties_later ctx wo (barCell c))) $$ [Hat] with Hz
  · isplitr; · iexact HI
    iexact Hat
  iapply hk
  isplitl [HO]
  · isplitr; · iexact Hrec
    iexists _; iexact HO
  isplitl [Hz Hp]
  · isplitl [Hz]; · iexact Hz
    iexact Hp
  iexact HX

/-! ## The product -/

/-- The two operands in their buffers. -/
def Rin (c : Dev nD) : sProp 𝕄 :=
  iprop(((c : Thread nD τ).loc cc0_stg0_0 ↦{fullShare} ctx c) ∗ ((c : Thread nD τ).loc cc0_stg1_0 ↦{fullShare} wo c))

/-- `b` blocks of the output are filled. -/
def Mst (X : SP F) (b : ℕ) (c : Dev nD) : sProp 𝕄 :=
  iprop(Rin ctx wo c ∗ X ∗ ∃ f : S2048x1024.Idx → Elt F .bf16, ⌜∀ i, (i 0).val < 256 * b → f i = partSum ctx wo c i⌝ ∗ outPts c Finset.univ f)

abbrev cM : Memref sig .tc .vmem S2048x1024 .bf16 := Memref.whole cc0_stg0_0
abbrev wM : Memref sig .tc .vmem S1024x1024 .bf16 := Memref.whole cc0_stg1_0

theorem emb_block {off : Fin 2 → ℕ} {inb : ∀ a, off a + S256x1024.size a ≤ S2048x1024.size a} {b : ℕ} (hb : b < 8) (hoff : off = ![256 * b, 0])
    (x : S256x1024.Idx) : (Rect.unit (s := S2048x1024) off S256x1024.size inb).emb x = at2 (256 * b + (x 0).val) (x 1).val := by
  subst hoff
  have h0 : (x 0).val < 256 := (x 0).isLt
  have h1 : (x 1).val < 1024 := (x 1).isLt
  refine funext fun a => ?_
  match a with
  | ⟨0, _⟩ =>
    refine Fin.ext ?_
    show 256 * b + 1 * (x 0).val = (256 * b + (x 0).val) % 2048
    rw [Nat.mod_eq_of_lt (by omega)]; omega
  | ⟨1, _⟩ =>
    refine Fin.ext ?_
    show 0 + 1 * (x 1).val = (x 1).val % 1024
    rw [Nat.mod_eq_of_lt h1]; omega

/-- An element of block `b` of the product. -/
theorem partSum_block (c : Dev nD) {b : ℕ} (hb : b < 8) (x : S256x1024.Idx) :
    k0_pay1 (rows ctx c b) (wo c) x = partSum ctx wo c (at2 (256 * b + (x 0).val) (x 1).val) := by
  have h0 : (x 0).val < 256 := (x 0).isLt
  have h1 : (x 1).val < 1024 := (x 1).isLt
  have e0 : (at2 (256 * b + (x 0).val) (x 1).val 0).val = 256 * b + (x 0).val := Nat.mod_eq_of_lt (show _ < 2048 by omega)
  have e1 : (at2 (256 * b + (x 0).val) (x 1).val 1).val = (x 1).val := Nat.mod_eq_of_lt h1
  unfold partSum
  rw [e0, e1, show (256 * b + (x 0).val) / 256 = b by omega, show (256 * b + (x 0).val) % 256 = (x 0).val by omega]
  refine congrArg _ (funext fun a => ?_)
  match a with
  | ⟨0, _⟩ => exact Fin.ext (Nat.mod_eq_of_lt h0).symm
  | ⟨1, _⟩ => exact Fin.ext (Nat.mod_eq_of_lt h1).symm

/-- One block: the rows and the weights are loaded, the product stored. -/
theorem mm_step {c : Dev nD} {α : Type} {Q : α → SP F} {X : SP F} {off : Fin 2 → ℕ} {inb : ∀ a, off a + S256x1024.size a ≤ S2048x1024.size a}
    {inbw : ∀ a, (![0, 0] : Fin 2 → ℕ) a + S1024x1024.size a ≤ S1024x1024.size a}
    {pay : Vec F S256x1024 .bf16 → Vec F S1024x1024 .bf16 → Vec F S256x1024 .bf16}
    {p : PUnit → Prog (TpuEff nD τ sig (Elt F) Λ₀ .tc) α} {hl hlw hlo}
    {hx : (oM.access (Rect.unit (s := S2048x1024) off S256x1024.size inb)).Stores Finset.univ}
    {hm : Finset.univ = Finset.univ ∨ ∀ a, (Rect.unit (s := S2048x1024) off S256x1024.size inb).stride a = 1}
    (b : ℕ) (hb : b < 8 := by decide) (hoff : off = ![256 * b, 0] := by rfl) (hpay : pay = k0_pay1 := by rfl)
    (hk : Mst ctx wo X (b + 1) c ⊢ WP c (p ⟨⟩) Q) :
    Mst ctx wo X b c ⊢ WP c (.op (.load cM (Rect.unit (s := S2048x1024) off S256x1024.size inb).toLoadRect hl) fun v =>
      .op (.load wM (Rect.unit (s := S1024x1024) ![0, 0] S1024x1024.size inbw).toLoadRect hlw) fun w =>
      .op (.load oM (Rect.unit (s := S2048x1024) off S256x1024.size inb).toLoadRect hlo) fun _ =>
      .op (.store oM (Rect.unit (s := S2048x1024) off S256x1024.size inb) (pay v w) Finset.univ hx hm) p) Q := by
  subst hpay
  have hv : (cM.access (Rect.unit (s := S2048x1024) off S256x1024.size inb)).read (Elt F) (ctx c) = rows ctx c b := funext fun x => by
    show ctx c ((Rect.unit (s := S2048x1024) off S256x1024.size inb).emb x) = _
    rw [emb_block hb hoff]; rfl
  have hw : (wM.access (Rect.unit (s := S1024x1024) ![0, 0] S1024x1024.size inbw)).read (Elt F) (wo c) = wo c :=
    Memref.readAt_unit_zero (Elt F) cc0_stg1_0 (off := ![0, 0]) (by decide) inbw (wo c)
  have hsc : ((cM.access (Rect.unit (s := S2048x1024) off S256x1024.size inb)).set : Finset S2048x1024.Idx) ⊆ Finset.univ := Finset.subset_univ _
  have hsw : ((wM.access (Rect.unit (s := S1024x1024) ![0, 0] S1024x1024.size inbw)).set : Finset S1024x1024.Idx) ⊆ Finset.univ := Finset.subset_univ _
  have hso : ((oM.access (Rect.unit (s := S2048x1024) off S256x1024.size inb)).set : Finset S2048x1024.Idx) ⊆ Finset.univ := Finset.subset_univ _
  have hst : ((oM.access (Rect.unit (s := S2048x1024) off S256x1024.size inb)).setOn Finset.univ : Finset S2048x1024.Idx) ⊆ Finset.univ :=
    Finset.subset_univ _
  unfold Mst at hk ⊢
  unfold Rin outPts at hk ⊢
  iintro ⟨⟨Hc, Hw⟩, HX, %f, %hf, Hout⟩
  iapply (wp_load_rect 𝒱₀ (c : Thread nD τ) none Set.univ (m := cM) hsc) $$ Hc
  iintro Hc
  iapply (wp_load_rect 𝒱₀ (c : Thread nD τ) none Set.univ (m := wM) hsw) $$ Hw
  iintro Hw
  rw [hv, hw]
  iapply (wp_load_rect 𝒱₀ (c : Thread nD τ) none Set.univ (m := oM) hso) $$ Hout
  iintro Hout
  iapply (wp_store 𝒱₀ (c : Thread nD τ) none Set.univ (m := oM) hst) $$ Hout
  iintro Hout
  iapply hk
  isplitl [Hc Hw]
  · isplitl [Hc]; · iexact Hc
    iexact Hw
  isplitl [HX]; · iexact HX
  iexists _
  isplitr
  rotate_left
  · iexact Hout
  ipureintro
  intro i hi
  have h1024 : (i 1).val < 1024 := (i 1).isLt
  by_cases hr : 256 * b ≤ (i 0).val
  · have hx0 : (i 0).val - 256 * b < 256 := by omega
    have he : (Rect.unit (s := S2048x1024) off S256x1024.size inb).emb (ix2 (⟨(i 0).val - 256 * b, hx0⟩ : Fin 256) (⟨(i 1).val, h1024⟩ : Fin 1024)) = i := by
      rw [emb_block hb hoff]
      show at2 (256 * b + ((i 0).val - 256 * b)) (i 1).val = i
      rw [Nat.add_sub_cancel' hr, at2_self]
    have he' : (oM.access (Rect.unit (s := S2048x1024) off S256x1024.size inb)).emb (ix2 (⟨(i 0).val - 256 * b, hx0⟩ : Fin 256) (⟨(i 1).val, h1024⟩ : Fin 1024)) = i := he
    have hp := partSum_block ctx wo c hb (ix2 (⟨(i 0).val - 256 * b, hx0⟩ : Fin 256) (⟨(i 1).val, h1024⟩ : Fin 1024))
    rw [← emb_block (inb := inb) hb hoff, he] at hp
    rw [← hp]
    conv_lhs => rw [← he']
    exact View.write_emb_of_mem _ _ (Finset.mem_univ _)
  · rw [View.write_of_not_mem]
    · exact hf i (by omega)
    · rw [View.setOn_univ]
      intro hm'
      obtain ⟨x, -, hx'⟩ := Finset.mem_map.mp hm'
      have hx2 : (Rect.unit (s := S2048x1024) off S256x1024.size inb).emb x = i := hx'
      have h0 : (x 0).val < 256 := (x 0).isLt
      rw [emb_block hb hoff] at hx2
      have : (i 0).val = 256 * b + (x 0).val := by
        rw [← hx2]; exact Nat.mod_eq_of_lt (show _ < 2048 by omega)
      omega

/-! ## The state at the start -/

/-- The part of a device's tokens that does not come from its neighbours. -/
def toks₀ (c : Dev nD) : sProp 𝕄 :=
  bigSep (Finset.Ico 0 36) fun n => iprop(dutyTok ER (sendCell n c) 0 0 ∗ dutyTok ER (recvCell n (peer n c)) 0 0)

/-- What a device starts with. -/
def St₀ (c : Dev nD) : sProp 𝕄 :=
  iprop((recs ctx wo K ∗ ∃ W, owes (c : Thread nD τ) (owed₀ c) W)
    ∗ dutyTok ER (barCell (nb 0 c)) 0 0 ∗ (bigSep (grp 0) fun n => slotAny (F := F) n c)
    ∗ dutyTok ER (barCell (nb 1 c)) 0 1 ∗ (bigSep (grp 1) fun n => slotAny (F := F) n c)
    ∗ dutyTok ER (barCell (nb 2 c)) 0 2 ∗ (bigSep (grp 2) fun n => slotAny (F := F) n c)
    ∗ dutyTok ER (barCell (nb 3 c)) 0 3 ∗ (bigSep (grp 3) fun n => slotAny (F := F) n c)
    ∗ (atPos ER (barCell c) 0 ∅ 0 ∗ cred (tallyAt (barCell c) () 4))
    ∗ Rin ctx wo c ∗ outAny (F := F) c Finset.univ ∗ toks₀ (F := F) c ∗ posS (F := F) 0 c ∗ posR (F := F) 0 c)

/-- What is carried past the product. -/
def Xst (c : Dev nD) : sProp 𝕄 :=
  iprop((recs ctx wo K ∗ ∃ W, owes (c : Thread nD τ) (owed 0 c) W) ∗ (semVal (barCell c) 0
    ∗ bigSep (Finset.range 18) fun n => slotAny (F := F) n (peer n c)) ∗ toks₀ (F := F) c ∗ posS (F := F) 0 c ∗ posR (F := F) 0 c)

omit [FloatOps F] in
/-- No pack that is held at the start has anything in it. -/
theorem held_start (c : Dev nD) : (bigSep (held 0 0) fun n => pack (F := F) n c : sProp 𝕄) = iprop(emp) := by
  have h : ∀ n ∈ held 0 0, (pack (F := F) n c : sProp 𝕄) = iprop(emp) := by
    intro n hn
    have hn' : n ∈ ({0, 1, 2, 3, 12, 13} : Finset ℕ) := by revert hn; revert n; decide
    simp only [Finset.mem_insert, Finset.mem_singleton] at hn'
    rcases hn' with rfl | rfl | rfl | rfl | rfl | rfl <;> rfl
  exact (bigSep_congr h).trans (bigSep_emp_const _)

omit [FloatOps F] in
theorem toks_start (c : Dev nD) :
    iprop((bigSep (Finset.range 18) fun n => slotAny (F := F) n (peer n c)) ∗ toks₀ (F := F) c) ⊢ toks (F := F) 0 c := by
  have h0 : (bigSep (Finset.Ico 18 36) fun n => slotAny (F := F) n (peer n c) : sProp 𝕄) = iprop(emp) :=
    (bigSep_congr fun n hn => by
      have := (Finset.mem_Ico.mp hn).1
      unfold slotAny; exact (if_neg (by omega)).trans (if_neg (by omega))).trans (bigSep_emp_const _)
  have h1 : (bigSep (Finset.range 18) fun n => slotAny (F := F) n (peer n c) : sProp 𝕄) ⊢ bigSep (Finset.Ico 0 36) fun n => slotAny (F := F) n (peer n c) := by
    rw [show Finset.Ico 0 36 = Finset.range 18 ∪ Finset.Ico 18 36 by decide, bigSep_union (by decide), h0]
    show _ ⊢ iprop(_ ∗ _)
    iintro H
    isplitl [H]; · iexact H
    iempintro
  have h2 : iprop((bigSep (Finset.Ico 0 36) fun n => slotAny (F := F) n (peer n c)) ∗ toks₀ (F := F) c) ⊢ toks (F := F) 0 c :=
    Entails.of_eq (BI.bigSep_sep _ _ _).symm
  iintro ⟨Hs, Ht⟩
  ihave Hs := h1 $$ Hs
  iapply h2
  isplitl [Hs]; · iexact Hs
  iexact Ht

/-- After the product, the first state of the protocol proper. -/
theorem Mst_end (c : Dev nD) : Mst ctx wo (Xst ctx wo K c) 8 c ⊢ St ctx wo K iprop(Rin ctx wo c ∗ semVal (barCell c) 0) 0 0 0 0 c := by
  unfold Mst Xst St credS doneS doneR
  rw [held_start, Finset.Ico_self, Finset.range_zero, bigSep_empty, bigSep_empty, bigSep_empty, cont_zero, ownSet_univ c (by decide +kernel)]
  iintro ⟨Hin, ⟨⟨#Hrec, HO⟩, ⟨Hz, Hs⟩, Ht, HpS, HpR⟩, %f, %hf, Hout⟩
  isplitl [Hin Hz]
  · isplitl [Hin]; · iexact Hin
    iexact Hz
  isplitr; · iexact Hrec
  isplitl [Hout]
  · iapply (Entails.of_eq (outPts_congr c fun i _ => hf i (show (i 0).val < 2048 from (i 0).isLt))); iexact Hout
  isplitr; · iempintro
  isplitl [Hs Ht]
  · iapply (toks_start c)
    isplitl [Hs]; · iexact Hs
    iexact Ht
  isplitl [HpS]; · iexact HpS
  isplitl [HpR]; · iexact HpR
  isplitr; · iempintro
  isplitr; · iempintro
  isplitr; · iempintro
  iexact HO

theorem Mst_start (c : Dev nD) :
    iprop((recs ctx wo K ∗ ∃ W, owes (c : Thread nD τ) (owed 0 c) W) ∗ (semVal (barCell c) 0
        ∗ bigSep (Finset.range 18) fun n => slotAny (F := F) n (peer n c))
      ∗ Rin ctx wo c ∗ outAny (F := F) c Finset.univ ∗ toks₀ (F := F) c ∗ posS (F := F) 0 c ∗ posR (F := F) 0 c)
      ⊢ Mst ctx wo (Xst ctx wo K c) 0 c := by
  unfold Mst Xst outAny
  iintro ⟨HA, HB, Hin, ⟨%f, Hout⟩, Ht, HpS, HpR⟩
  isplitl [Hin]; · iexact Hin
  isplitl [HA HB Ht HpS HpR]
  · isplitl [HA]; · iexact HA
    isplitl [HB]; · iexact HB
    isplitl [Ht]; · iexact Ht
    isplitl [HpS]; · iexact HpS
    iexact HpR
  iexists f
  isplitr
  · ipureintro; intro i hi; omega
  iexact Hout

/-! ## The parts -/

variable {c : Dev nD}

theorem part1 {Q : (Σ' (d0 : Dev nD) (v19 : BitVec 32) (v20 : BitVec 32) (v24 : BitVec 32) (v28 : BitVec 32) (v32 : BitVec 32), BitVec 32) → SP F}
    (hk : ∀ v19 v20 v24 v28 v32 v36, St₀ ctx wo K c ⊢ Q ⟨c, v19, v20, v24, v28, v32, v36⟩) :
    St₀ ctx wo K c ⊢ WP c (atBufs (k0_part1 (F := F))) Q := by
  rw [k0_part1_eq_skeleton]; unfold atBufs k0_part1_skel
  simp only [Prog.lift, Prog.bind_op, Prog.bind_ret, Prog.pure_eq_ret, wp_deviceId]
  exact part_end (hk _ _ _ _ _ _)

theorem part2 {Q : PUnit → SP F} (w1 w2 w3 w4 : BitVec 32) (hk : Mst ctx wo (Xst ctx wo K c) 2 c ⊢ Q ⟨⟩) :
    St₀ ctx wo K c ⊢ WP c (atBufs (k0_part2 (F := F)) c w1 w2 w3 w4) Q := by
  rw [k0_part2_eq_skeleton]; unfold atBufs k0_part2_skel
  simp only [semSignalWord, semWaitWord, Prog.lift, Prog.bind_op, Prog.bind_ret, Prog.pure_eq_ret]
  unfold St₀
  refine bar_signal ctx wo K 0 c (dev1_eq c) rfl ?_
  refine bar_signal ctx wo K 1 c (dev2_eq c) rfl ?_
  refine bar_signal ctx wo K 2 c (dev3_eq c) rfl ?_
  refine bar_signal ctx wo K 3 c (dev4_eq c) rfl ?_
  refine bar_wait ctx wo K c ?_
  refine (Mst_start ctx wo K c).trans ?_
  refine mm_step ctx wo 0 (pay := k0_pay1) (hk := ?_)
  refine mm_step ctx wo 1 (pay := k0_pay2) (hk := ?_)
  exact part_end hk

theorem part3 {Q : PUnit → SP F} (hk : Mst ctx wo (Xst ctx wo K c) 6 c ⊢ Q ⟨⟩) :
    Mst ctx wo (Xst ctx wo K c) 2 c ⊢ WP c (atBufs (k0_part3 (F := F))) Q := by
  rw [k0_part3_eq_skeleton]; unfold atBufs k0_part3_skel
  simp only [Prog.lift, Prog.bind_op, Prog.bind_ret, Prog.pure_eq_ret]
  refine mm_step ctx wo 2 (pay := k0_pay3) (hk := ?_)
  refine mm_step ctx wo 3 (pay := k0_pay4) (hk := ?_)
  refine mm_step ctx wo 4 (pay := k0_pay5) (hk := ?_)
  refine mm_step ctx wo 5 (pay := k0_pay6) (hk := ?_)
  exact part_end hk

theorem part4 {Q : PUnit → SP F} (w1 w2 : BitVec 32)
    (hk : St ctx wo K iprop(Rin ctx wo c ∗ semVal (barCell c) 0) 0 0 0 0 c ⊢ Q ⟨⟩) :
    Mst ctx wo (Xst ctx wo K c) 6 c ⊢ WP c (atBufs (k0_part4 (F := F)) w1 w2) Q := by
  rw [k0_part4_eq_skeleton]; unfold atBufs k0_part4_skel
  simp only [Prog.lift, Prog.bind_op, Prog.bind_ret, Prog.pure_eq_ret]
  refine mm_step ctx wo 6 (pay := k0_pay7) (hk := ?_)
  refine mm_step ctx wo 7 (pay := k0_pay8) (hk := ?_)
  exact part_end ((Mst_end ctx wo K c).trans hk)

end Cert.RingProof

end
-- ==== Proof.Slots.lean ====
/-
# The staging buffers, slot by slot
-/
module

public import proofs.«01_k».proof.Proof.Start

@[expose] public section

set_option maxRecDepth 10000

noncomputable section

namespace Cert.RingProof

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (ctx : Dev nD → S2048x1024.Idx → Elt F .bf16) (wo : Dev nD → S1024x1024.Idx → Elt F .bf16)

/-! ## A buffer is its slots -/

theorem slotA_union : (Finset.range 6).biUnion slotA = Finset.univ := by
  ext i
  have h : (i 0).val < 6 := (i 0).isLt
  simp only [Finset.mem_biUnion, Finset.mem_range, Finset.mem_univ, iff_true]
  exact ⟨_, h, Finset.mem_filter.mpr ⟨Finset.mem_univ _, rfl⟩⟩
theorem slotB_union : (Finset.range 3).biUnion slotB = Finset.univ := by
  ext i
  have h : (i 0).val < 3 := (i 0).isLt
  simp only [Finset.mem_biUnion, Finset.mem_range, Finset.mem_univ, iff_true]
  exact ⟨_, h, Finset.mem_filter.mpr ⟨Finset.mem_univ _, rfl⟩⟩
theorem slotA_disj {s : Finset ℕ} : ∀ j ∈ s, ∀ k ∈ s, j ≠ k → Disjoint (slotA j) (slotA k) := fun _ _ _ _ h =>
  Finset.disjoint_filter.mpr fun _ _ h1 h2 => h (h1.symm.trans h2)
theorem slotB_disj {s : Finset ℕ} : ∀ j ∈ s, ∀ k ∈ s, j ≠ k → Disjoint (slotB j) (slotB k) := fun _ _ _ _ h =>
  Finset.disjoint_filter.mpr fun _ _ h1 h2 => h (h1.symm.trans h2)

/-! ## The channels of a group, by slot -/

/-- The group's channel of slot `j`. -/
def chanEmb (d : Fin 4) : ℕ ↪ ℕ := ⟨fun j => 12 * (d.val / 2) + 2 * j + d.val % 2, fun j k h => by dsimp only at h; omega⟩

theorem grp_map : ∀ d : Fin 4, grp d = (Finset.range (if d.val < 2 then 6 else 3)).map (chanEmb d) := by decide

omit [FloatOps F] in
theorem bigSep_chan (d : Fin 4) {b : ℕ} (hb : (if d.val < 2 then 6 else 3) = b) {Φ Ψ : ℕ → sProp 𝕄}
    (h : ∀ j, j < b → Φ (12 * (d.val / 2) + 2 * j + d.val % 2) = Ψ j) : bigSep (grp d) Φ = bigSep (Finset.range b) Ψ := by
  rw [grp_map, hb, bigSep_map]
  exact bigSep_congr fun j hj => h j (Finset.mem_range.mp hj)

omit [FloatOps F] in
/-- A witness. -/
theorem some_of {A : Type} {Φ : A → sProp 𝕄} (f : A) : Φ f ⊢ iprop(∃ f, Φ f) := by iintro H; iexists f; iexact H

omit [FloatOps F] in
/-- The whole buffers give every channel's slot. -/
theorem slots_split (c : Dev nD) :
    iprop((∃ f : S6x256x512.Idx → Elt F .bf16, ((c : Thread nD τ).loc cc0_scratch0) ↦{fullShare} f)
      ∗ (∃ f : S6x256x512.Idx → Elt F .bf16, ((c : Thread nD τ).loc cc0_scratch1) ↦{fullShare} f)
      ∗ (∃ f : S3x128x512.Idx → Elt F .bf16, ((c : Thread nD τ).loc cc0_scratch2) ↦{fullShare} f)
      ∗ (∃ f : S3x128x512.Idx → Elt F .bf16, ((c : Thread nD τ).loc cc0_scratch3) ↦{fullShare} f))
      ⊢ bigSep (Finset.range 18) fun n => slotAny (F := F) n c := by
  have h0 (f : S6x256x512.Idx → Elt F .bf16) : (((c : Thread nD τ).loc cc0_scratch0) ↦{fullShare} f : sProp 𝕄) ⊢ bigSep (grp 0) fun n => slotAny (F := F) n c := by
    rw [bigSep_chan 0 (b := 6) rfl (Ψ := fun j => iprop(∃ f : S6x256x512.Idx → Elt F .bf16, ((c : Thread nD τ).loc cc0_scratch0) ↦[slotA j]{fullShare} f)) fun j hj => by
      show slotAny (0 + 2 * j + 0) c = _
      unfold slotAny; rw [if_pos (by omega), if_pos (by omega), show (0 + 2 * j + 0) / 2 = j by omega]]
    have h := pointsTo_biUnion (Ix := Unit) (Name := ℕ) (U := UU) (Lvl := ℕ) (ℓ := (c : Thread nD τ).loc cc0_scratch0) (q := fullShare) (f := f) (Finset.range 6) slotA slotA_disj
    rw [slotA_union] at h
    exact (Entails.of_eq h).trans (bigSep_mono fun j _ => some_of f)
  have h1 (f : S6x256x512.Idx → Elt F .bf16) : (((c : Thread nD τ).loc cc0_scratch1) ↦{fullShare} f : sProp 𝕄) ⊢ bigSep (grp 1) fun n => slotAny (F := F) n c := by
    rw [bigSep_chan 1 (b := 6) rfl (Ψ := fun j => iprop(∃ f : S6x256x512.Idx → Elt F .bf16, ((c : Thread nD τ).loc cc0_scratch1) ↦[slotA j]{fullShare} f)) fun j hj => by
      show slotAny (0 + 2 * j + 1) c = _
      unfold slotAny; rw [if_pos (by omega), if_neg (by omega), show (0 + 2 * j + 1) / 2 = j by omega]]
    have h := pointsTo_biUnion (Ix := Unit) (Name := ℕ) (U := UU) (Lvl := ℕ) (ℓ := (c : Thread nD τ).loc cc0_scratch1) (q := fullShare) (f := f) (Finset.range 6) slotA slotA_disj
    rw [slotA_union] at h
    exact (Entails.of_eq h).trans (bigSep_mono fun j _ => some_of f)
  have h2 (f : S3x128x512.Idx → Elt F .bf16) : (((c : Thread nD τ).loc cc0_scratch2) ↦{fullShare} f : sProp 𝕄) ⊢ bigSep (grp 2) fun n => slotAny (F := F) n c := by
    rw [bigSep_chan 2 (b := 3) rfl (Ψ := fun j => iprop(∃ f : S3x128x512.Idx → Elt F .bf16, ((c : Thread nD τ).loc cc0_scratch2) ↦[slotB j]{fullShare} f)) fun j hj => by
      show slotAny (12 + 2 * j + 0) c = _
      unfold slotAny; rw [if_neg (by omega), if_pos (by omega), if_pos (by omega), show (12 + 2 * j + 0 - 12) / 2 = j by omega]]
    have h := pointsTo_biUnion (Ix := Unit) (Name := ℕ) (U := UU) (Lvl := ℕ) (ℓ := (c : Thread nD τ).loc cc0_scratch2) (q := fullShare) (f := f) (Finset.range 3) slotB slotB_disj
    rw [slotB_union] at h
    exact (Entails.of_eq h).trans (bigSep_mono fun j _ => some_of f)
  have h3 (f : S3x128x512.Idx → Elt F .bf16) : (((c : Thread nD τ).loc cc0_scratch3) ↦{fullShare} f : sProp 𝕄) ⊢ bigSep (grp 3) fun n => slotAny (F := F) n c := by
    rw [bigSep_chan 3 (b := 3) rfl (Ψ := fun j => iprop(∃ f : S3x128x512.Idx → Elt F .bf16, ((c : Thread nD τ).loc cc0_scratch3) ↦[slotB j]{fullShare} f)) fun j hj => by
      show slotAny (12 + 2 * j + 1) c = _
      unfold slotAny; rw [if_neg (by omega), if_pos (by omega), if_neg (by omega), show (12 + 2 * j + 1 - 12) / 2 = j by omega]]
    have h := pointsTo_biUnion (Ix := Unit) (Name := ℕ) (U := UU) (Lvl := ℕ) (ℓ := (c : Thread nD τ).loc cc0_scratch3) (q := fullShare) (f := f) (Finset.range 3) slotB slotB_disj
    rw [slotB_union] at h
    exact (Entails.of_eq h).trans (bigSep_mono fun j _ => some_of f)
  rw [bigSep_grp]
  iintro ⟨⟨%f0, H0⟩, ⟨%f1, H1⟩, ⟨%f2, H2⟩, ⟨%f3, H3⟩⟩
  isplitl [H0]; · iapply (h0 f0); iexact H0
  isplitl [H1]; · iapply (h1 f1); iexact H1
  isplitl [H2]; · iapply (h2 f2); iexact H2
  iapply (h3 f3); iexact H3

/-- The filled slots are the whole buffers again. -/
theorem slots_join (c : Dev nD) :
    (bigSep (Finset.range 18) fun n => slotFull ctx wo n c)
      ⊢ iprop((∃ f : S6x256x512.Idx → Elt F .bf16, ((c : Thread nD τ).loc cc0_scratch0) ↦{fullShare} f)
      ∗ (∃ f : S6x256x512.Idx → Elt F .bf16, ((c : Thread nD τ).loc cc0_scratch1) ↦{fullShare} f)
      ∗ (∃ f : S3x128x512.Idx → Elt F .bf16, ((c : Thread nD τ).loc cc0_scratch2) ↦{fullShare} f)
      ∗ (∃ f : S3x128x512.Idx → Elt F .bf16, ((c : Thread nD τ).loc cc0_scratch3) ↦{fullShare} f)) := by
  have h0 : (bigSep (grp 0) fun n => slotFull ctx wo n c) ⊢ (((c : Thread nD τ).loc cc0_scratch0) ↦{fullShare} (stagA ctx wo 0 c) : sProp 𝕄) := by
    rw [bigSep_chan 0 (b := 6) rfl (Ψ := fun j => ((c : Thread nD τ).loc cc0_scratch0) ↦[slotA j]{fullShare} (stagA ctx wo 0 c)) fun j hj => by
      show slotFull ctx wo (0 + 2 * j + 0) c = _
      unfold slotFull; rw [if_pos (by omega), if_pos (by omega), show (0 + 2 * j + 0) / 2 = j by omega]]
    have h := pointsTo_biUnion (Ix := Unit) (Name := ℕ) (U := UU) (Lvl := ℕ) (ℓ := (c : Thread nD τ).loc cc0_scratch0) (q := fullShare) (f := stagA ctx wo 0 c) (Finset.range 6) slotA slotA_disj
    rw [slotA_union] at h
    exact Entails.of_eq h.symm
  have h1 : (bigSep (grp 1) fun n => slotFull ctx wo n c) ⊢ (((c : Thread nD τ).loc cc0_scratch1) ↦{fullShare} (stagA ctx wo 1 c) : sProp 𝕄) := by
    rw [bigSep_chan 1 (b := 6) rfl (Ψ := fun j => ((c : Thread nD τ).loc cc0_scratch1) ↦[slotA j]{fullShare} (stagA ctx wo 1 c)) fun j hj => by
      show slotFull ctx wo (0 + 2 * j + 1) c = _
      unfold slotFull; rw [if_pos (by omega), if_neg (by omega), show (0 + 2 * j + 1) / 2 = j by omega]]
    have h := pointsTo_biUnion (Ix := Unit) (Name := ℕ) (U := UU) (Lvl := ℕ) (ℓ := (c : Thread nD τ).loc cc0_scratch1) (q := fullShare) (f := stagA ctx wo 1 c) (Finset.range 6) slotA slotA_disj
    rw [slotA_union] at h
    exact Entails.of_eq h.symm
  have h2 : (bigSep (grp 2) fun n => slotFull ctx wo n c) ⊢ (((c : Thread nD τ).loc cc0_scratch2) ↦{fullShare} (stagB ctx wo 0 c) : sProp 𝕄) := by
    rw [bigSep_chan 2 (b := 3) rfl (Ψ := fun j => ((c : Thread nD τ).loc cc0_scratch2) ↦[slotB j]{fullShare} (stagB ctx wo 0 c)) fun j hj => by
      show slotFull ctx wo (12 + 2 * j + 0) c = _
      unfold slotFull; rw [if_neg (by omega), if_pos (by omega), if_pos (by omega), show (12 + 2 * j + 0 - 12) / 2 = j by omega]]
    have h := pointsTo_biUnion (Ix := Unit) (Name := ℕ) (U := UU) (Lvl := ℕ) (ℓ := (c : Thread nD τ).loc cc0_scratch2) (q := fullShare) (f := stagB ctx wo 0 c) (Finset.range 3) slotB slotB_disj
    rw [slotB_union] at h
    exact Entails.of_eq h.symm
  have h3 : (bigSep (grp 3) fun n => slotFull ctx wo n c) ⊢ (((c : Thread nD τ).loc cc0_scratch3) ↦{fullShare} (stagB ctx wo 1 c) : sProp 𝕄) := by
    rw [bigSep_chan 3 (b := 3) rfl (Ψ := fun j => ((c : Thread nD τ).loc cc0_scratch3) ↦[slotB j]{fullShare} (stagB ctx wo 1 c)) fun j hj => by
      show slotFull ctx wo (12 + 2 * j + 1) c = _
      unfold slotFull; rw [if_neg (by omega), if_pos (by omega), if_neg (by omega), show (12 + 2 * j + 1 - 12) / 2 = j by omega]]
    have h := pointsTo_biUnion (Ix := Unit) (Name := ℕ) (U := UU) (Lvl := ℕ) (ℓ := (c : Thread nD τ).loc cc0_scratch3) (q := fullShare) (f := stagB ctx wo 1 c) (Finset.range 3) slotB slotB_disj
    rw [slotB_union] at h
    exact Entails.of_eq h.symm
  rw [bigSep_grp]
  iintro ⟨H0, H1, H2, H3⟩
  isplitl [H0]; · iexists _; iapply h0; iexact H0
  isplitl [H1]; · iexists _; iapply h1; iexact H1
  isplitl [H2]; · iexists _; iapply h2; iexact H2
  iexists _; iapply h3; iexact H3

end Cert.RingProof

end
-- ==== Proof.Ghost.lean ====
/-
# The launch: the cells, the tokens, the credit

What the launch deals to each device, and how the tokens go round to the devices that pay with them.
-/
module

public import proofs.«01_k».proof.Proof.Slots

@[expose] public section

set_option maxRecDepth 10000

noncomputable section

namespace Cert.RingProof

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (ctx : Dev nD → S2048x1024.Idx → Elt F .bf16) (wo : Dev nD → S1024x1024.Idx → Elt F .bf16)
variable (K : Dev nD × KI → ℕ)

/-! ## The cells -/

/-- The kernel's own semaphores. -/
abbrev osem (k : Fin 36 ⊕ Fin 36) : SemLoc sig := csem (.inr k)

theorem sem_inj : ∀ n k : Fin 36, (sendSem n.val = sendSem k.val → n = k) ∧ (recvSem n.val = recvSem k.val → n = k)
    ∧ sendSem n.val ≠ recvSem k.val := by decide +kernel

theorem csem_injective : Function.Injective csem := by
  rintro (_ | n | n) (_ | k | k) h
  · rfl
  · cases h
  · cases h
  · cases h
  · rw [(sem_inj n k).1 (by injection h)]
  · exact absurd (by injection h) (sem_inj n k).2.2
  · cases h
  · exact absurd (by injection h with h; exact h.symm) (sem_inj k n).2.2
  · rw [(sem_inj n k).2.1 (by injection h)]

theorem own_scoped : ∀ n : Fin 36, (SemLoc.dma (sendSem n.val) : SemLoc sig).isScoped .tc = true ∧ (SemLoc.dma (recvSem n.val) : SemLoc sig).isScoped .tc = true := by
  decide +kernel

theorem own_stage : ∀ (n : Fin 36) (w : Fin 3), ∀ s : Fin (spec0 w).nbuf, sendSem n.val ≠ (spec0 w).sem s ∧ recvSem n.val ≠ (spec0 w).sem s := by
  decide +kernel

theorem ownSemFacts : Pipeline.OwnSemFacts cfg0.spec osem where
  isScoped k := match k with | .inl n => (own_scoped n).1 | .inr n => (own_scoped n).2
  inj a b h := Sum.inr_injective (csem_injective h)
  disj k w s h := match k with
    | .inl n => (own_stage n w s).1 (by injection h)
    | .inr n => (own_stage n w s).2 (by injection h)

theorem kcell_injective : Function.Injective (kcell : Dev nD × KI → GSem nD τ sig) := by
  rintro ⟨c, k⟩ ⟨c', k'⟩ h
  have h1 : c = c' := congrArg (fun g : GSem nD τ sig => g.1.1) h
  have h2 : csem k = csem k' := congrArg Prod.snd h
  rw [h1, csem_injective h2]

def ringCells : Finset (GSem nD τ sig) := Finset.univ.map ⟨kcell, kcell_injective⟩

/-! ## The tokens -/

/-- A device's own cells' duties: four of its barrier cell, one of every other. -/
abbrev TI : Type := Fin 4 ⊕ (Fin 36 ⊕ Fin 36)
def tokCell : TI → KI | .inl _ => .inl () | .inr k => .inr k
def tokDuty : TI → Fin 4 | .inl d => d | .inr _ => 0

abbrev tokOf (x : Dev nD × TI) : GSem nD τ sig × ℕ × Fin 4 := (kcell (x.1, tokCell x.2), 0, tokDuty x.2)
theorem tokOf_injective : Function.Injective tokOf := by
  rintro ⟨c, j⟩ ⟨c', j'⟩ h
  have h1 := kcell_injective (congrArg Prod.fst h)
  have h2 : tokDuty j = tokDuty j' := congrArg (fun x => x.2.2) h
  have h3 : c = c' := congrArg Prod.fst h1
  have h4 : tokCell j = tokCell j' := congrArg Prod.snd h1
  subst h3
  have : j = j' := by
    match j, j', h2, h4 with
    | .inl _, .inl _, h2, _ => exact congrArg _ h2
    | .inl _, .inr _, _, h4 => cases h4
    | .inr _, .inl _, _, h4 => cases h4
    | .inr _, .inr _, _, h4 => injection h4 with h4; rw [h4]
  rw [this]
def ringToks : Finset (GSem nD τ sig × ℕ × Fin 4) := Finset.univ.map ⟨tokOf, tokOf_injective⟩

def u₀ : UU :=
  (initOf (Pipeline.cells cfgs cellOf_inj) (Pipeline.launchToks cfgs cellOf_inj), initOf ringCells ringToks)

/-- The tokens of the duties of device `c`'s own cells. -/
def mint (c : Dev nD) : sProp 𝕄 :=
  iprop((bigSep Finset.univ fun d : Fin 4 => dutyTok ER (barCell c) 0 d)
    ∗ (bigSep Finset.univ fun n : Fin 36 => dutyTok ER (sendCell n.val c) 0 0)
    ∗ bigSep Finset.univ fun n : Fin 36 => dutyTok ER (recvCell n.val c) 0 0)

/-- What the launch deals device `c`. -/
def G (c : Dev nD) : sProp 𝕄 :=
  iprop((bigSep Finset.univ fun k : KI => roundState ER (Rd ctx wo) (kcell (c, k)) 0)
    ∗ (bigSep Finset.univ fun k : KI => iprop(atPos ER (kcell (c, k)) 0 ∅ 0 ∗ reached ER (kcell (c, k)) 0)) ∗ mint c)

theorem fund_ring : BI.own (ER (initOf ringCells ringToks)) ⊢ (|==> bigSep Finset.univ (G ctx wo) : sProp 𝕄) := by
  have hX (Φ : GSem nD τ sig → sProp 𝕄) : bigSep ringCells Φ = bigSep Finset.univ fun c : Dev nD => bigSep Finset.univ fun k : KI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => mint c := by
    unfold ringToks; rw [bigSep_map, bigSep_univ_prod]
    exact bigSep_congr fun c _ => by
      unfold mint
      refine (bigSep_univ_sum _).trans ?_
      refine congrArg _ ?_
      exact bigSep_univ_sum _
  iintro HX
  imod (Rounds.fund ER (Rd ctx wo) ringCells ringToks) $$ HX with ⟨Hst, Hr, Hat, Htok⟩
  imodintro
  ihave Hst' := (Entails.of_eq (hX fun g => roundState ER (Rd ctx wo) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The counters -/

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem ownSems0_eq (c : Dev nD) : (Pipeline.ownSems0 (Ix := Unit) (Name := ℕ) (U := UU) (Lvl := ℕ) (Val := Elt F) (τ := τ) osem c : sProp 𝕄)
    = iprop((bigSep (Finset.range 36) fun n => semVal (sendCell n c) 0) ∗ bigSep (Finset.range 36) fun n => semVal (recvCell n c) 0) := by
  rw [← bigSep_channels 36 fun n => (semVal (sendCell n c) 0 : sProp 𝕄), ← bigSep_channels 36 fun n => (semVal (recvCell n c) 0 : sProp 𝕄)]
  exact bigSep_univ_sum _

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : KI => semVal (kcell (c, k)) 0 : sProp 𝕄) := by
  have h : (bigSep Finset.univ fun k : KI => semVal (kcell (c, k)) 0 : sProp 𝕄)
      = iprop((bigSep Finset.univ fun k : Unit => semVal (barCell c) 0) ∗ Pipeline.ownSems0 (Ix := Unit) (Name := ℕ) (U := UU) (Lvl := ℕ) (Val := Elt F) (τ := τ) osem c) :=
    bigSep_univ_sum _
  rw [h, unscopedSems0_eq, show (Finset.univ : Finset Unit) = {()} from rfl, bigSep_singleton]
  iintro ⟨H1, H2⟩
  isplitl [H2]; · iexact H2
  iexact H1

/-- A device's cells, allocated. -/
theorem core_alloc (c : Dev nD) :
    iprop(Pipeline.ownSems0 (Ix := Unit) (Name := ℕ) (U := UU) (Lvl := ℕ) (Val := Elt F) (τ := τ) osem c ∗ unscopedSems0 c ∗ G ctx wo c)
      ⊢ |={Set.univ}=> iprop((bigSep Finset.univ fun k => iprop(∃ κ : ℕ, cellInv ER (Rd ctx wo) κ (kcell (c, k))))
          ∗ (bigSep Finset.univ fun k => iprop(atPos ER (kcell (c, k)) 0 ∅ 0 ∗ reached ER (kcell (c, k)) 0)) ∗ mint c) := by
  unfold G
  iintro ⟨Hos, Hus, Hst, Hat, Htok⟩
  ihave Hv := (sems0_eq (F := F) c) $$ [Hos Hus]
  · isplitl [Hos] <;> iassumption
  imod (show iprop((bigSep Finset.univ fun k : KI => semVal (kcell (c, k)) 0) ∗ bigSep Finset.univ fun k : KI => roundState ER (Rd ctx wo) (kcell (c, k)) 0)
      ⊢ (|={Set.univ}=> bigSep Finset.univ fun k => iprop(∃ κ : ℕ, cellInv ER (Rd ctx wo) κ (kcell (c, k))) : sProp 𝕄) from by
        rw [← bigSep_sep']
        exact (bigSep_mono fun k _ => (Rounds.body_intro ER (Rd ctx wo) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens go round -/

def nbInv (d : Fin 4) : Dev nD → Dev nD := ![planeR, planeL, ringR, ringL] d

/-- A duty of a barrier cell, by the device that pays it. -/
def barEquiv (d : Fin 4) : Dev nD ≃ Dev nD where
  toFun := nb d
  invFun := nbInv d
  left_inv c := match d with | 0 => planeR_planeL c | 1 => planeL_planeR c | 2 => ringR_ringL c | 3 => ringL_ringR c
  right_inv c := match d with | 0 => planeL_planeR c | 1 => planeR_planeL c | 2 => ringL_ringR c | 3 => ringR_ringL c

/-- A channel's receive cell, by the device that sends to it. -/
def peerEquiv (n : ℕ) : Dev nD ≃ Dev nD := ⟨peer n, orig n, orig_peer n, peer_orig n⟩

/-- The tokens device `c` pays with. -/
def pay (c : Dev nD) : sProp 𝕄 :=
  iprop((bigSep Finset.univ fun d : Fin 4 => dutyTok ER (barCell (nb d c)) 0 d) ∗ toks₀ (F := F) c)

omit [FloatOps F] in
theorem bigSep_Ico36 (Φ : ℕ → sProp 𝕄) : bigSep (Finset.Ico 0 36) Φ = bigSep Finset.univ fun n : Fin 36 => Φ n.val := by
  rw [bigSep_channels, show Finset.Ico 0 36 = Finset.range 36 by decide]

omit [FloatOps F] in
/-- Each kind of token may go its own way round. -/
theorem round (I : Type) [Fintype I] (e : I → Dev nD ≃ Dev nD) (Φ : I → Dev nD → sProp 𝕄) :
    (bigSep Finset.univ fun c : Dev nD => bigSep Finset.univ fun i : I => Φ i c) = bigSep Finset.univ fun c : Dev nD => bigSep Finset.univ fun i : I => Φ i (e i c) := by
  let E : Dev nD × I ≃ Dev nD × I :=
    ⟨fun p => (e p.2 p.1, p.2), fun p => ((e p.2).symm p.1, p.2), fun p => by simp, fun p => by simp⟩
  rw [← bigSep_univ_prod (fun p : Dev nD × I => Φ p.2 p.1), ← bigSep_univ_prod (fun p : Dev nD × I => Φ p.2 (e p.2 p.1))]
  exact bigSep_univ_equiv E _

omit [FloatOps F] in
theorem toks_around : (bigSep Finset.univ fun c : Dev nD => (mint c : sProp 𝕄)) ⊢ bigSep Finset.univ fun c : Dev nD => pay c := by
  unfold mint pay toks₀
  simp only [bigSep_Ico36, bigSep_sep']
  rw [round (Fin 4) barEquiv fun d c => (dutyTok ER (barCell c) 0 d : sProp 𝕄),
    round (Fin 36) (fun n => peerEquiv n.val) fun n c => (dutyTok ER (recvCell n.val c) 0 0 : sProp 𝕄)]
  iintro ⟨H1, H2, H3⟩
  isplitl [H1]; · iexact H1
  isplitl [H2]; · iexact H2
  iexact H3

/-! ## The global step -/

/-- The records, but for the levels. -/
def records : sProp 𝕄 :=
  iprop((bigSep Finset.univ fun p : Dev nD × KI => cellInv ER (Rd ctx wo) (K p) (kcell p))
    ∗ bigSep Finset.univ fun p : Dev nD × KI => reached ER (kcell p) 0)

instance records_persistent : BI.Persistent (records ctx wo K) := by unfold records; infer_instance

/-- A device's positions and tokens. -/
def linear (c : Dev nD) : sProp 𝕄 := iprop((bigSep Finset.univ fun k : KI => atPos ER (kcell (c, k)) 0 ∅ 0) ∗ pay c)

/-- What a device's body gets of the protocol. -/
def G' (c : Dev nD) : sProp 𝕄 := iprop(∃ K, records ctx wo K ∗ linear (F := F) c)

omit [FloatOps F] in
theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd ctx wo) κ (kcell (c, k))))
          ∗ (bigSep Finset.univ fun k => iprop(atPos ER (kcell (c, k)) 0 ∅ 0 ∗ reached ER (kcell (c, k)) 0)) ∗ mint c) : sProp 𝕄)
      ⊢ bigSep Finset.univ (G' ctx wo) := by
  rw [bigSep_sep', bigSep_sep', ← bigSep_univ_prod (fun p : Dev nD × KI => iprop(∃ κ : ℕ, cellInv ER (Rd ctx wo) κ (kcell p))),
    bigSep_congr (s := Finset.univ) (fun (c : Dev nD) _ => bigSep_sep' Finset.univ (fun k : KI => (atPos ER (kcell (c, k)) 0 ∅ 0 : sProp 𝕄)) (fun k => reached ER (kcell (c, k)) 0)),
    bigSep_sep', ← bigSep_univ_prod (fun p : Dev nD × KI => (reached ER (kcell p) 0 : sProp 𝕄))]
  iintro ⟨HI, ⟨Hat, #HR⟩, Htok⟩
  ihave HK := (BI.bigSep_exists_pi Finset.univ (fun (p : Dev nD × KI) (κ : ℕ) => (cellInv ER (Rd ctx wo) κ (kcell p) : sProp 𝕄))) $$ HI
  icases HK with ⟨%K, #HI⟩
  ihave Htk := (toks_around (F := F)) $$ Htok
  iapply (bigSep_beside (R := records ctx wo K) (Φ := fun c => linear (F := F) c) fun c _ => by
    unfold G'
    iintro ⟨#HA, HB⟩
    iexists K
    isplitr; · iexact HA
    iexact HB)
  isplitr
  · unfold records; isplitl; · iexact HI
    iexact HR
  · iapply (Entails.of_eq (bigSep_sep' Finset.univ (fun c : Dev nD => bigSep Finset.univ fun k : KI => (atPos ER (kcell (c, k)) 0 ∅ 0 : sProp 𝕄)) (pay (F := F))).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G ctx wo c) : sProp 𝕄)
    ⊢ |={Set.univ}=> bigSep Finset.univ (G' ctx wo) :=
  ((bigSep_mono fun c _ => core_alloc ctx wo c).trans (bigSep_fupd _ _)).trans (BI.fupd_mono (regroup ctx wo))

/-! ## The credit -/

theorem recv_eq_iff {n k : ℕ} (hn : n < 36) (hk : k < 36) {a b : Dev nD} : recvCell n a = recvCell k b ↔ n = k ∧ a = b := by
  constructor
  · intro h
    have h1 := kcell_injective (a₁ := (a, .inr (.inr ⟨n, hn⟩))) (a₂ := (b, .inr (.inr ⟨k, hk⟩))) h
    have h2 := Prod.ext_iff.mp h1
    refine ⟨?_, h2.1⟩
    have h3 := Sum.inr_injective (Sum.inr_injective h2.2)
    exact congrArg Fin.val h3
  · rintro ⟨rfl, rfl⟩; rfl

theorem bar_eq_iff {a b : Dev nD} : barCell a = barCell b ↔ a = b :=
  ⟨fun h => congrArg (fun g : GSem nD τ sig => g.1.1) h, fun h => h ▸ rfl⟩

theorem bar_ne_recv (a b : Dev nD) (n : ℕ) : barCell a ≠ recvCell n b := fun h => by
  have h1 : (SemLoc.reg barS : SemLoc sig) = .dma (recvSem n) := congrArg Prod.snd h
  cases h1

theorem owed_recv {n : ℕ} (hn : n < 36) (d c : Dev nD) : owed₀ d (recvCell n c) () = if d = orig n c then amt n else 0 := by
  have hz (x : Dev nD) : (tallyAt (barCell x) () 1 : CellTallies nD τ sig Unit) (recvCell n c) () = 0 := by
    rw [tallyAt_apply, if_neg fun h => bar_ne_recv x c n h.1.symm]
  unfold owed₀
  simp only [Pi.add_apply, Finsupp.add_apply, hz, Nat.add_zero]
  unfold owed
  rw [Finset.sum_apply, Finsupp.finset_sum_apply, Finset.sum_eq_single n]
  · rw [tallyAt_apply]
    by_cases h : d = orig n c
    · rw [if_pos h, if_pos ⟨by rw [h, peer_orig], rfl⟩]
    · rw [if_neg h, if_neg fun h' => h (by rw [((recv_eq_iff hn hn).mp h'.1).2, orig_peer])]
  · intro k hk hkn
    rw [tallyAt_apply, if_neg fun h' => hkn (((recv_eq_iff hn (Finset.mem_Ico.mp hk).2).mp h'.1).1.symm)]
  · intro h; exact absurd (Finset.mem_Ico.mpr ⟨Nat.zero_le _, hn⟩) h

theorem owed_bar (d c : Dev nD) : owed₀ d (barCell c) () = ∑ i : Fin 4, if d = nbInv i c then 1 else 0 := by
  have hz : (owed 0 d : CellTallies nD τ sig Unit) (barCell c) () = 0 := by
    unfold owed
    rw [Finset.sum_apply, Finsupp.finset_sum_apply]
    exact Finset.sum_eq_zero fun k _ => by rw [tallyAt_apply, if_neg fun h => bar_ne_recv c _ k h.1]
  have hb (i : Fin 4) : (tallyAt (barCell (nb i d)) () 1 : CellTallies nD τ sig Unit) (barCell c) () = if d = nbInv i c then 1 else 0 := by
    rw [tallyAt_apply]
    by_cases h : d = nbInv i c
    · rw [if_pos h, if_pos ⟨by rw [h]; exact congrArg _ ((barEquiv i).right_inv c).symm, rfl⟩]
    · rw [if_neg h, if_neg fun h' => h (by rw [bar_eq_iff.mp h'.1]; exact ((barEquiv i).left_inv d).symm)]
  unfold owed₀
  simp only [Pi.add_apply, Finsupp.add_apply, hz, hb, Fin.sum_univ_four]
  omega

theorem launch_recv {n : ℕ} (hn : n < 36) (c : Dev nD) :
    tallyOn (recvCell n c) (launchCredit (Pipeline.owing owed₀) 0 (recvCell n c)) = (tallyAt (recvCell n c) () (amt n) : CellTallies nD τ sig Unit) := by
  unfold tallyAt; refine congrArg _ (Finsupp.ext fun u => ?_); cases u
  rw [Pipeline.launchCredit_owing, Finsupp.single_eq_same, Finset.sum_congr rfl fun d _ => owed_recv hn d c,
    Finset.sum_ite_eq' Finset.univ (orig n c) fun _ => amt n, if_pos (Finset.mem_univ _)]

theorem launch_bar (c : Dev nD) :
    tallyOn (barCell c) (launchCredit (Pipeline.owing owed₀) 0 (barCell c)) = (tallyAt (barCell c) () 4 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun i _ => (Finset.sum_ite_eq' Finset.univ (nbInv i c) fun _ => 1).trans (if_pos (Finset.mem_univ _))]
  rfl

omit [FloatOps F] in
theorem creds (c : Dev nD) :
    (Pipeline.launchCred owed₀ c : sProp 𝕄) ⊢ iprop(cred (tallyAt (barCell c) () 4)
      ∗ bigSep (Finset.Ico 0 36) fun n => cred (tallyAt (recvCell n c) () (amt n))) := by
  have h0 := bigSep_subset (Finset.subset_univ ((Finset.univ : Finset (Unit ⊕ Fin 36)).map
      ⟨fun x : Unit ⊕ Fin 36 => (match x with | .inl _ => csem (.inl ()) | .inr n => csem (.inr (.inr n)) : SemLoc sig), by
        rintro (_ | a) (_ | b) h
        · rfl
        · cases csem_injective h
        · cases csem_injective h
        · exact congrArg _ (Sum.inr_injective (Sum.inr_injective (csem_injective h)))⟩))
    (Φ := fun sm : SemLoc sig => (cred (tallyOn ((c.tc : Thread nD τ), sm) (launchCredit (Pipeline.owing owed₀) 0 ((c.tc : Thread nD τ), sm))) : sProp 𝕄))
  rw [bigSep_map] at h0
  refine h0.trans ?_
  refine (Entails.of_eq (bigSep_univ_sum _)).trans ?_
  rw [bigSep_Ico36]
  refine Entails.of_eq (congrArg₂ _ ?_ ?_)
  · rw [show (Finset.univ : Finset Unit) = {()} from rfl, bigSep_singleton, ← launch_bar]; rfl
  · exact bigSep_congr fun n _ => by rw [← launch_recv n.isLt]; rfl

end Cert.RingProof

end
-- ==== Proof.PartsA.lean ====
/-
# The parts of the body: the reduce-scatter within a plane

Each takes one state to the next.
-/
module

public import proofs.«01_k».proof.Proof.Ops

@[expose] public section

set_option maxRecDepth 10000

noncomputable section

namespace Cert.RingProof

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (ctx : Dev nD → S2048x1024.Idx → Elt F .bf16) (wo : Dev nD → S1024x1024.Idx → Elt F .bf16)
variable (K : Dev nD × KI → ℕ) {R : SP F} {c : Dev nD}

theorem part5 {Q : (PUnit) → SP F} (w1 w2 w3 : BitVec 32)
    (hk : ∀ r, St ctx wo K R 2 0 0 0 c ⊢ Q r) :
    St ctx wo K R 0 0 0 0 c ⊢ WP c (atBufs (k0_part5 (F := F)) c w1 w2 w3) Q := by
  rw [k0_part5_eq_skeleton]; unfold atBufs k0_part5_skel
  simp only [Prog.lift, Prog.bind_op, Prog.bind_ret, Prog.pure_eq_ret]
  refine send_rs ctx wo K (n := 0) (landsA0 ctx wo (j := 0) (by decide)) (offf := fun c => k0_off1 c 0#32 0#32) (dvf := k0_dev5) (hk := ?_)
  refine send_rs ctx wo K (n := 1) (landsA1 ctx wo (j := 0) (by decide)) (offf := fun c => k0_off2 c 0#32 0#32) (dvf := k0_dev6) (hk := ?_)
  exact part_end (hk _)

theorem part6 {Q : (Σ' (v174 : BitVec 32), BitVec 32) → SP F} (w1 w2 w3 : BitVec 32)
    (hk : ∀ r, St ctx wo K R 4 1 1 0 c ⊢ Q r) :
    St ctx wo K R 2 0 0 0 c ⊢ WP c (atBufs (k0_part6 (F := F)) c w1 w2 w3) Q := by
  rw [k0_part6_eq_skeleton]; unfold atBufs k0_part6_skel
  simp only [Prog.lift, Prog.bind_op, Prog.bind_ret, Prog.pure_eq_ret]
  refine send_rs ctx wo K (n := 2) (landsA0 ctx wo (j := 1) (by decide)) (offf := fun c => k0_off1 c 0#32 256#32) (dvf := k0_dev7) (hk := ?_)
  refine send_rs ctx wo K (n := 3) (landsA1 ctx wo (j := 1) (by decide)) (offf := fun c => k0_off2 c 0#32 256#32) (dvf := k0_dev8) (hk := ?_)
  refine wait_send_rs ctx wo K 0 (hk := ?_)
  refine wait_recv_rs ctx wo K 0 (hk := ?_)
  exact part_end (hk _)

theorem part7 {Q : (Σ' (v202 : BitVec 32), Vec F S256x512 .bf16) → SP F} (w1 w2 w3 w4 : BitVec 32)
    (hk : ∀ r, AtOut ctx wo 1 1 c (a := 256) (b := 512) r.2 → St ctx wo K R 4 2 2 1 c ⊢ Q r) :
    St ctx wo K R 4 1 1 0 c ⊢ WP c (atBufs (k0_part7 (F := F)) c w1 w2 w3 w4) Q := by
  rw [k0_part7_eq_skeleton]; unfold atBufs k0_part7_skel
  simp only [Prog.lift, Prog.bind_op, Prog.bind_ret, Prog.pure_eq_ret]
  refine add_rs ctx wo K 0 (readsA0 ctx wo (j := 0) (by decide)) shapeCasts_S256x512_S256x512 shapeCasts_S1x256x512_S256x512 (offf := fun c => k0_off3 c 1#32 0#32) (hk := ?_)
  refine wait_send_rs ctx wo K 1 (hk := ?_)
  refine wait_recv_rs ctx wo K 1 (hk := ?_)
  refine load_out ctx wo K 1 (offf := fun c => k0_off4 c 1#32 0#32) (hk := fun v hv => ?_)
  exact part_end (hk _ hv)

theorem part8 {Q : (Σ' (v237 : BitVec 32), BitVec 32) → SP F} (w1 w2 w3 w4 : BitVec 32) {v207 : Vec F S256x512 .bf16}
    (hv : AtOut ctx wo 1 1 c (a := 256) (b := 512) v207)
    (hk : ∀ r, St ctx wo K R 5 2 2 2 c ⊢ Q r) :
    St ctx wo K R 4 2 2 1 c ⊢ WP c (atBufs (k0_part8 (F := F)) c w1 w2 w3 w4 v207) Q := by
  rw [k0_part8_eq_skeleton]; unfold atBufs k0_part8_skel
  simp only [Prog.lift, Prog.bind_op, Prog.bind_ret, Prog.pure_eq_ret]
  refine load_slot ctx wo K (n := 1) (readsA1 ctx wo (j := 0) (by decide)) (hk := fun w hw => ?_)
  refine load_out ctx wo K 1 (offf := fun c => k0_off4 c 1#32 0#32) (hk := fun _ _ => ?_)
  refine store_add ctx wo K 1 (offf := fun c => k0_off4 c 1#32 0#32) (hv := isSum ctx wo shapeCasts_S256x512_S256x512 shapeCasts_S1x256x512_S256x512 hv hw) (hk := ?_)
  refine send_rs ctx wo K (n := 4) (landsA0 ctx wo (j := 2) (by decide)) (offf := fun c => k0_off1 c 1#32 0#32) (dvf := k0_dev9) (hk := ?_)
  exact part_end (hk _)

theorem part9 {Q : (Σ' (v260 : BitVec 32) (v266 : FVec F S256x512 .bf16), Vec F S1x256x512 .bf16) → SP F} (w1 w2 w3 w4 : BitVec 32)
    (hk : ∀ r, AtOut ctx wo 2 2 c (a := 256) (b := 512) r.2.1 → AtSlot ctx wo 2 c (a := 256) (b := 512) r.2.2 → St ctx wo K R 6 3 3 2 c ⊢ Q r) :
    St ctx wo K R 5 2 2 2 c ⊢ WP c (atBufs (k0_part9 (F := F)) c w1 w2 w3 w4) Q := by
  rw [k0_part9_eq_skeleton]; unfold atBufs k0_part9_skel
  simp only [Prog.lift, Prog.bind_op, Prog.bind_ret, Prog.pure_eq_ret]
  refine send_rs ctx wo K (n := 5) (landsA1 ctx wo (j := 2) (by decide)) (offf := fun c => k0_off2 c 1#32 0#32) (dvf := k0_dev10) (hk := ?_)
  refine wait_send_rs ctx wo K 2 (hk := ?_)
  refine wait_recv_rs ctx wo K 2 (hk := ?_)
  refine load_out ctx wo K 2 (offf := fun c => k0_off3 c 1#32 256#32) (hk := fun v hv => ?_)
  refine load_slot ctx wo K (n := 2) (readsA0 ctx wo (j := 1) (by decide)) (hk := fun w hw => ?_)
  exact part_end (hk _ (by unfold k0_pay11; rw [shapeCast_self]; exact hv) hw)

theorem part10 {Q : (Σ' (v288 : BitVec 32) (v297 : FVec F S256x512 .bf16), BitVec 32) → SP F} (w1 w2 w3 : BitVec 32) {v266 : FVec F S256x512 .bf16} {v267 : Vec F S1x256x512 .bf16}
    (hv : AtOut ctx wo 2 2 c (a := 256) (b := 512) v266)
    (hw : AtSlot ctx wo 2 c (a := 256) (b := 512) v267)
    (hk : ∀ r, IsSum ctx wo 3 c (a := 256) (b := 512) r.2.1 → St ctx wo K R 6 4 4 3 c ⊢ Q r) :
    St ctx wo K R 6 3 3 2 c ⊢ WP c (atBufs (k0_part10 (F := F)) c w1 w2 w3 v266 v267) Q := by
  rw [k0_part10_eq_skeleton]; unfold atBufs k0_part10_skel
  simp only [Prog.lift, Prog.bind_op, Prog.bind_ret, Prog.pure_eq_ret]
  refine load_out ctx wo K 2 (offf := fun c => k0_off3 c 1#32 256#32) (hk := fun _ _ => ?_)
  refine store_add ctx wo K 2 (offf := fun c => k0_off3 c 1#32 256#32) (hv := isSum' ctx wo shapeCasts_S256x512_S256x512 shapeCasts_S1x256x512_S256x512 hv hw) (hk := ?_)
  refine wait_send_rs ctx wo K 3 (hk := ?_)
  refine wait_recv_rs ctx wo K 3 (hk := ?_)
  refine load_out ctx wo K 3 (offf := fun c => k0_off4 c 1#32 256#32) (hk := fun v hv => ?_)
  refine load_slot ctx wo K (n := 3) (readsA1 ctx wo (j := 1) (by decide)) (hk := fun w hw => ?_)
  exact part_end (hk _ (isSum ctx wo shapeCasts_S256x512_S256x512 shapeCasts_S1x256x512_S256x512 hv hw))

theorem part11 {Q : (PUnit) → SP F} (w1 w2 w3 w4 w5 : BitVec 32) {v297 : FVec F S256x512 .bf16}
    (hu : IsSum ctx wo 3 c (a := 256) (b := 512) v297)
    (hk : ∀ r, St ctx wo K R 7 4 4 4 c ⊢ Q r) :
    St ctx wo K R 6 4 4 3 c ⊢ WP c (atBufs (k0_part11 (F := F)) c w1 w2 w3 w4 v297 w5) Q := by
  rw [k0_part11_eq_skeleton]; unfold atBufs k0_part11_skel
  simp only [Prog.lift, Prog.bind_op, Prog.bind_ret, Prog.pure_eq_ret]
  refine load_out ctx wo K 3 (offf := fun c => k0_off4 c 1#32 256#32) (hk := fun _ _ => ?_)
  refine store_add ctx wo K 3 (offf := fun c => k0_off4 c 1#32 256#32) (hv := hu) (hk := ?_)
  refine send_rs ctx wo K (n := 6) (landsA0 ctx wo (j := 3) (by decide)) (offf := fun c => k0_off1 c 1#32 256#32) (dvf := k0_dev11) (hk := ?_)
  exact part_end (hk _)

theorem part12 {Q : (FVec F S256x512 .bf16) → SP F} (w1 w2 : BitVec 32)
    (hk : ∀ r, IsSum ctx wo 4 c (a := 256) (b := 512) r → St ctx wo K R 8 5 5 4 c ⊢ Q r) :
    St ctx wo K R 7 4 4 4 c ⊢ WP c (atBufs (k0_part12 (F := F)) c w1 w2) Q := by
  rw [k0_part12_eq_skeleton]; unfold atBufs k0_part12_skel
  simp only [Prog.lift, Prog.bind_op, Prog.bind_ret, Prog.pure_eq_ret]
  refine send_rs ctx wo K (n := 7) (landsA1 ctx wo (j := 3) (by decide)) (offf := fun c => k0_off2 c 1#32 256#32) (dvf := k0_dev12) (hk := ?_)
  refine wait_send_rs ctx wo K 4 (hk := ?_)
  refine wait_recv_rs ctx wo K 4 (hk := ?_)
  refine load_out ctx wo K 4 (offf := fun c => k0_off3 c 2#32 0#32) (hk := fun v hv => ?_)
  refine load_slot ctx wo K (n := 4) (readsA0 ctx wo (j := 2) (by decide)) (hk := fun w hw => ?_)
  exact part_end (hk _ (isSum ctx wo shapeCasts_S256x512_S256x512 shapeCasts_S1x256x512_S256x512 hv hw))

theorem part13 {Q : (PUnit) → SP F} (w1 w2 : BitVec 32) {v355 : FVec F S256x512 .bf16}
    (hu : IsSum ctx wo 4 c (a := 256) (b := 512) v355)
    (hk : ∀ r, St ctx wo K R 8 6 6 6 c ⊢ Q r) :
    St ctx wo K R 8 5 5 4 c ⊢ WP c (atBufs (k0_part13 (F := F)) c w1 w2 v355) Q := by
  rw [k0_part13_eq_skeleton]; unfold atBufs k0_part13_skel
  simp only [Prog.lift, Prog.bind_op, Prog.bind_ret, Prog.pure_eq_ret]
  refine load_out ctx wo K 4 (offf := fun c => k0_off3 c 2#32 0#32) (hk := fun _ _ => ?_)
  refine store_add ctx wo K 4 (offf := fun c => k0_off3 c 2#32 0#32) (hv := hu) (hk := ?_)
  refine wait_send_rs ctx wo K 5 (hk := ?_)
  refine wait_recv_rs ctx wo K 5 (hk := ?_)
  refine add_rs ctx wo K 5 (readsA1 ctx wo (j := 2) (by decide)) shapeCasts_S256x512_S256x512 shapeCasts_S1x256x512_S256x512 (offf := fun c => k0_off4 c 2#32 0#32) (hk := ?_)
  exact part_end (hk _)

theorem part14 {Q : (PUnit) → SP F} (w1 w2 w3 : BitVec 32)
    (hk : ∀ r, St ctx wo K R 10 6 6 6 c ⊢ Q r) :
    St ctx wo K R 8 6 6 6 c ⊢ WP c (atBufs (k0_part14 (F := F)) c w1 w2 w3) Q := by
  rw [k0_part14_eq_skeleton]; unfold atBufs k0_part14_skel
  simp only [Prog.lift, Prog.bind_op, Prog.bind_ret, Prog.pure_eq_ret]
  refine send_rs ctx wo K (n := 8) (landsA0 ctx wo (j := 4) (by decide)) (offf := fun c => k0_off1 c 2#32 0#32) (dvf := k0_dev13) (hk := ?_)
  refine send_rs ctx wo K (n := 9) (landsA1 ctx wo (j := 4) (by decide)) (offf := fun c => k0_off2 c 2#32 0#32) (dvf := k0_dev14) (hk := ?_)
  exact part_end (hk _)

theorem part15 {Q : (PUnit) → SP F} (w1 w2 : BitVec 32)
    (hk : ∀ r, St ctx wo K R 10 7 7 7 c ⊢ Q r) :
    St ctx wo K R 10 6 6 6 c ⊢ WP c (atBufs (k0_part15 (F := F)) c w1 w2) Q := by
  rw [k0_part15_eq_skeleton]; unfold atBufs k0_part15_skel
  simp only [Prog.lift, Prog.bind_op, Prog.bind_ret, Prog.pure_eq_ret]
  refine wait_send_rs ctx wo K 6 (hk := ?_)
  refine wait_recv_rs ctx wo K 6 (hk := ?_)
  refine add_rs ctx wo K 6 (readsA0 ctx wo (j := 3) (by decide)) shapeCasts_S256x512_S256x512 shapeCasts_S1x256x512_S256x512 (offf := fun c => k0_off3 c 2#32 256#32) (hk := ?_)
  exact part_end (hk _)

theorem part16 {Q : (BitVec 32) → SP F} (w1 w2 : BitVec 32)
    (hk : ∀ r, St ctx wo K R 10 8 8 8 c ⊢ Q r) :
    St ctx wo K R 10 7 7 7 c ⊢ WP c (atBufs (k0_part16 (F := F)) c w1 w2) Q := by
  rw [k0_part16_eq_skeleton]; unfold atBufs k0_part16_skel
  simp only [Prog.lift, Prog.bind_op, Prog.bind_ret, Prog.pure_eq_ret]
  refine wait_send_rs ctx wo K 7 (hk := ?_)
  refine wait_recv_rs ctx wo K 7 (hk := ?_)
  refine add_rs ctx wo K 7 (readsA1 ctx wo (j := 3) (by decide)) shapeCasts_S256x512_S256x512 shapeCasts_S1x256x512_S256x512 (offf := fun c => k0_off4 c 2#32 256#32) (hk := ?_)
  exact part_end (hk _)

theorem part17 {Q : (PUnit) → SP F} (w1 w2 w3 w4 : BitVec 32)
    (hk : ∀ r, St ctx wo K R 12 8 8 8 c ⊢ Q r) :
    St ctx wo K R 10 8 8 8 c ⊢ WP c (atBufs (k0_part17 (F := F)) c w1 w2 w3 w4) Q := by
  rw [k0_part17_eq_skeleton]; unfold atBufs k0_part17_skel
  simp only [Prog.lift, Prog.bind_op, Prog.bind_ret, Prog.pure_eq_ret]
  refine send_rs ctx wo K (n := 10) (landsA0 ctx wo (j := 5) (by decide)) (offf := fun c => k0_off1 c 2#32 256#32) (dvf := k0_dev15) (hk := ?_)
  refine send_rs ctx wo K (n := 11) (landsA1 ctx wo (j := 5) (by decide)) (offf := fun c => k0_off2 c 2#32 256#32) (dvf := k0_dev16) (hk := ?_)
  exact part_end (hk _)

theorem part18 {Q : (PUnit) → SP F} (w1 w2 : BitVec 32)
    (hk : ∀ r, St ctx wo K R 12 10 9 9 c ⊢ Q r) :
    St ctx wo K R 12 8 8 8 c ⊢ WP c (atBufs (k0_part18 (F := F)) c w1 w2) Q := by
  rw [k0_part18_eq_skeleton]; unfold atBufs k0_part18_skel
  simp only [Prog.lift, Prog.bind_op, Prog.bind_ret, Prog.pure_eq_ret]
  refine wait_send_rs ctx wo K 8 (hk := ?_)
  refine wait_recv_rs ctx wo K 8 (hk := ?_)
  refine add_rs ctx wo K 8 (readsA0 ctx wo (j := 4) (by decide)) shapeCasts_S256x512_S256x512 shapeCasts_S1x256x512_S256x512 (offf := fun c => k0_off5 c 0#32) (hk := ?_)
  refine wait_send_rs ctx wo K 9 (hk := ?_)
  exact part_end (hk _)

theorem part19 {Q : (BitVec 32) → SP F} (w1 w2 w3 : BitVec 32)
    (hk : ∀ r, St ctx wo K R 12 11 10 10 c ⊢ Q r) :
    St ctx wo K R 12 10 9 9 c ⊢ WP c (atBufs (k0_part19 (F := F)) c w1 w2 w3) Q := by
  rw [k0_part19_eq_skeleton]; unfold atBufs k0_part19_skel
  simp only [Prog.lift, Prog.bind_op, Prog.bind_ret, Prog.pure_eq_ret]
  refine wait_recv_rs ctx wo K 9 (hk := ?_)
  refine add_rs ctx wo K 9 (readsA1 ctx wo (j := 4) (by decide)) shapeCasts_S256x512_S256x512 shapeCasts_S1x256x512_S256x512 (offf := fun c => k0_off4 c 3#32 0#32) (hk := ?_)
  refine wait_send_rs ctx wo K 10 (hk := ?_)
  exact part_end (hk _)

theorem part20 {Q : (PUnit) → SP F} (w1 w2 w3 : BitVec 32)
    (hk : ∀ r, St ctx wo K R 12 12 11 11 c ⊢ Q r) :
    St ctx wo K R 12 11 10 10 c ⊢ WP c (atBufs (k0_part20 (F := F)) c w1 w2 w3) Q := by
  rw [k0_part20_eq_skeleton]; unfold atBufs k0_part20_skel
  simp only [Prog.lift, Prog.bind_op, Prog.bind_ret, Prog.pure_eq_ret]
  refine wait_recv_rs ctx wo K 10 (hk := ?_)
  refine add_rs ctx wo K 10 (readsA0 ctx wo (j := 5) (by decide)) shapeCasts_S256x512_S256x512 shapeCasts_S1x256x512_S256x512 (offf := fun c => k0_off5 c 256#32) (hk := ?_)
  refine wait_send_rs ctx wo K 11 (hk := ?_)
  exact part_end (hk _)

theorem part21 {Q : (Σ' (v617 : BitVec 32) (v619 : BitVec 32), BitVec 32) → SP F} (w1 w2 : BitVec 32)
    (hk : ∀ r, St ctx wo K R 12 12 12 12 c ⊢ Q r) :
    St ctx wo K R 12 12 11 11 c ⊢ WP c (atBufs (k0_part21 (F := F)) c w1 w2) Q := by
  rw [k0_part21_eq_skeleton]; unfold atBufs k0_part21_skel
  simp only [Prog.lift, Prog.bind_op, Prog.bind_ret, Prog.pure_eq_ret]
  refine wait_recv_rs ctx wo K 11 (hk := ?_)
  refine add_rs ctx wo K 11 (readsA1 ctx wo (j := 5) (by decide)) shapeCasts_S256x512_S256x512 shapeCasts_S1x256x512_S256x512 (offf := fun c => k0_off4 c 3#32 256#32) (hk := ?_)
  exact part_end (hk _)

end Cert.RingProof

end
-- ==== Proof.PartsB.lean ====
/-
# The parts of the body: the reduce-scatter across the planes

Each takes one state to the next.
-/
module

public import proofs.«01_k».proof.Proof.Ops

@[expose] public section

set_option maxRecDepth 10000

noncomputable section

namespace Cert.RingProof

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (ctx : Dev nD → S2048x1024.Idx → Elt F .bf16) (wo : Dev nD → S1024x1024.Idx → Elt F .bf16)
variable (K : Dev nD × KI → ℕ) {R : SP F} {c : Dev nD}

theorem part22 {Q : (BitVec 32) → SP F} (w1 w2 w3 w4 w5 : BitVec 32)
    (hk : ∀ r, St ctx wo K R 14 13 12 12 c ⊢ Q r) :
    St ctx wo K R 12 12 12 12 c ⊢ WP c (atBufs (k0_part22 (F := F)) c w1 w2 w3 w4 w5) Q := by
  rw [k0_part22_eq_skeleton]; unfold atBufs k0_part22_skel
  simp only [Prog.lift, Prog.bind_op, Prog.bind_ret, Prog.pure_eq_ret]
  refine send_rs ctx wo K (n := 12) (landsB0 ctx wo (j := 0) (by decide)) (offf := fun c => k0_off6 c 0#32) (dvf := k0_dev17) (hk := ?_)
  refine send_rs ctx wo K (n := 13) (landsB1 ctx wo (j := 0) (by decide)) (offf := fun c => k0_off7 c 0#32) (dvf := k0_dev18) (hk := ?_)
  refine wait_send_rs ctx wo K 12 (hk := ?_)
  exact part_end (hk _)

theorem part23 {Q : (BitVec 32) → SP F} (w1 w2 w3 w4 : BitVec 32)
    (hk : ∀ r, St ctx wo K R 14 13 13 13 c ⊢ Q r) :
    St ctx wo K R 14 13 12 12 c ⊢ WP c (atBufs (k0_part23 (F := F)) c w1 w2 w3 w4) Q := by
  rw [k0_part23_eq_skeleton]; unfold atBufs k0_part23_skel
  simp only [Prog.lift, Prog.bind_op, Prog.bind_ret, Prog.pure_eq_ret]
  refine wait_recv_rs ctx wo K 12 (hk := ?_)
  refine add_rs ctx wo K 12 (readsB0 ctx wo (j := 0) (by decide)) shapeCasts_S128x512_S128x512 shapeCasts_S1x128x512_S128x512 (offf := fun c => k0_off8 c 1#32) (hk := ?_)
  exact part_end (hk _)

theorem part24 {Q : (Σ' (v711 : BitVec 32) (v718 : FVec F S128x512 .bf16), Vec F S1x128x512 .bf16) → SP F} (w1 w2 w3 w4 : BitVec 32)
    (hk : ∀ r, AtOut ctx wo 13 13 c (a := 128) (b := 512) r.2.1 → AtSlot ctx wo 13 c (a := 128) (b := 512) r.2.2 → St ctx wo K R 15 14 14 13 c ⊢ Q r) :
    St ctx wo K R 14 13 13 13 c ⊢ WP c (atBufs (k0_part24 (F := F)) c w1 w2 w3 w4) Q := by
  rw [k0_part24_eq_skeleton]; unfold atBufs k0_part24_skel
  simp only [Prog.lift, Prog.bind_op, Prog.bind_ret, Prog.pure_eq_ret]
  refine send_rs ctx wo K (n := 14) (landsB0 ctx wo (j := 1) (by decide)) (offf := fun c => k0_off6 c 1#32) (dvf := k0_dev19) (hk := ?_)
  refine wait_send_rs ctx wo K 13 (hk := ?_)
  refine wait_recv_rs ctx wo K 13 (hk := ?_)
  refine load_out ctx wo K 13 (offf := fun c => k0_off9 c 1#32) (hk := fun v hv => ?_)
  refine load_slot ctx wo K (n := 13) (readsB1 ctx wo (j := 0) (by decide)) (hk := fun w hw => ?_)
  exact part_end (hk _ (by unfold k0_pay23; rw [shapeCast_self]; exact hv) hw)

theorem part25 {Q : (PUnit) → SP F} (w1 w2 w3 w4 w5 : BitVec 32) {v718 : FVec F S128x512 .bf16} {v719 : Vec F S1x128x512 .bf16}
    (hv : AtOut ctx wo 13 13 c (a := 128) (b := 512) v718)
    (hw : AtSlot ctx wo 13 c (a := 128) (b := 512) v719)
    (hk : ∀ r, St ctx wo K R 16 15 14 14 c ⊢ Q r) :
    St ctx wo K R 15 14 14 13 c ⊢ WP c (atBufs (k0_part25 (F := F)) c w1 w2 w3 w4 w5 v718 v719) Q := by
  rw [k0_part25_eq_skeleton]; unfold atBufs k0_part25_skel
  simp only [Prog.lift, Prog.bind_op, Prog.bind_ret, Prog.pure_eq_ret]
  refine load_out ctx wo K 13 (offf := fun c => k0_off9 c 1#32) (hk := fun _ _ => ?_)
  refine store_add ctx wo K 13 (offf := fun c => k0_off9 c 1#32) (hv := isSum' ctx wo shapeCasts_S128x512_S128x512 shapeCasts_S1x128x512_S128x512 hv hw) (hk := ?_)
  refine send_rs ctx wo K (n := 15) (landsB1 ctx wo (j := 1) (by decide)) (offf := fun c => k0_off7 c 1#32) (dvf := k0_dev20) (hk := ?_)
  refine wait_send_rs ctx wo K 14 (hk := ?_)
  exact part_end (hk _)

theorem part26 {Q : (PUnit) → SP F} (w1 w2 w3 : BitVec 32)
    (hk : ∀ r, St ctx wo K R 16 15 15 15 c ⊢ Q r) :
    St ctx wo K R 16 15 14 14 c ⊢ WP c (atBufs (k0_part26 (F := F)) c w1 w2 w3) Q := by
  rw [k0_part26_eq_skeleton]; unfold atBufs k0_part26_skel
  simp only [Prog.lift, Prog.bind_op, Prog.bind_ret, Prog.pure_eq_ret]
  refine wait_recv_rs ctx wo K 14 (hk := ?_)
  refine add_rs ctx wo K 14 (readsB0 ctx wo (j := 1) (by decide)) shapeCasts_S128x512_S128x512 shapeCasts_S1x128x512_S128x512 (offf := fun c => k0_off8 c 2#32) (hk := ?_)
  exact part_end (hk _)

theorem part27 {Q : (Σ' (v803 : BitVec 32), FVec F S128x512 .bf16) → SP F} (w1 w2 w3 : BitVec 32)
    (hk : ∀ r, IsSum ctx wo 15 c (a := 128) (b := 512) r.2 → St ctx wo K R 17 16 16 15 c ⊢ Q r) :
    St ctx wo K R 16 15 15 15 c ⊢ WP c (atBufs (k0_part27 (F := F)) c w1 w2 w3) Q := by
  rw [k0_part27_eq_skeleton]; unfold atBufs k0_part27_skel
  simp only [Prog.lift, Prog.bind_op, Prog.bind_ret, Prog.pure_eq_ret]
  refine send_rs ctx wo K (n := 16) (landsB0 ctx wo (j := 2) (by decide)) (offf := fun c => k0_off6 c 2#32) (dvf := k0_dev21) (hk := ?_)
  refine wait_send_rs ctx wo K 15 (hk := ?_)
  refine wait_recv_rs ctx wo K 15 (hk := ?_)
  refine load_out ctx wo K 15 (offf := fun c => k0_off9 c 2#32) (hk := fun v hv => ?_)
  refine load_slot ctx wo K (n := 15) (readsB1 ctx wo (j := 1) (by decide)) (hk := fun w hw => ?_)
  exact part_end (hk _ (isSum ctx wo shapeCasts_S128x512_S128x512 shapeCasts_S1x128x512_S128x512 hv hw))

theorem part28 {Q : (PUnit) → SP F} (w1 w2 w3 w4 w5 : BitVec 32) {v813 : FVec F S128x512 .bf16}
    (hu : IsSum ctx wo 15 c (a := 128) (b := 512) v813)
    (hk : ∀ r, St ctx wo K R 18 17 16 16 c ⊢ Q r) :
    St ctx wo K R 17 16 16 15 c ⊢ WP c (atBufs (k0_part28 (F := F)) c w1 w2 w3 w4 w5 v813) Q := by
  rw [k0_part28_eq_skeleton]; unfold atBufs k0_part28_skel
  simp only [Prog.lift, Prog.bind_op, Prog.bind_ret, Prog.pure_eq_ret]
  refine load_out ctx wo K 15 (offf := fun c => k0_off9 c 2#32) (hk := fun _ _ => ?_)
  refine store_add ctx wo K 15 (offf := fun c => k0_off9 c 2#32) (hv := hu) (hk := ?_)
  refine send_rs ctx wo K (n := 17) (landsB1 ctx wo (j := 2) (by decide)) (offf := fun c => k0_off7 c 2#32) (dvf := k0_dev22) (hk := ?_)
  refine wait_send_rs ctx wo K 16 (hk := ?_)
  exact part_end (hk _)

theorem part29 {Q : (PUnit) → SP F} (w1 w2 w3 : BitVec 32)
    (hk : ∀ r, St ctx wo K R 18 18 17 17 c ⊢ Q r) :
    St ctx wo K R 18 17 16 16 c ⊢ WP c (atBufs (k0_part29 (F := F)) c w1 w2 w3) Q := by
  rw [k0_part29_eq_skeleton]; unfold atBufs k0_part29_skel
  simp only [Prog.lift, Prog.bind_op, Prog.bind_ret, Prog.pure_eq_ret]
  refine wait_recv_rs ctx wo K 16 (hk := ?_)
  refine add_rs ctx wo K 16 (readsB0 ctx wo (j := 2) (by decide)) shapeCasts_S128x512_S128x512 shapeCasts_S1x128x512_S128x512 (offf := fun c => k0_off10 c) (hk := ?_)
  refine wait_send_rs ctx wo K 17 (hk := ?_)
  exact part_end (hk _)

theorem part30 {Q : (PUnit) → SP F} (w1 w2 w3 w4 : BitVec 32)
    (hk : ∀ r, St ctx wo K R 18 18 18 18 c ⊢ Q r) :
    St ctx wo K R 18 18 17 17 c ⊢ WP c (atBufs (k0_part30 (F := F)) c w1 w2 w3 w4) Q := by
  rw [k0_part30_eq_skeleton]; unfold atBufs k0_part30_skel
  simp only [Prog.lift, Prog.bind_op, Prog.bind_ret, Prog.pure_eq_ret]
  refine wait_recv_rs ctx wo K 17 (hk := ?_)
  refine add_rs ctx wo K 17 (readsB1 ctx wo (j := 2) (by decide)) shapeCasts_S128x512_S128x512 shapeCasts_S1x128x512_S128x512 (offf := fun c => k0_off9 c 3#32) (hk := ?_)
  exact part_end (hk _)

end Cert.RingProof

end
-- ==== Proof.PartsC.lean ====
/-
# The parts of the body: the two all-gathers

Each takes one state to the next.
-/
module

public import proofs.«01_k».proof.Proof.Ops

@[expose] public section

set_option maxRecDepth 10000

noncomputable section

namespace Cert.RingProof

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (ctx : Dev nD → S2048x1024.Idx → Elt F .bf16) (wo : Dev nD → S1024x1024.Idx → Elt F .bf16)
variable (K : Dev nD × KI → ℕ) {R : SP F} {c : Dev nD}

theorem part31 {Q : (PUnit) → SP F} (w1 w2 w3 w4 : BitVec 32)
    (hk : ∀ r, St ctx wo K R 20 19 19 18 c ⊢ Q r) :
    St ctx wo K R 18 18 18 18 c ⊢ WP c (atBufs (k0_part31 (F := F)) c w1 w2 w3 w4) Q := by
  rw [k0_part31_eq_skeleton]; unfold atBufs k0_part31_skel
  simp only [Prog.lift, Prog.bind_op, Prog.bind_ret, Prog.pure_eq_ret]
  refine send_ag ctx wo K 18 (offf := fun c => k0_off11 c 0#32) (dvf := k0_dev23) (hk := ?_)
  refine send_ag ctx wo K 19 (offf := fun c => k0_off12 c 0#32) (dvf := k0_dev24) (hk := ?_)
  refine wait_send_ag ctx wo K 18 (hk := ?_)
  refine wait_recv_ag ctx wo K 18 (hk := ?_)
  exact part_end (hk _)

theorem part32 {Q : (PUnit) → SP F} (w1 w2 w3 w4 w5 : BitVec 32)
    (hk : ∀ r, St ctx wo K R 21 20 20 18 c ⊢ Q r) :
    St ctx wo K R 20 19 19 18 c ⊢ WP c (atBufs (k0_part32 (F := F)) c w1 w2 w3 w4 w5) Q := by
  rw [k0_part32_eq_skeleton]; unfold atBufs k0_part32_skel
  simp only [Prog.lift, Prog.bind_op, Prog.bind_ret, Prog.pure_eq_ret]
  refine wait_send_ag ctx wo K 19 (hk := ?_)
  refine wait_recv_ag ctx wo K 19 (hk := ?_)
  refine send_ag ctx wo K 20 (offf := fun c => k0_off11 c 1#32) (dvf := k0_dev25) (hk := ?_)
  exact part_end (hk _)

theorem part33 {Q : (PUnit) → SP F} (w1 w2 : BitVec 32)
    (hk : ∀ r, St ctx wo K R 22 22 22 18 c ⊢ Q r) :
    St ctx wo K R 21 20 20 18 c ⊢ WP c (atBufs (k0_part33 (F := F)) c w1 w2) Q := by
  rw [k0_part33_eq_skeleton]; unfold atBufs k0_part33_skel
  simp only [Prog.lift, Prog.bind_op, Prog.bind_ret, Prog.pure_eq_ret]
  refine send_ag ctx wo K 21 (offf := fun c => k0_off12 c 1#32) (dvf := k0_dev26) (hk := ?_)
  refine wait_send_ag ctx wo K 20 (hk := ?_)
  refine wait_recv_ag ctx wo K 20 (hk := ?_)
  refine wait_send_ag ctx wo K 21 (hk := ?_)
  refine wait_recv_ag ctx wo K 21 (hk := ?_)
  exact part_end (hk _)

theorem part34 {Q : (PUnit) → SP F} (w1 w2 w3 w4 w5 : BitVec 32)
    (hk : ∀ r, St ctx wo K R 24 22 22 18 c ⊢ Q r) :
    St ctx wo K R 22 22 22 18 c ⊢ WP c (atBufs (k0_part34 (F := F)) c w1 w2 w3 w4 w5) Q := by
  rw [k0_part34_eq_skeleton]; unfold atBufs k0_part34_skel
  simp only [Prog.lift, Prog.bind_op, Prog.bind_ret, Prog.pure_eq_ret]
  refine send_ag ctx wo K 22 (offf := fun c => k0_off11 c 2#32) (dvf := k0_dev27) (hk := ?_)
  refine send_ag ctx wo K 23 (offf := fun c => k0_off12 c 2#32) (dvf := k0_dev28) (hk := ?_)
  exact part_end (hk _)

theorem part35 {Q : (Σ' (v1056 : BitVec 32), BitVec 32) → SP F} (w1 w2 w3 : BitVec 32)
    (hk : ∀ r, St ctx wo K R 24 24 24 18 c ⊢ Q r) :
    St ctx wo K R 24 22 22 18 c ⊢ WP c (atBufs (k0_part35 (F := F)) c w1 w2 w3) Q := by
  rw [k0_part35_eq_skeleton]; unfold atBufs k0_part35_skel
  simp only [Prog.lift, Prog.bind_op, Prog.bind_ret, Prog.pure_eq_ret]
  refine wait_send_ag ctx wo K 22 (hk := ?_)
  refine wait_recv_ag ctx wo K 22 (hk := ?_)
  refine wait_send_ag ctx wo K 23 (hk := ?_)
  refine wait_recv_ag ctx wo K 23 (hk := ?_)
  exact part_end (hk _)

theorem part36 {Q : (PUnit) → SP F} (w1 w2 w3 w4 w5 : BitVec 32)
    (hk : ∀ r, St ctx wo K R 26 24 24 18 c ⊢ Q r) :
    St ctx wo K R 24 24 24 18 c ⊢ WP c (atBufs (k0_part36 (F := F)) c w1 w2 w3 w4 w5) Q := by
  rw [k0_part36_eq_skeleton]; unfold atBufs k0_part36_skel
  simp only [Prog.lift, Prog.bind_op, Prog.bind_ret, Prog.pure_eq_ret]
  refine send_ag ctx wo K 24 (offf := fun c => k0_off13 c 0#32 0#32) (dvf := k0_dev29) (hk := ?_)
  refine send_ag ctx wo K 25 (offf := fun c => k0_off14 c 0#32 0#32) (dvf := k0_dev30) (hk := ?_)
  exact part_end (hk _)

theorem part37 {Q : (PUnit) → SP F} (w1 w2 : BitVec 32)
    (hk : ∀ r, St ctx wo K R 28 25 25 18 c ⊢ Q r) :
    St ctx wo K R 26 24 24 18 c ⊢ WP c (atBufs (k0_part37 (F := F)) c w1 w2) Q := by
  rw [k0_part37_eq_skeleton]; unfold atBufs k0_part37_skel
  simp only [Prog.lift, Prog.bind_op, Prog.bind_ret, Prog.pure_eq_ret]
  refine send_ag ctx wo K 26 (offf := fun c => k0_off13 c 0#32 256#32) (dvf := k0_dev31) (hk := ?_)
  refine send_ag ctx wo K 27 (offf := fun c => k0_off14 c 0#32 256#32) (dvf := k0_dev32) (hk := ?_)
  refine wait_send_ag ctx wo K 24 (hk := ?_)
  refine wait_recv_ag ctx wo K 24 (hk := ?_)
  exact part_end (hk _)

theorem part38 {Q : (Σ' (v1147 : BitVec 32), BitVec 32) → SP F} (w1 w2 w3 : BitVec 32)
    (hk : ∀ r, St ctx wo K R 29 26 26 18 c ⊢ Q r) :
    St ctx wo K R 28 25 25 18 c ⊢ WP c (atBufs (k0_part38 (F := F)) c w1 w2 w3) Q := by
  rw [k0_part38_eq_skeleton]; unfold atBufs k0_part38_skel
  simp only [Prog.lift, Prog.bind_op, Prog.bind_ret, Prog.pure_eq_ret]
  refine wait_send_ag ctx wo K 25 (hk := ?_)
  refine wait_recv_ag ctx wo K 25 (hk := ?_)
  refine send_ag ctx wo K 28 (offf := fun c => k0_off13 c 1#32 0#32) (dvf := k0_dev33) (hk := ?_)
  exact part_end (hk _)

theorem part39 {Q : (BitVec 32) → SP F} (w1 w2 w3 w4 w5 : BitVec 32)
    (hk : ∀ r, St ctx wo K R 30 28 28 18 c ⊢ Q r) :
    St ctx wo K R 29 26 26 18 c ⊢ WP c (atBufs (k0_part39 (F := F)) c w1 w2 w3 w4 w5) Q := by
  rw [k0_part39_eq_skeleton]; unfold atBufs k0_part39_skel
  simp only [Prog.lift, Prog.bind_op, Prog.bind_ret, Prog.pure_eq_ret]
  refine send_ag ctx wo K 29 (offf := fun c => k0_off14 c 1#32 0#32) (dvf := k0_dev34) (hk := ?_)
  refine wait_send_ag ctx wo K 26 (hk := ?_)
  refine wait_recv_ag ctx wo K 26 (hk := ?_)
  refine wait_send_ag ctx wo K 27 (hk := ?_)
  refine wait_recv_ag ctx wo K 27 (hk := ?_)
  exact part_end (hk _)

theorem part40 {Q : (PUnit) → SP F} (w1 w2 w3 w4 : BitVec 32)
    (hk : ∀ r, St ctx wo K R 32 29 28 18 c ⊢ Q r) :
    St ctx wo K R 30 28 28 18 c ⊢ WP c (atBufs (k0_part40 (F := F)) c w1 w2 w3 w4) Q := by
  rw [k0_part40_eq_skeleton]; unfold atBufs k0_part40_skel
  simp only [Prog.lift, Prog.bind_op, Prog.bind_ret, Prog.pure_eq_ret]
  refine send_ag ctx wo K 30 (offf := fun c => k0_off13 c 1#32 256#32) (dvf := k0_dev35) (hk := ?_)
  refine send_ag ctx wo K 31 (offf := fun c => k0_off14 c 1#32 256#32) (dvf := k0_dev36) (hk := ?_)
  refine wait_send_ag ctx wo K 28 (hk := ?_)
  exact part_end (hk _)

theorem part41 {Q : (PUnit) → SP F} (w1 w2 w3 : BitVec 32)
    (hk : ∀ r, St ctx wo K R 32 30 30 18 c ⊢ Q r) :
    St ctx wo K R 32 29 28 18 c ⊢ WP c (atBufs (k0_part41 (F := F)) c w1 w2 w3) Q := by
  rw [k0_part41_eq_skeleton]; unfold atBufs k0_part41_skel
  simp only [Prog.lift, Prog.bind_op, Prog.bind_ret, Prog.pure_eq_ret]
  refine wait_recv_ag ctx wo K 28 (hk := ?_)
  refine wait_send_ag ctx wo K 29 (hk := ?_)
  refine wait_recv_ag ctx wo K 29 (hk := ?_)
  exact part_end (hk _)

theorem part42 {Q : (PUnit) → SP F} (w1 w2 : BitVec 32)
    (hk : ∀ r, St ctx wo K R 34 31 31 18 c ⊢ Q r) :
    St ctx wo K R 32 30 30 18 c ⊢ WP c (atBufs (k0_part42 (F := F)) c w1 w2) Q := by
  rw [k0_part42_eq_skeleton]; unfold atBufs k0_part42_skel
  simp only [Prog.lift, Prog.bind_op, Prog.bind_ret, Prog.pure_eq_ret]
  refine send_ag ctx wo K 32 (offf := fun c => k0_off13 c 2#32 0#32) (dvf := k0_dev37) (hk := ?_)
  refine send_ag ctx wo K 33 (offf := fun c => k0_off14 c 2#32 0#32) (dvf := k0_dev38) (hk := ?_)
  refine wait_send_ag ctx wo K 30 (hk := ?_)
  refine wait_recv_ag ctx wo K 30 (hk := ?_)
  exact part_end (hk _)

theorem part43 {Q : (Σ' (v1294 : BitVec 32), BitVec 32) → SP F} (w1 w2 w3 : BitVec 32)
    (hk : ∀ r, St ctx wo K R 35 32 32 18 c ⊢ Q r) :
    St ctx wo K R 34 31 31 18 c ⊢ WP c (atBufs (k0_part43 (F := F)) c w1 w2 w3) Q := by
  rw [k0_part43_eq_skeleton]; unfold atBufs k0_part43_skel
  simp only [Prog.lift, Prog.bind_op, Prog.bind_ret, Prog.pure_eq_ret]
  refine wait_send_ag ctx wo K 31 (hk := ?_)
  refine wait_recv_ag ctx wo K 31 (hk := ?_)
  refine send_ag ctx wo K 34 (offf := fun c => k0_off13 c 2#32 256#32) (dvf := k0_dev39) (hk := ?_)
  exact part_end (hk _)

theorem part44 {Q : (PUnit) → SP F} (w1 w2 w3 w4 : BitVec 32)
    (hk : ∀ r, St ctx wo K R 36 34 34 18 c ⊢ Q r) :
    St ctx wo K R 35 32 32 18 c ⊢ WP c (atBufs (k0_part44 (F := F)) c w1 w2 w3 w4) Q := by
  rw [k0_part44_eq_skeleton]; unfold atBufs k0_part44_skel
  simp only [Prog.lift, Prog.bind_op, Prog.bind_ret, Prog.pure_eq_ret]
  refine send_ag ctx wo K 35 (offf := fun c => k0_off14 c 2#32 256#32) (dvf := k0_dev40) (hk := ?_)
  refine wait_send_ag ctx wo K 32 (hk := ?_)
  refine wait_recv_ag ctx wo K 32 (hk := ?_)
  refine wait_send_ag ctx wo K 33 (hk := ?_)
  refine wait_recv_ag ctx wo K 33 (hk := ?_)
  exact part_end (hk _)

end Cert.RingProof

end
-- ==== Proof.Body.lean ====
/-
# The body: its parts in order
-/
module

public import proofs.«01_k».proof.Proof.Start
public import proofs.«01_k».proof.Proof.PartsA
public import proofs.«01_k».proof.Proof.PartsB
public import proofs.«01_k».proof.Proof.PartsC

@[expose] public section

set_option maxRecDepth 10000

noncomputable section

namespace Cert.RingProof

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (ctx : Dev nD → S2048x1024.Idx → Elt F .bf16) (wo : Dev nD → S1024x1024.Idx → Elt F .bf16)
variable (K : Dev nD × KI → ℕ)
variable {c : Dev nD}

/-- A part, then the rest. -/
theorem bind_step {P : SP F} {α β : Type} {p : Prog (TpuEff nD τ sig (Elt F) Λ₀ .tc) α} {k : α → Prog (TpuEff nD τ sig (Elt F) Λ₀ .tc) β} {Q : β → SP F}
    (h : P ⊢ WP c p fun a => WP c (k a) Q) : P ⊢ WP c (p >>= k) Q := by
  unfold WP at h ⊢; rw [wp_bind]; exact h

/-- What the body leaves: every send and every receive is done, the output is the sum. -/
abbrev Done (c : Dev nD) : SP F := St ctx wo K iprop(Rin ctx wo c ∗ semVal (barCell c) 0) 36 36 36 18 c

theorem part45 {Q : (Σ' (d0 : Dev nD), BitVec 32) → SP F}
    (hk : ∀ v, St ctx wo K iprop(Rin ctx wo c ∗ semVal (barCell c) 0) 36 35 34 18 c ⊢ Q ⟨c, v⟩) :
    St₀ ctx wo K c ⊢ WP c (atBufs (k0_part45 (F := F))) Q := by
  rw [k0_part45_eq_skeleton]; unfold atBufs k0_part45_skel
  refine bind_step (part1 ctx wo K fun v19 v20 v24 v28 v32 v36 => ?_)
  refine bind_step (part2 ctx wo K _ _ _ _ ?_)
  refine bind_step (part3 ctx wo K ?_)
  refine bind_step (part4 ctx wo K _ _ ?_)
  refine bind_step (part5 ctx wo K _ _ _ fun r5 => ?_)
  refine bind_step (part6 ctx wo K _ _ _ fun r6 => ?_)
  refine bind_step (part7 ctx wo K _ _ _ _ fun r7 hv7 => ?_)
  refine bind_step (part8 ctx wo K _ _ _ _ hv7 fun r8 => ?_)
  refine bind_step (part9 ctx wo K _ _ _ _ fun r9 hv9 hw9 => ?_)
  refine bind_step (part10 ctx wo K _ _ _ hv9 hw9 fun r10 hu10 => ?_)
  refine bind_step (part11 ctx wo K _ _ _ _ _ hu10 fun r11 => ?_)
  refine bind_step (part12 ctx wo K _ _ fun r12 hu12 => ?_)
  refine bind_step (part13 ctx wo K _ _ hu12 fun r13 => ?_)
  refine bind_step (part14 ctx wo K _ _ _ fun r14 => ?_)
  refine bind_step (part15 ctx wo K _ _ fun r15 => ?_)
  refine bind_step (part16 ctx wo K _ _ fun r16 => ?_)
  refine bind_step (part17 ctx wo K _ _ _ _ fun r17 => ?_)
  refine bind_step (part18 ctx wo K _ _ fun r18 => ?_)
  refine bind_step (part19 ctx wo K _ _ _ fun r19 => ?_)
  refine bind_step (part20 ctx wo K _ _ _ fun r20 => ?_)
  refine bind_step (part21 ctx wo K _ _ fun r21 => ?_)
  refine bind_step (part22 ctx wo K _ _ _ _ _ fun r22 => ?_)
  refine bind_step (part23 ctx wo K _ _ _ _ fun r23 => ?_)
  refine bind_step (part24 ctx wo K _ _ _ _ fun r24 hv24 hw24 => ?_)
  refine bind_step (part25 ctx wo K _ _ _ _ _ hv24 hw24 fun r25 => ?_)
  refine bind_step (part26 ctx wo K _ _ _ fun r26 => ?_)
  refine bind_step (part27 ctx wo K _ _ _ fun r27 hu27 => ?_)
  refine bind_step (part28 ctx wo K _ _ _ _ _ hu27 fun r28 => ?_)
  refine bind_step (part29 ctx wo K _ _ _ fun r29 => ?_)
  refine bind_step (part30 ctx wo K _ _ _ _ fun r30 => ?_)
  refine bind_step (part31 ctx wo K _ _ _ _ fun r31 => ?_)
  refine bind_step (part32 ctx wo K _ _ _ _ _ fun r32 => ?_)
  refine bind_step (part33 ctx wo K _ _ fun r33 => ?_)
  refine bind_step (part34 ctx wo K _ _ _ _ _ fun r34 => ?_)
  refine bind_step (part35 ctx wo K _ _ _ fun r35 => ?_)
  refine bind_step (part36 ctx wo K _ _ _ _ _ fun r36 => ?_)
  refine bind_step (part37 ctx wo K _ _ fun r37 => ?_)
  refine bind_step (part38 ctx wo K _ _ _ fun r38 => ?_)
  refine bind_step (part39 ctx wo K _ _ _ _ _ fun r39 => ?_)
  refine bind_step (part40 ctx wo K _ _ _ _ fun r40 => ?_)
  refine bind_step (part41 ctx wo K _ _ _ fun r41 => ?_)
  refine bind_step (part42 ctx wo K _ _ fun r42 => ?_)
  refine bind_step (part43 ctx wo K _ _ _ fun r43 => ?_)
  refine bind_step (part44 ctx wo K _ _ _ _ fun r44 => ?_)
  simp only [Prog.lift, Prog.bind_op, Prog.bind_ret, Prog.pure_eq_ret]
  refine wait_send_ag ctx wo K 34 (hk := ?_)
  exact part_end (hk _)

/-- The body. -/
theorem body {Q : PUnit → SP F} (hk : Done ctx wo K c ⊢ Q ⟨⟩) :
    St₀ ctx wo K c ⊢ WP c (atBufs (cc0__allreduce_body (F := F))) Q := by
  rw [cc0__allreduce_body_eq_skeleton]; unfold atBufs cc0__allreduce_body_skel
  refine bind_step (part45 ctx wo K fun v => ?_)
  simp only [Prog.lift, Prog.bind_op, Prog.bind_ret, Prog.pure_eq_ret]
  refine wait_recv_ag ctx wo K 34 (hk := ?_)
  refine wait_send_ag ctx wo K 35 (hk := ?_)
  refine wait_recv_ag ctx wo K 35 (hk := ?_)
  exact part_end hk

end Cert.RingProof

end
-- ==== Proof.Run.lean ====
/-
# The run

The body's triple in the launch: every device's result array ends at the sum, whatever the float values.
-/
module

public import proofs.«01_k».proof.Proof.Ghost
public import proofs.«01_k».proof.Proof.Body
public import proofs.«01_k».proof.Proof.Gen.KernelIdeal.Points
public import Idealize.ShloMosaic.Lib.Pipeline.CollectiveSegs

@[expose] public section

set_option maxRecDepth 10000

noncomputable section

namespace Cert.RingProof

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The launch memory, every counter at zero. -/
def s₀ : MemSt nD τ sig (Elt F) := ⟨m, fun _ => 0, ρ⟩

/-- A device's operands, as its body reads them. -/
def ctxOf (c : Dev nD) : S2048x1024.Idx → Elt F .bf16 := (win0_0.blk (0 : Fin 1)).view.read (Elt F) (m ((c : Thread nD τ).loc main_arg0))
def woOf (c : Dev nD) : S1024x1024.Idx → Elt F .bf16 := (win0_1.blk (0 : Fin 1)).view.read (Elt F) (m ((c : Thread nD τ).loc main_arg1))

abbrev ctx : Dev nD → S2048x1024.Idx → Elt F .bf16 := ctxOf m
abbrev wo : Dev nD → S1024x1024.Idx → Elt F .bf16 := woOf m

/-! ## The pipeline's proof data -/

/-- What a device's body starts from. -/
def start (c : Dev nD) : sProp 𝕄 :=
  iprop(G' (ctx m) (wo m) c ∗ (cred (tallyAt (barCell c) () 4) ∗ bigSep (Finset.Ico 0 36) fun n => cred (tallyAt (recvCell n c) () (amt n))) ∗ levAts L lv)

def Φ₀ (c : Dev nD) : sProp 𝕄 := iprop(start m c ∗ bigSep (Finset.range 18) fun n => slotAny (F := F) n c)
/-- What it ends with. -/
def Φ₁ (c : Dev nD) : sProp 𝕄 :=
  iprop(semVal (barCell c) 0 ∗ ((bigSep (Finset.range 36) fun n => semVal (sendCell n c) 0) ∗ bigSep (Finset.range 36) fun n => semVal (recvCell n c) 0)
    ∗ bigSep (Finset.range 18) fun n => slotFull (ctx m) (wo m) n c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => ctx m c
    | ⟨1, _⟩ => wo m c
    | ⟨2, _⟩ => total (ctx m) (wo m)
  Φ t := match t with
    | ⟨0, _⟩ => Φ₀ m c
    | ⟨_ + 1, _⟩ => Φ₁ m c
  q _ := fullShare
  owed t := match t with
    | ⟨0, _⟩ => owed₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer's contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The body obligation -/

section Obligation

variable (c : Dev nD)

def bodyPre : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost : sProp 𝕄 :=
  iprop(Φ₁ m c ∗ (dats m ρ 0 c).owesAt () t0_0.succ ∗ stg c cc0_stg0_0 (ctx m c) ∗ stg c cc0_stg1_0 (wo m c)
    ∗ stg c cc0_stg2_0 (total (ctx m) (wo m)))

theorem before_ctx (d) : (dats m ρ 0 c).before (0 : Fin 3) t0_0 d = ctx m c := by
  unfold Dat.before; rw [if_pos (fetch0_0 t0_0)]; rfl
theorem before_wo (d) : (dats m ρ 0 c).before (1 : Fin 3) t0_0 d = wo m c := by
  unfold Dat.before; rw [if_pos (fetch0_1 t0_0)]; rfl

omit [FloatOps F] in
/-- A device's positions, by channel. -/
theorem pos_split : (bigSep Finset.univ fun k : KI => atPos ER (kcell (c, k)) 0 ∅ 0 : sProp 𝕄)
    ⊢ iprop(atPos ER (barCell c) 0 ∅ 0 ∗ (bigSep (Finset.Ico 0 36) fun n => atPos ER (sendCell n c) 0 ∅ 0) ∗ bigSep (Finset.Ico 0 36) fun n => atPos ER (recvCell n c) 0 ∅ 0) := by
  rw [bigSep_Ico36, bigSep_Ico36]
  refine Entails.of_eq ((bigSep_univ_sum _).trans (congrArg₂ _ ?_ (bigSep_univ_sum _)))
  rw [show (Finset.univ : Finset Unit) = {()} from rfl, bigSep_singleton]; rfl

omit [FloatOps F] in
theorem bar_toks : (bigSep Finset.univ fun d : Fin 4 => dutyTok ER (barCell (nb d c)) 0 d : sProp 𝕄)
    = iprop(dutyTok ER (barCell (nb 0 c)) 0 0 ∗ dutyTok ER (barCell (nb 1 c)) 0 1 ∗ dutyTok ER (barCell (nb 2 c)) 0 2 ∗ dutyTok ER (barCell (nb 3 c)) 0 3) :=
  bigSep_univ_eq_bigSepL [0, 1, 2, 3] (by decide) (by decide) _

/-- What the body is given is what it starts from. -/
theorem pre_start : bodyPre m ρ c ⊢ iprop(∃ K, St₀ (ctx m) (wo m) K c) := by
  unfold bodyPre Φ₀ start G' linear pay records
  rw [bar_toks, bigSep_grp]
  iintro ⟨⟨⟨⟨%K, ⟨#HI, #HR⟩, Hpos, ⟨T0, T1, T2, T3⟩, Htok⟩, ⟨Hcb, Hcr⟩, #Hlev⟩, S0, S1, S2, S3⟩, Ho, ⟨%d0, %g0, %hg0, Hx⟩, ⟨%d1, %g1, %hg1, Hw⟩, ⟨%d2, %g2, %hg2, Hout⟩⟩
  rw [before_ctx] at hg0
  rw [before_wo] at hg1
  subst hg0
  subst hg1
  unfold Dat.owesAt Pipeline.owesWithin
  icases Ho with ⟨%W, %hW, HO⟩
  rw [show (dats m ρ 0 c).owed t0_0.castSucc = owed₀ c from rfl]
  ihave Hp := (pos_split c) $$ Hpos
  icases Hp with ⟨Hpb, Hps, Hpr⟩
  iexists K
  unfold St₀ recs Rin outAny outPts posS posR
  isplitl [HO]
  · isplitr
    · isplitr; · iexact HI
      isplitr; · iexact HR
      iexact Hlev
    iexists W; iexact HO
  isplitl [T0]; · iexact T0
  isplitl [S0]; · iexact S0
  isplitl [T1]; · iexact T1
  isplitl [S1]; · iexact S1
  isplitl [T2]; · iexact T2
  isplitl [S2]; · iexact S2
  isplitl [T3]; · iexact T3
  isplitl [S3]; · iexact S3
  isplitl [Hpb Hcb]
  · isplitl [Hpb]; · iexact Hpb
    iexact Hcb
  isplitl [Hx Hw]
  · isplitl [Hx]; · iexact Hx
    iexact Hw
  isplitl [Hout]; · iexists g2; iexact Hout
  isplitl [Htok]; · iexact Htok
  isplitl [Hps]; · iexact Hps
  rw [bigSep_sep']
  isplitl [Hpr]; · iexact Hpr
  iexact Hcr

omit [FloatOps F] in
theorem owed_last : owed 36 c = 0 := owed_end c

/-- What the body ends with is what it owes the pipeline. -/
theorem done_post (K : Dev nD × KI → ℕ) : Done (ctx m) (wo m) K c ⊢ bodyPost m ρ c := by
  have hR : doneR (ctx m) (wo m) 36 c ⊢ iprop((bigSep (Finset.range 36) fun n => semVal (recvCell n c) 0) ∗ bigSep (Finset.range 18) fun n => slotFull (ctx m) (wo m) n c) := by
    unfold doneR
    have h18 : (bigSep (Finset.range 36) fun n => slotFull (ctx m) (wo m) n c) ⊢ bigSep (Finset.range 18) fun n => slotFull (ctx m) (wo m) n c :=
      bigSep_subset (by decide)
    rw [bigSep_sep']
    iintro ⟨H1, H2⟩
    isplitl [H1]; · iexact H1
    iapply h18; iexact H2
  unfold Done St bodyPost Rin doneS
  rw [ownSet_univ c (by decide +kernel), owed_last, cont_last]
  iintro ⟨⟨⟨Hx, Hw⟩, Hb⟩, -, Hout, -, -, -, -, -, HS, HR, ⟨%W, HO⟩⟩
  ihave HR' := hR $$ HR
  icases HR' with ⟨HR, Hsl⟩
  unfold Φ₁ Dat.owesAt Pipeline.owesWithin
  rw [show (dats m ρ 0 c).owed t0_0.succ = 0 from rfl]
  isplitl [Hb HS HR Hsl]
  · isplitl [Hb]; · iexact Hb
    isplitl [HS HR]
    · isplitl [HS]; · iexact HS
      iexact HR
    iexact Hsl
  isplitl [HO]
  · iexists W
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  unfold outPts; iexact Hout

/-- The body, on the buffers the launch passes it. -/
theorem row_eq : defs₀ (F := F) Proc.tc 0 (t0_0, cfg0.slots t0_0) = atBufs (cc0__allreduce_body (F := F)) := by
  have h1 : defs₀ (F := F) Proc.tc 0 (t0_0, cfg0.slots t0_0) = bodyAt0 t0_0 := rfl
  have h2 : bodyAt0 (F := F) t0_0 = atBufs (cc0__allreduce_body (F := F)) := rfl
  exact h1.trans h2

/-- The body obligation on device `c`. -/
theorem body_obligation : BodyObligation (dats (F := F) m ρ 0 c) (defs₀ (F := F)) 𝒱₀ () Set.univ := fun t => by
  rw [fin_N0 t]
  rw [bigSep_W0, bigSep_W0]
  simp only [owns_whole_eq]
  rw [row_eq]
  have e0 : (dats m ρ 0 c).Φ t0_0.castSucc = Φ₀ m c := rfl
  have e1 : (dats m ρ 0 c).Φ t0_0.succ = Φ₁ m c := rfl
  have e2 : (dats m ρ 0 c).after (0 : Fin 3) t0_0 = ctx m c := rfl
  have e3 : (dats m ρ 0 c).after (1 : Fin 3) t0_0 = wo m c := rfl
  have e4 : (dats m ρ 0 c).after (2 : Fin 3) t0_0 = total (ctx m) (wo m) := rfl
  rw [e0, e1, e2, e3, e4]
  have h : iprop(∃ K, St₀ (ctx m) (wo m) K c) ⊢ wp frame (wpE (defs₀ (F := F)) 𝒱₀ c none) Set.univ (atBufs (cc0__allreduce_body (F := F))) (fun _ => bodyPost m ρ c) := by
    iintro ⟨%K, H⟩
    iapply (body (ctx m) (wo m) K (Q := fun _ => bodyPost m ρ c) (done_post m ρ c K))
    iexact H
  revert h
  generalize atBufs (cc0__allreduce_body (F := F)) = B
  intro h
  show bodyPre m ρ c ⊢ wp frame (wpE (defs₀ (F := F)) 𝒱₀ c none) Set.univ B (fun _ => bodyPost m ρ c)
  exact (pre_start m ρ c).trans h

end Obligation

/-! ## The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ G' (ctx m) (wo m) c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs]; · iexact Hs
  iapply (slots_split c); iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m c from rfl, scopedRest0_eq, ownSems0_eq, unscopedSems0_eq]
  unfold Φ₁
  iintro ⟨Hb, Hs, Hsl⟩
  isplitl [Hb]; · iexact Hb
  isplitl [Hs]; · iexact Hs
  iapply (slots_join (ctx m) (wo m) c); iexact Hsl

/-- What is owed at the start is owed to barrier cells and to receive cells. -/
theorem owed₀_pos {c : Dev nD} {g : GSem nD τ sig} {u : Unit} (h : 0 < owed₀ c g u) :
    (∃ n x, n < 36 ∧ g = recvCell n x) ∨ ∃ x, g = barCell x := by
  by_contra hn
  rw [not_or] at hn
  have hb (x : Dev nD) : (tallyAt (barCell x) () 1 : CellTallies nD τ sig Unit) g u = 0 := by
    rw [tallyAt_apply, if_neg fun h' => hn.2 ⟨x, h'.1⟩]
  have h0 : (owed 0 c : CellTallies nD τ sig Unit) g u = 0 := by
    by_contra h'
    obtain ⟨n, -, hn36, hg⟩ := owed_pos (Nat.pos_of_ne_zero h')
    exact hn.1 ⟨n, _, hn36, hg⟩
  unfold owed₀ at h
  simp only [Pi.add_apply, Finsupp.add_apply, hb, h0] at h
  exact Nat.lt_irrefl 0 h

/-- A staging semaphore is at the bottom level. -/
theorem lv_stage (c : Dev nD) : ∀ (w : Fin 3) (s : Fin (spec0 w).nbuf), lv ((c : Thread nD τ), .dma ((spec0 w).sem s)) () = 0 := by
  have h : ∀ (w : Fin 3) (s : Fin (spec0 w).nbuf), lv (((0 : Dev nD) : Thread nD τ), .dma ((spec0 w).sem s)) () = 0 := by decide +kernel
  exact fun w s => h w s

omit [FloatOps F] in
theorem mayWait_stage (c : Dev nD) (q : DmaSem sig) (hq : lv ((c : Thread nD τ), .dma q) () = 0) (O : CellTallies nD τ sig Unit) (hO : O = owed₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases owed₀_pos hg with ⟨n, x, -, rfl⟩ | ⟨x, rfl⟩ <;> exact Finset.mem_singleton_self _)
      (fun p hp => by rw [Finset.mem_singleton.mp hp, hq])
      (fun g u hg => by
        rcases owed₀_pos hg with ⟨n, x, hn, rfl⟩ | ⟨x, rfl⟩
        · rw [lv_recv hn]; omega
        · rw [lv_bar]; omega)
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (lv_stage c w s) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- Every run ends, with every array at its final contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owed₀) (howed₀ := fun _ => rfl) (howedN := fun _ => rfl)
    (L := L) (lv := lv) (hL := L_of_ne) (hwaits := waits m ρ)
    (G := G (ctx m) (wo m)) (G' := G' (ctx m) (wo m)) (u₀ := u₀)
    (hu₀ := by
      unfold u₀
      iintro Hu
      ihave H := (ownU_pair _ _) $$ Hu
      icases H with ⟨HP, HX⟩
      imod (fund_ring (ctx m) (wo m)) $$ HX with HG
      imodintro
      isplitl [HP] <;> iassumption)
    (hglob := glob (ctx m) (wo m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands are left as they were; -/
theorem finalA_ctx (c : Dev nD) : finalA m ρ c (0 : Fin 3) = m ((c : Thread nD τ).loc main_arg0) :=
  (dats (F := F) m ρ 0 c).arrAt_in (0 : Fin 3) rfl _
theorem finalA_wo (c : Dev nD) : finalA m ρ c (1 : Fin 3) = m ((c : Thread nD τ).loc main_arg1) :=
  (dats (F := F) m ρ 0 c).arrAt_in (1 : Fin 3) rfl _

/-! ## The arrays as wholes -/

omit [FloatOps F] in
/-- A window's one block is its array. -/
theorem ctx_eq (c : Dev nD) : ctx m c = m ((c : Thread nD τ).loc main_arg0) :=
  Memref.read_access_unit_zero (Elt F) main_arg0 (funext fun a => Nat.zero_mul _) (fun a => by simp) _
omit [FloatOps F] in
theorem wo_eq (c : Dev nD) : wo m c = m ((c : Thread nD τ).loc main_arg1) :=
  Memref.read_access_unit_zero (Elt F) main_arg1 (funext fun a => Nat.zero_mul _) (fun a => by simp) _

/-- The result array ends at the sum. -/
theorem finalA_out (c : Dev nD) : finalA m ρ c (2 : Fin 3) = total (ctx m) (wo m) := by
  have h : (win0_2.blk (0 : Fin 1)).view.read (Elt F) (finalA m ρ c (2 : Fin 3)) = total (ctx m) (wo m) := by
    unfold finalA
    rw [show cfg0.N = ((0 : Fin 1) : Fin cfg0.N).val + 1 from rfl, (dats m ρ 0 c).arrAt_succ (2 : Fin 3) (0 : Fin 1)]
    rw [show (cfg0.win (2 : Fin 3)).flush (0 : Fin 1) = true from flush0_2 _, if_pos rfl]
    exact View.read_write_univ _ _
  exact (Memref.read_access_unit_zero (Elt F) main_v1 (funext fun a => Nat.zero_mul _) (fun a => by simp) _).symm.trans h

end Cert.RingProof

end
-- ==== Proof.Ideal.lean ====
/-
# The values over the reals

The sum the kernel leaves, over the extended reals, is the whole product: the running sums add the sixteen devices'
products, and those are the sixteen blocks of the contraction.
-/
module

public import proofs.«01_k».proof.Proof.Vals
public import proofs.«01_k».proof.Proof.Gen.ReferenceIdeal.Run
public import Idealize.ShloMosaic.Lib.MatmulPlain
public import Idealize.ShloMosaic.Lib.StackMember
public import Idealize.ShloMosaic.Lib.ValueIdx
public import Idealize.ShloMosaic.Lib.Layout
public import Idealize.ShloMosaic.Lib.Pipeline.Value

@[expose] public section

noncomputable section

namespace Cert.RingProof

open Cert.KernelIdeal Cert.KernelIdeal.Gen
open Idealize.ShloMosaic Idealize.ShloMosaic.TcCoe Idealize.ShloMosaic.ValueIdx
open scoped BigOperators

variable (ctx : Dev nD → S2048x1024.Idx → EReal) (wo : Dev nD → S1024x1024.Idx → EReal)

/-! ## One device's product -/

/-- One block's product at an element. -/
theorem pay_apply (x : FVec Ideal S256x1024 .bf16) (w : FVec Ideal S1024x1024 .bf16) (r : Fin 256) (l : Fin 1024) :
    k0_pay1 (F := Ideal) x w (ix2 r l) = ∑ k : Fin 1024, x (ix2 r k) * w (ix2 k l) := by
  have hd : dot_S256x1024_S1024x1024_S256x1024_1_0_0_1_n_n = DotDims.plain 256 1024 1024 := rfl
  unfold k0_pay1
  rw [shapeCast_self, shapeCast_self, hd]
  show FloatOps.matmul (F := Ideal) (DotDims.plain 256 1024 1024) none x w (constant S256x1024 .f32 0x00000000#32) (ix2 r l) = _
  rw [Ideal.matmul_plain_apply]
  show Ideal.ofBits .f32 0x00000000#32 + _ = _
  rw [Ideal.ofBits_zero_f32, zero_add]

/-- A device's product at an element: a sum over its own part of the contraction. -/
theorem partSum_apply (c : Dev nD) (r : Fin 2048) (l : Fin 1024) :
    partSum (F := Ideal) ctx wo c (ix2 r l) = ∑ k : Fin 1024, ctx c (ix2 r k) * wo c (ix2 k l) := by
  have hr : r.val < 2048 := r.isLt
  unfold partSum
  rw [pay_apply]
  refine Finset.sum_congr rfl fun k _ => congrArg₂ _ (congrArg (ctx c) (funext fun a => ?_)) (congrArg (wo c) (funext fun a => ?_))
  · match a with
    | ⟨0, _⟩ =>
      refine Fin.ext ?_
      show (256 * (r.val / 256) + r.val % 256 % 256) % 2048 = r.val
      omega
    | ⟨1, _⟩ => exact Fin.ext (Nat.mod_eq_of_lt k.isLt)
  · match a with
    | ⟨0, _⟩ => rfl
    | ⟨1, _⟩ => exact Fin.ext (Nat.mod_eq_of_lt l.isLt)

/-! ## The sixteen devices -/

/-- The devices whose products a running sum has added by the end, from the device `c` that holds it. -/
def walk (d : ℕ) (c : Dev nD) : List (Dev nD) :=
  let q := orig (12 + d)
  let w (x : Dev nD) : List (Dev nD) := [x, orig d x, orig d (orig d x), orig d (orig d (orig d x))]
  w c ++ w (q c) ++ w (q (q c)) ++ w (q (q (q c)))

/-- Every device, once. -/
theorem walk_perm : ∀ (d : Fin 2) (c : Dev nD), (walk d.val c).Perm (List.finRange 16) := by decide +kernel

theorem sum_walk (f : Dev nD → EReal) {d : ℕ} (hd : d < 2) (c : Dev nD) : ((walk d c).map f).sum = ∑ x : Dev nD, f x := by
  rw [((walk_perm ⟨d, hd⟩ c).map f).sum_eq, ← List.ofFn_eq_map, List.sum_ofFn]

theorem total_apply (i : S2048x1024.Idx) : total (F := Ideal) ctx wo i = ∑ c : Dev nD, partSum (F := Ideal) ctx wo c i := by
  have h1 : (i 1).val < 1024 := (i 1).isLt
  unfold total
  rw [← sum_walk (fun c => partSum (F := Ideal) ctx wo c i) (show (i 1).val / 512 < 2 by omega) (holder ((i 0).val / 128) ((i 1).val / 512))]
  simp only [walk, gB, gA, Ideal.addf_def, List.map_append, List.map_cons, List.map_nil, List.sum_append, List.sum_cons, List.sum_nil,
    add_assoc, add_zero]

/-! ## The contraction in blocks -/

/-- A sum over the whole contraction, device by device. -/
theorem sum_blocks (g : Fin 16384 → EReal) :
    ∑ k : Fin 16384, g k = ∑ c : Fin 16, ∑ l : Fin 1024, g ⟨c.val * 1024 + l.val, by have := c.isLt; have := l.isLt; omega⟩ := by
  rw [← Fintype.sum_prod_type', ← Equiv.sum_comp (finProdFinEquiv : Fin 16 × Fin 1024 ≃ Fin 16384)]
  refine Finset.sum_congr rfl fun p _ => congrArg g (Fin.ext ?_)
  show p.2.val + 1024 * p.1.val = p.1.val * 1024 + p.2.val
  omega

/-- The reference's product. -/
abbrev refOut (x : FVec Ideal Cert.ReferenceIdeal.S2048x16384 .bf16) (w : FVec Ideal Cert.ReferenceIdeal.S16384x1024 .bf16) :
    FVec Ideal Cert.ReferenceIdeal.S2048x1024 .bf16 :=
  truncf .bf16 (Host.dotGeneral Cert.ReferenceIdeal.dot_S2048x16384_S16384x1024_S2048x1024_1_0_0_1_n_n none x w)
    Cert.ReferenceIdeal.Gen.bitsLt_bf16_f32

theorem refOut_apply (x : FVec Ideal Cert.ReferenceIdeal.S2048x16384 .bf16) (w : FVec Ideal Cert.ReferenceIdeal.S16384x1024 .bf16)
    (r : Fin 2048) (l : Fin 1024) : refOut x w (ix2 r l) = ∑ k : Fin 16384, x (ix2 r k) * w (ix2 k l) :=
  StackMember.dotGeneral_plain_apply (m := 2048) (k := 16384) (n := 1024) none x w r l

/-- What the kernel leaves is the reference's product of the whole arrays. -/
theorem total_eq (x : FVec Ideal Cert.ReferenceIdeal.S2048x16384 .bf16) (w : FVec Ideal Cert.ReferenceIdeal.S16384x1024 .bf16)
    (hx : Layout.Tiles ⟨2, ![2048, 1024]⟩ ⟨2, ![2048, 16384]⟩ 1 16) (hw : Layout.Tiles ⟨2, ![1024, 1024]⟩ ⟨2, ![16384, 1024]⟩ 0 16)
    (hctx : ∀ c, ctx c = Layout.block ⟨2, ![2048, 1024]⟩ ⟨2, ![2048, 16384]⟩ 1 16 c x hx)
    (hwo : ∀ c, wo c = Layout.block ⟨2, ![1024, 1024]⟩ ⟨2, ![16384, 1024]⟩ 0 16 c w hw) :
    total (F := Ideal) ctx wo = refOut x w := by
  funext i
  obtain ⟨r, l, rfl⟩ : ∃ (r : Fin 2048) (l : Fin 1024), i = ix2 r l := ⟨i 0, i 1, eq_ix2 i⟩
  rw [total_apply, refOut_apply, sum_blocks]
  refine Finset.sum_congr rfl fun c _ => ?_
  rw [partSum_apply]
  refine Finset.sum_congr rfl fun k _ => ?_
  rw [hctx, hwo]
  refine congrArg₂ _ (congrArg x (funext fun a => ?_)) (congrArg w (funext fun a => ?_))
  · match a with
    | ⟨0, _⟩ => rfl
    | ⟨1, _⟩ => rfl
  · match a with
    | ⟨0, _⟩ => rfl
    | ⟨1, _⟩ => rfl

end Cert.RingProof

end
-- ==== Proof.AttnMath.lean ====
/- The arithmetic of the attention, over the extended reals: the weights of a row of scores, the division of a weighted sum
   by their total taken inside it, and a row whose kept keys lie in two windows. -/
module

public import Idealize.ShloMosaic.PureOps.Ideal

@[expose] public section

noncomputable section

namespace Cert.Attn

open Idealize.ShloMosaic

/-- Key `j` is kept for row `i`. -/
abbrev Keep (i j : ℕ) : Prop := (i ≤ j + 128 ∧ j ≤ i + 128) ∨ j < 32 ∨ i < 32

/-- A score where the key is kept, and −∞ elsewhere. -/
def msk (p : Prop) [Decidable p] (s : EReal) : EReal := if p then s else ⊥

/-- The weight of a score, the row's maximum being `M`. -/
def wgt (M s : EReal) : EReal := Ideal.exp (s - M)

theorem wgt_bot (M : EReal) : wgt M ⊥ = 0 := by simp [wgt]

theorem wgt_coe (M s : ℝ) : wgt (M : EReal) (s : EReal) = ((Real.exp (s - M) : ℝ) : EReal) := by
  unfold wgt; rw [← EReal.coe_sub]; rfl

/-- The weights of a row some score of which is real, and none of which is +∞, add to a positive real. -/
theorem total_pos {n : ℕ} (S : Fin n → EReal) (ht : ∀ j, S j ≠ ⊤) (j₀ : Fin n) (h₀ : S j₀ ≠ ⊥) :
    ∃ D : ℝ, 0 < D ∧ ∑ j, wgt (Finset.univ.sup S) (S j) = (D : EReal) := by
  have hle : S j₀ ≤ Finset.univ.sup S := Finset.le_sup (Finset.mem_univ j₀)
  obtain ⟨j₁, -, h₁⟩ := Finset.exists_mem_eq_sup Finset.univ ⟨j₀, Finset.mem_univ j₀⟩ S
  have hMt : Finset.univ.sup S ≠ ⊤ := h₁ ▸ ht j₁
  have hMb : Finset.univ.sup S ≠ ⊥ := fun h => h₀ (le_bot_iff.mp (h ▸ hle))
  generalize Finset.univ.sup S = M at hMt hMb
  lift M to ℝ using ⟨hMt, hMb⟩
  have hw : ∀ j, wgt (M : EReal) (S j) = ((if S j = ⊥ then 0 else Real.exp ((S j).toReal - M) : ℝ) : EReal) := by
    intro j
    by_cases hj : S j = ⊥
    · rw [if_pos hj, hj, wgt_bot]; rfl
    · rw [if_neg hj]
      conv_lhs => rw [← EReal.coe_toReal (ht j) hj]
      rw [wgt_coe]
  refine ⟨∑ j, (if S j = ⊥ then 0 else Real.exp ((S j).toReal - M)), ?_, ?_⟩
  · refine Finset.sum_pos' (fun j _ => ?_) ⟨j₀, Finset.mem_univ _, ?_⟩
    · split
      · exact le_rfl
      · exact (Real.exp_pos _).le
    · rw [if_neg h₀]; exact Real.exp_pos _
  · simp only [hw]
    induction (Finset.univ : Finset (Fin n)) using Finset.induction_on with
    | empty => simp
    | insert a s ha ih => rw [Finset.sum_insert ha, Finset.sum_insert ha, EReal.coe_add, ih]

theorem sum_mul_coe {ι : Type} (s : Finset ι) (f : ι → EReal) (c : ℝ) (hc : 0 ≤ c) :
    (∑ j ∈ s, f j) * (c : EReal) = ∑ j ∈ s, f j * (c : EReal) := by
  classical
  induction s using Finset.induction_on with
  | empty => simp
  | insert a s ha ih =>
    rw [Finset.sum_insert ha, Finset.sum_insert ha, ← ih,
      EReal.right_distrib_of_nonneg_of_ne_top (EReal.coe_nonneg.mpr hc) (EReal.coe_ne_top c)]

/-- The quotient of a weighted sum by the weights' total is the sum weighted by the quotients. -/
theorem div_inside {n : ℕ} (W V : Fin n → EReal) (D : ℝ) (hD : 0 < D) :
    Ideal.div (∑ j, W j * V j) (D : EReal) = ∑ j, V j * Ideal.div (W j) (D : EReal) := by
  have hne : (D : EReal) ≠ 0 := by exact_mod_cast hD.ne'
  simp only [Ideal.div, if_neg hne, ← EReal.coe_inv]
  rw [sum_mul_coe _ _ _ (inv_nonneg.mpr hD.le)]
  refine Finset.sum_congr rfl fun j _ => ?_
  rw [mul_comm (W j) (V j), mul_assoc]

/-! ## Two windows -/

/-- A sum over a window of the keys, as one over all keys. -/
theorem sum_window {n k : ℕ} (ws : ℕ) (h : ws + k ≤ n) (g : Fin n → EReal) :
    ∑ b : Fin k, g ⟨ws + b.val, by omega⟩ = ∑ j : Fin n, if ws ≤ j.val ∧ j.val < ws + k then g j else 0 := by
  rw [← Finset.sum_filter]
  refine Finset.sum_bij (fun b _ => ⟨ws + b.val, by omega⟩) ?_ ?_ ?_ ?_
  · intro b _; simp only [Finset.mem_filter, Finset.mem_univ, true_and]; omega
  · intro a _ b _ hab; apply Fin.ext; have := congrArg Fin.val hab; simp only at this; omega
  · intro j hj; simp only [Finset.mem_filter, Finset.mem_univ, true_and] at hj
    exact ⟨⟨j.val - ws, by omega⟩, Finset.mem_univ _, Fin.ext (by simp only; omega)⟩
  · intro b _; rfl

/-- The first key of the window of block `t`. -/
def wst (t : ℕ) : ℕ := min 1664 (128 * (t - 1))

/-- Key `j` of the window is kept for row `i` by the windowed mask. -/
abbrev KeepW (i j : ℕ) : Prop := (i ≤ j + 128 ∧ j ≤ i + 128) ∨ j < 32

/-- Key `j` is kept by the second mask. -/
abbrev KeepG (t j : ℕ) : Prop := 2 ≤ t ∧ j < 32

theorem wst_le (t : ℕ) : wst t + 384 ≤ 2048 := by unfold wst; omega

/-- A function of the masked scores that is zero off the mask, summed over the two windows, is the sum over all keys. -/
theorem sum_two (t r : ℕ) (h1 : 1 ≤ t) (ht : t < 16) (hr : r < 128) (s : Fin 2048 → EReal) (f : EReal → Fin 2048 → EReal)
    (hf : ∀ j, f ⊥ j = 0) :
    (∑ b : Fin 384, f (msk (KeepW (128 * t + r) (wst t + b.val)) (s ⟨wst t + b.val, by have := wst_le t; omega⟩))
          ⟨wst t + b.val, by have := wst_le t; omega⟩)
        + ∑ g : Fin 128, f (msk (KeepG t g.val) (s ⟨g.val, by omega⟩)) ⟨g.val, by omega⟩
      = ∑ j : Fin 2048, f (msk (Keep (128 * t + r) j.val) (s j)) j := by
  rw [sum_window (wst t) (wst_le t) (fun j => f (msk (KeepW (128 * t + r) j.val) (s j)) j)]
  have h2 := sum_window (n := 2048) (k := 128) 0 (by omega) (fun j => f (msk (KeepG t j.val) (s j)) j)
  simp only [Nat.zero_add] at h2
  rw [h2, ← Finset.sum_add_distrib]
  refine Finset.sum_congr rfl fun j _ => ?_
  have hj := j.isLt
  unfold msk wst
  by_cases hw : min 1664 (128 * (t - 1)) ≤ j.val ∧ j.val < min 1664 (128 * (t - 1)) + 384
  · by_cases hk : KeepW (128 * t + r) j.val
    · have hg : ¬KeepG t j.val := by unfold KeepG; unfold KeepW at hk; omega
      have hK : Keep (128 * t + r) j.val := by unfold Keep; unfold KeepW at hk; omega
      rw [if_pos hw, if_pos hk, if_neg hg, if_pos hK, hf]; simp
    · have hg : ¬KeepG t j.val := by unfold KeepG; unfold KeepW at hk; omega
      have hK : ¬Keep (128 * t + r) j.val := by unfold Keep; unfold KeepW at hk; omega
      rw [if_pos hw, if_neg hk, if_neg hg, if_neg hK, hf]; simp
  · by_cases hg : KeepG t j.val
    · have hK : Keep (128 * t + r) j.val := by unfold Keep; unfold KeepG at hg; omega
      rw [if_neg hw, if_pos hg, if_pos hK, if_pos (by unfold KeepG at hg; omega)]; simp
    · have hK : ¬Keep (128 * t + r) j.val := by unfold Keep; unfold KeepG at hg; omega
      rw [if_neg hw, if_neg hg, if_neg hK, hf]; simp

/-- The greatest masked score of the two windows is that of all keys. -/
theorem sup_two (t r : ℕ) (h1 : 1 ≤ t) (ht : t < 16) (hr : r < 128) (s : Fin 2048 → EReal) :
    max (Finset.univ.sup fun b : Fin 384 => msk (KeepW (128 * t + r) (wst t + b.val)) (s ⟨wst t + b.val, by have := wst_le t; omega⟩))
        (Finset.univ.sup fun g : Fin 128 => msk (KeepG t g.val) (s ⟨g.val, by omega⟩))
      = Finset.univ.sup fun j : Fin 2048 => msk (Keep (128 * t + r) j.val) (s j) := by
  apply le_antisymm
  · refine max_le (Finset.sup_le fun b _ => ?_) (Finset.sup_le fun g _ => ?_)
    · by_cases hk : KeepW (128 * t + r) (wst t + b.val)
      · refine le_trans ?_ (Finset.le_sup (Finset.mem_univ (⟨wst t + b.val, by have := wst_le t; omega⟩ : Fin 2048)))
        have hK : Keep (128 * t + r) (wst t + b.val) := by unfold Keep; unfold KeepW at hk; omega
        simp only [msk]; rw [if_pos hk, if_pos hK]
      · simp only [msk]; rw [if_neg hk]; exact bot_le
    · by_cases hk : KeepG t g.val
      · refine le_trans ?_ (Finset.le_sup (Finset.mem_univ (⟨g.val, by omega⟩ : Fin 2048)))
        have hK : Keep (128 * t + r) g.val := by unfold Keep; unfold KeepG at hk; omega
        simp only [msk]; rw [if_pos hk, if_pos hK]
      · simp only [msk]; rw [if_neg hk]; exact bot_le
  · refine Finset.sup_le fun j _ => ?_
    have hj := j.isLt
    by_cases hK : Keep (128 * t + r) j.val
    · by_cases hw : wst t ≤ j.val ∧ j.val < wst t + 384
      · refine le_trans ?_ (le_max_left _ _)
        refine le_trans ?_ (Finset.le_sup (Finset.mem_univ (⟨j.val - wst t, by omega⟩ : Fin 384)))
        have e : wst t + (j.val - wst t) = j.val := by omega
        have hk : KeepW (128 * t + r) (wst t + (j.val - wst t)) := by rw [e]; unfold KeepW; unfold Keep at hK; omega
        have es : (⟨wst t + (j.val - wst t), by omega⟩ : Fin 2048) = j := Fin.ext e
        simp only [msk]; rw [if_pos hK, if_pos hk, es]
      · refine le_trans ?_ (le_max_right _ _)
        have hlt : j.val < 32 ∧ 2 ≤ t := by unfold wst at hw; unfold Keep at hK; omega
        refine le_trans ?_ (Finset.le_sup (Finset.mem_univ (⟨j.val, by omega⟩ : Fin 128)))
        have hk : KeepG t j.val := ⟨hlt.2, hlt.1⟩
        simp only [msk]; rw [if_pos hK, if_pos hk]
    · simp only [msk]; rw [if_neg hK]; exact bot_le

end Cert.Attn

end
-- ==== Proof.AttnHead.lean ====
/- One head of the attention's body: what it stores of a block of query rows, as functions of the masks, the queries, the keys
   and the values, read at a place. -/
module

public import proofs.«01_k».proof.Proof.Gen.AttnKernelIdeal.Skeleton
public import proofs.«01_k».proof.Proof.AttnMath
public import Idealize.ShloMosaic.Lib.Pointwise
public import Idealize.ShloMosaic.Lib.MatmulPlain

@[expose] public section

set_option maxRecDepth 10000

noncomputable section

namespace Cert.Attn

open Idealize.ShloMosaic Cert.AttnKernelIdeal Cert.AttnKernelIdeal.Gen Cert.AttnKernelIdeal.Facts

/-- The scale of the scores. -/
def scl : EReal := Ideal.ofBits .f32 0x3DB504F3#32

/-! ## The block that reads every key -/

def scoreD (m : IVec S128x2048 1) (q : FVec Ideal S128x128 .bf16) (K : FVec Ideal S2048x128 .bf16) : FVec Ideal S128x2048 .f32 :=
  select m
    (mulf (matmul dot_S128x128_S2048x128_S128x2048_1_1_0_0_n_n none q K (constant S128x2048 .f32 0x00000000#32))
      (broadcast S128x2048 (Scalar.ofBits .f32 0x3DB504F3#32)))
    (broadcast S128x2048 (Named.named κ "mask" 0xCE6E6B28#32))

def expD (S : FVec Ideal S128x2048 .f32) : FVec Ideal S128x2048 .f32 :=
  exp (subf S (broadcastTo S128x2048 (shapeCast S128x1
    (multiReduction .maximumf [1] S128 S 0xFF800000#32 reduces_S128x2048_S128 (.inl rfl) rfl) shapeCasts_S128_S128x1)
    broadcasts_S128x1_S128x2048))

def headD (S : FVec Ideal S128x2048 .f32) (V : FVec Ideal S2048x128 .bf16) : FVec Ideal S128x128 .bf16 :=
  truncf .bf16 (divf
    (matmul dot_S128x2048_S2048x128_S128x128_1_0_0_1_n_n none (truncf .bf16 (expD S) bitsLt_bf16_f32) V
      (constant S128x128 .f32 0x00000000#32))
    (broadcastTo S128x128 (shapeCast S128x1
      (multiReduction .add [1] S128 (expD S) 0x00000000#32 reduces_S128x2048_S128 (.inl rfl) rfl) shapeCasts_S128_S128x1)
      broadcasts_S128x1_S128x128)) bitsLt_bf16_f32

theorem named_mask : (Named.named κ "mask" 0xCE6E6B28#32 : Ideal .f32) = (⊥ : EReal) := rfl

theorem negInf : (Ideal.ofBits .f32 0xFF800000#32) = ⊥ := by simp [Ideal.ofBits, Ideal.ieee]

theorem select_msk (b : BitVec 1) (x : EReal) :
    (Scalar.select b x (Named.named κ "mask" 0xCE6E6B28#32 : Ideal .f32) : EReal) = msk (b = 1#1) x := by
  rw [named_mask]; unfold Scalar.select msk; rfl

theorem scoreD_apply (m : IVec S128x2048 1) (q : FVec Ideal S128x128 .bf16) (K : FVec Ideal S2048x128 .bf16) (r : Fin 128)
    (j : Fin 2048) :
    scoreD m q K (ix2 r j) = msk (m (ix2 r j) = 1#1) ((∑ e : Fin 128, q (ix2 r e) * K (ix2 j e)) * scl) := by
  unfold scoreD
  simp only [pointwise, zero_add]
  exact select_msk _ _

theorem fold_sup {n : ℕ} (f : Fin n → EReal) :
    Finset.fold max (Ideal.ofBits .f32 0xFF800000#32) f Finset.univ = Finset.univ.sup f := by
  rw [negInf]; rfl

theorem expD_apply (S : FVec Ideal S128x2048 .f32) (r : Fin 128) (j : Fin 2048) :
    expD S (ix2 r j) = wgt (Finset.univ.sup fun j => S (ix2 r j)) (S (ix2 r j)) := by
  unfold expD wgt
  simp only [pointwise, fold_sup]
  rfl

theorem headD_apply (S : FVec Ideal S128x2048 .f32) (V : FVec Ideal S2048x128 .bf16) (r d : Fin 128) :
    headD S V (ix2 r d) = Ideal.div (∑ j, wgt (Finset.univ.sup fun j => S (ix2 r j)) (S (ix2 r j)) * V (ix2 j d))
      (∑ j, wgt (Finset.univ.sup fun j => S (ix2 r j)) (S (ix2 r j))) := by
  unfold headD
  simp only [pointwise, zero_add]
  have h : ∀ i : S128x2048.Idx, expD S i = wgt (Finset.univ.sup fun j => S (ix2 (i 0) j)) (S i) := fun i => by
    have := expD_apply S (i 0) (i 1)
    rwa [← eq_ix2] at this
  simp only [h]
  rfl

/-! ## The blocks that read a window of the keys, and the first keys -/

def scoreW (m : IVec S128x384 1) (q : FVec Ideal S128x128 .bf16) (K : FVec Ideal S384x128 .bf16) : FVec Ideal S128x384 .f32 :=
  select m
    (mulf (matmul dot_S128x128_S384x128_S128x384_1_1_0_0_n_n none q K (constant S128x384 .f32 0x00000000#32))
      (broadcast S128x384 (Scalar.ofBits .f32 0x3DB504F3#32)))
    (broadcast S128x384 (Named.named κ "mask" 0xCE6E6B28#32))

def scoreG (m : IVec S128x128 1) (q : FVec Ideal S128x128 .bf16) (K : FVec Ideal S128x128 .bf16) : FVec Ideal S128x128 .f32 :=
  select m
    (mulf (matmul dot_S128x128_S128x128_S128x128_1_1_0_0_n_n none q K (constant S128x128 .f32 0x00000000#32))
      (broadcast S128x128 (Scalar.ofBits .f32 0x3DB504F3#32)))
    (broadcast S128x128 (Named.named κ "mask" 0xCE6E6B28#32))

def maxB (S : FVec Ideal S128x384 .f32) (T : FVec Ideal S128x128 .f32) : FVec Ideal S128x1 .f32 :=
  maximumf
    (shapeCast S128x1 (multiReduction .maximumf [1] S128 S 0xFF800000#32 reduces_S128x384_S128 (.inl rfl) rfl) shapeCasts_S128_S128x1)
    (shapeCast S128x1 (multiReduction .maximumf [1] S128 T 0xFF800000#32 reduces_S128x128_S128 (.inl rfl) rfl) shapeCasts_S128_S128x1)

def headB (S : FVec Ideal S128x384 .f32) (T : FVec Ideal S128x128 .f32) (V : FVec Ideal S384x128 .bf16)
    (V₀ : FVec Ideal S128x128 .bf16) : FVec Ideal S128x128 .bf16 :=
  truncf .bf16 (divf
    (addf
      (matmul dot_S128x384_S384x128_S128x128_1_0_0_1_n_n none
        (truncf .bf16 (exp (subf S (broadcastTo S128x384 (maxB S T) broadcasts_S128x1_S128x384))) bitsLt_bf16_f32) V
        (constant S128x128 .f32 0x00000000#32))
      (matmul dot_S128x128_S128x128_S128x128_1_0_0_1_n_n none
        (truncf .bf16 (exp (subf T (broadcastTo S128x128 (maxB S T) broadcasts_S128x1_S128x128))) bitsLt_bf16_f32) V₀
        (constant S128x128 .f32 0x00000000#32)))
    (broadcastTo S128x128
      (addf
        (shapeCast S128x1 (multiReduction .add [1] S128
          (exp (subf S (broadcastTo S128x384 (maxB S T) broadcasts_S128x1_S128x384))) 0x00000000#32 reduces_S128x384_S128
          (.inl rfl) rfl) shapeCasts_S128_S128x1)
        (shapeCast S128x1 (multiReduction .add [1] S128
          (exp (subf T (broadcastTo S128x128 (maxB S T) broadcasts_S128x1_S128x128))) 0x00000000#32 reduces_S128x128_S128
          (.inl rfl) rfl) shapeCasts_S128_S128x1))
      broadcasts_S128x1_S128x128)) bitsLt_bf16_f32

theorem scoreW_apply (m : IVec S128x384 1) (q : FVec Ideal S128x128 .bf16) (K : FVec Ideal S384x128 .bf16) (r : Fin 128)
    (j : Fin 384) :
    scoreW m q K (ix2 r j) = msk (m (ix2 r j) = 1#1) ((∑ e : Fin 128, q (ix2 r e) * K (ix2 j e)) * scl) := by
  unfold scoreW
  simp only [pointwise, zero_add]
  exact select_msk _ _

theorem scoreG_apply (m : IVec S128x128 1) (q : FVec Ideal S128x128 .bf16) (K : FVec Ideal S128x128 .bf16) (r : Fin 128)
    (j : Fin 128) :
    scoreG m q K (ix2 r j) = msk (m (ix2 r j) = 1#1) ((∑ e : Fin 128, q (ix2 r e) * K (ix2 j e)) * scl) := by
  unfold scoreG
  simp only [pointwise, zero_add]
  exact select_msk _ _

/-- The greatest score of row `r`. -/
abbrev mx (S : FVec Ideal S128x384 .f32) (T : FVec Ideal S128x128 .f32) (r : Fin 128) : EReal :=
  max (Finset.univ.sup fun j => S (ix2 r j)) (Finset.univ.sup fun j => T (ix2 r j))

theorem maxB_apply (S : FVec Ideal S128x384 .f32) (T : FVec Ideal S128x128 .f32) (i : S128x1.Idx) :
    maxB S T i = mx S T (i 0) := by
  unfold maxB
  simp only [pointwise, fold_sup]

theorem headB_apply (S : FVec Ideal S128x384 .f32) (T : FVec Ideal S128x128 .f32) (V : FVec Ideal S384x128 .bf16)
    (V₀ : FVec Ideal S128x128 .bf16) (r d : Fin 128) :
    headB S T V V₀ (ix2 r d) = Ideal.div
      (∑ j, wgt (mx S T r) (S (ix2 r j)) * V (ix2 j d) + ∑ j, wgt (mx S T r) (T (ix2 r j)) * V₀ (ix2 j d))
      (∑ j, wgt (mx S T r) (S (ix2 r j)) + ∑ j, wgt (mx S T r) (T (ix2 r j))) := by
  unfold headB wgt
  simp only [pointwise, zero_add, maxB_apply]
  rfl

/-! ## The stored values are these -/

section Payloads

variable (v3 : FVec Ideal S128x1024 .bf16) (v4 : FVec Ideal S1024x1024 .bf16) (i : grid0.Coords)
  (K V : FVec Ideal S2048x128 .bf16) (Kw Vw : FVec Ideal S384x128 .bf16) (K₀ V₀ : FVec Ideal S128x128 .bf16)
  (a : BitVec 32) (v10 : IVec S128x1 32) (v6 : FVec Ideal S128x1024 .bf16) (v29 : IVec S128x2048 1) (v32 : IVec S128x384 1)
  (v38 : IVec S128x128 1)

theorem dense0 : k0_pay6 v6 v10 K V = headD (scoreD (k0_pay5 v10) (extractStridedSlice S128x128 ![0, 0] v6 slices_S128x1024_o0_0_S128x128) K) V := rfl

theorem dense1 : k0_pay8 v29 (k0_pay7 v6 K) (Named.named κ "mask" 0xCE6E6B28#32) V = headD (scoreD v29 (extractStridedSlice S128x128 ![0, 128] v6 slices_S128x1024_o0_128_S128x128) K) V := rfl

theorem dense2 : k0_pay9 v6 v29 K V = headD (scoreD v29 (extractStridedSlice S128x128 ![0, 256] v6 slices_S128x1024_o0_256_S128x128) K) V := rfl

theorem dense3 : k0_pay11 v29 (k0_pay10 v6) K V = headD (scoreD v29 (extractStridedSlice S128x128 ![0, 384] v6 slices_S128x1024_o0_384_S128x128) K) V := rfl

theorem dense4 : k0_pay15 (k0_pay13 v6 v29 K V) (k0_pay14 v6 v29 K) = headD (scoreD v29 (extractStridedSlice S128x128 ![0, 512] v6 slices_S128x1024_o0_512_S128x128) K) V := rfl

theorem dense5 : k0_pay16 v6 v29 K V = headD (scoreD v29 (extractStridedSlice S128x128 ![0, 640] v6 slices_S128x1024_o0_640_S128x128) K) V := rfl

theorem dense6 : k0_pay3 (k0_pay17 v6 v29 K) (k0_pay18 v6 v29 K) V = headD (scoreD v29 (extractStridedSlice S128x128 ![0, 768] v6 slices_S128x1024_o0_768_S128x128) K) V := rfl

theorem dense7 : k0_pay4 v3 v4 v29 K V = headD (scoreD v29 (extractStridedSlice S128x128 ![0, 896] (k0_pay1 v3 v4) slices_S128x1024_o0_896_S128x128) K) V := rfl

theorem band0 : k0_pay24 Vw V₀ (k0_pay22 a v6 v10 Kw) (k0_pay23 a v6 K₀) = headB (scoreW (k0_pay19 a v10) (extractStridedSlice S128x128 ![0, 0] v6 slices_S128x1024_o0_0_S128x128) Kw) (scoreG (k0_pay20 a) (extractStridedSlice S128x128 ![0, 0] v6 slices_S128x1024_o0_0_S128x128) K₀) Vw V₀ := rfl

theorem band1 : k0_pay28 v38 Vw V₀ (k0_pay26 v6 v32 Kw) (k0_pay27 v6 K₀) (Named.named κ "mask" 0xCE6E6B28#32) = headB (scoreW v32 (extractStridedSlice S128x128 ![0, 128] v6 slices_S128x1024_o0_128_S128x128) Kw) (scoreG v38 (extractStridedSlice S128x128 ![0, 128] v6 slices_S128x1024_o0_128_S128x128) K₀) Vw V₀ := rfl

theorem band2 : k0_pay32 v38 Vw V₀ (k0_pay30 v6 v32 Kw) (k0_pay31 v6 K₀) (Scalar.ofBits .f32 0x3DB504F3#32) = headB (scoreW v32 (extractStridedSlice S128x128 ![0, 256] v6 slices_S128x1024_o0_256_S128x128) Kw) (scoreG v38 (extractStridedSlice S128x128 ![0, 256] v6 slices_S128x1024_o0_256_S128x128) K₀) Vw V₀ := rfl

theorem band3 : k0_pay35 v38 (k0_pay33 v6) Vw K₀ V₀ (k0_pay34 v6 v32 Kw) = headB (scoreW v32 (extractStridedSlice S128x128 ![0, 384] v6 slices_S128x1024_o0_384_S128x128) Kw) (scoreG v38 (extractStridedSlice S128x128 ![0, 384] v6 slices_S128x1024_o0_384_S128x128) K₀) Vw V₀ := rfl

theorem band4 : k0_pay38 v32 v38 (k0_pay36 v6) Vw K₀ V₀ (k0_pay37 v6 Kw) = headB (scoreW v32 (extractStridedSlice S128x128 ![0, 512] v6 slices_S128x1024_o0_512_S128x128) Kw) (scoreG v38 (extractStridedSlice S128x128 ![0, 512] v6 slices_S128x1024_o0_512_S128x128) K₀) Vw V₀ := rfl

theorem band5 : k0_pay41 v32 v38 (k0_pay39 v6) Vw K₀ V₀ (k0_pay40 v6 Kw) = headB (scoreW v32 (extractStridedSlice S128x128 ![0, 640] v6 slices_S128x1024_o0_640_S128x128) Kw) (scoreG v38 (extractStridedSlice S128x128 ![0, 640] v6 slices_S128x1024_o0_640_S128x128) K₀) Vw V₀ := rfl

theorem band6 : k0_pay43 v32 v38 (k0_pay42 v6) Kw Vw K₀ V₀ = headB (scoreW v32 (extractStridedSlice S128x128 ![0, 768] v6 slices_S128x1024_o0_768_S128x128) Kw) (scoreG v38 (extractStridedSlice S128x128 ![0, 768] v6 slices_S128x1024_o0_768_S128x128) K₀) Vw V₀ := rfl

theorem band7 : k0_pay45 v32 v38 (k0_pay44 v6) Kw Vw K₀ V₀ = headB (scoreW v32 (extractStridedSlice S128x128 ![0, 896] v6 slices_S128x1024_o0_896_S128x128) Kw) (scoreG v38 (extractStridedSlice S128x128 ![0, 896] v6 slices_S128x1024_o0_896_S128x128) K₀) Vw V₀ := rfl

end Payloads

end Cert.Attn

end
-- ==== Proof.AttnMask.lean ====
/- The masks of the attention, read at a place: which keys a row keeps. -/
module

public import proofs.«01_k».proof.Proof.AttnHead
public import Idealize.ShloMosaic.Lib.WordCmp

@[expose] public section

set_option maxRecDepth 16384

noncomputable section

namespace Cert.Attn

open Idealize.ShloMosaic Cert.AttnKernelIdeal Cert.AttnKernelIdeal.Gen Cert.AttnKernelIdeal.Facts

/-- Two small words differ by at most 128. -/
theorem near (a b : ℕ) (ha : a < 4096) (hb : b < 4096) :
    IntOp.cmpi .sle (IntOp.absi (IntOp.subi (BitVec.ofNat 32 a) (BitVec.ofNat 32 b))) 128#32
      = BitVec.ofBool (decide (a ≤ b + 128 ∧ b ≤ a + 128)) := by
  have key : IntOp.absi (IntOp.subi (BitVec.ofNat 32 a) (BitVec.ofNat 32 b)) = BitVec.ofNat 32 (max a b - min a b) := by
    unfold IntOp.absi IntOp.subi
    apply BitVec.eq_of_toNat_eq
    rw [BitVec.msb_eq_decide]
    split <;> rename_i h <;> simp only [decide_eq_true_eq, BitVec.toNat_sub, BitVec.toNat_neg, BitVec.toNat_ofNat] at h ⊢ <;> omega
  rw [key]
  simp (disch := omega) only [hlo_ix]
  congr 1; simp only [decide_eq_decide]; omega

theorem mask5 (i : grid0.Coords) (r : Fin 128) (j : Fin 2048) :
    k0_pay5 (k0_pay2 i) (ix2 r j) = 1#1 ↔ Keep (128 * (i 0).val + r.val) j.val := by
  have hi : (i 0).val < 16 := (i 0).isLt
  generalize ht : (i 0).val = t at hi
  unfold k0_pay5 k0_pay2
  simp only [pointwise, ht]
  simp only [List.foldl, zero_mul, zero_add]
  change IntOp.ori (IntOp.ori (IntOp.cmpi .sle (IntOp.absi (IntOp.subi (IntOp.addi (BitVec.ofNat 32 r.val)
    (IntOp.muli (BitVec.ofNat 32 t) 128#32)) (BitVec.ofNat 32 j.val))) 128#32) (IntOp.cmpi .slt (BitVec.ofNat 32 j.val) 32#32))
    (IntOp.cmpi .slt (IntOp.addi (BitVec.ofNat 32 r.val) (IntOp.muli (BitVec.ofNat 32 t) 128#32)) 32#32) = 1#1 ↔ _
  have e : IntOp.addi (BitVec.ofNat 32 r.val) (IntOp.muli (BitVec.ofNat 32 t) 128#32) = BitVec.ofNat 32 (r.val + t * 128) := by
    unfold IntOp.addi IntOp.muli; rw [BitVec.ofNat_add, BitVec.ofNat_mul]
  rw [e, near _ _ (by omega) (by omega)]
  word_cmp

theorem mask20 (t : ℕ) (ht : t < 16) (r : Fin 128) (j : Fin 128) :
    k0_pay20 (BitVec.ofNat 32 t) (ix2 r j) = 1#1 ↔ KeepG t j.val := by
  unfold k0_pay20
  simp only [pointwise]
  simp only [List.foldl, zero_mul, zero_add]
  change IntOp.andi (IntOp.cmpi .slt (BitVec.ofNat 32 j.val) 32#32) (IntOp.cmpi .sge (BitVec.ofNat 32 t) 2#32) = 1#1 ↔ _
  word_cmp

/-- The window's first key, as the words compute it. -/
theorem wst_word (t : ℕ) (h1 : 1 ≤ t) (ht : t < 16) :
    Scalar.minsi 1664#32 (Scalar.maxsi 0#32 (Scalar.muli (Scalar.subi (BitVec.ofNat 32 t) 1#32) 128#32)) = BitVec.ofNat 32 (wst t) := by
  interval_cases t <;> decide

theorem mask19 (i : grid0.Coords) (h1 : 1 ≤ (i 0).val) (r : Fin 128) (j : Fin 384) :
    k0_pay19 (BitVec.ofNat 32 (i 0).val) (k0_pay2 i) (ix2 r j) = 1#1 ↔ KeepW (128 * (i 0).val + r.val) (wst (i 0).val + j.val) := by
  have hi : (i 0).val < 16 := (i 0).isLt
  generalize ht : (i 0).val = t at hi h1
  unfold k0_pay19 k0_pay2
  simp only [pointwise, ht, wst_word t h1 hi]
  simp only [List.foldl, zero_mul, zero_add]
  change IntOp.ori (IntOp.cmpi .sle (IntOp.absi (IntOp.subi (IntOp.addi (BitVec.ofNat 32 r.val)
    (IntOp.muli (BitVec.ofNat 32 t) 128#32)) (IntOp.addi (BitVec.ofNat 32 j.val) (BitVec.ofNat 32 (wst t))))) 128#32)
    (IntOp.cmpi .slt (IntOp.addi (BitVec.ofNat 32 j.val) (BitVec.ofNat 32 (wst t))) 32#32) = 1#1 ↔ _
  have e : IntOp.addi (BitVec.ofNat 32 r.val) (IntOp.muli (BitVec.ofNat 32 t) 128#32) = BitVec.ofNat 32 (r.val + t * 128) := by
    unfold IntOp.addi IntOp.muli; rw [BitVec.ofNat_add, BitVec.ofNat_mul]
  have e2 : IntOp.addi (BitVec.ofNat 32 j.val) (BitVec.ofNat 32 (wst t)) = BitVec.ofNat 32 (j.val + wst t) := by
    unfold IntOp.addi; rw [BitVec.ofNat_add]
  have hw := wst_le t
  rw [e, e2, near _ _ (by omega) (by omega)]
  word_cmp

end Cert.Attn

end
-- ==== Proof.AttnBlock.lean ====
/- The attention's result at a place, and one head's block of it. -/
module

public import proofs.«01_k».proof.Proof.AttnMask

@[expose] public section

set_option maxRecDepth 16384

noncomputable section

namespace Cert.Attn

open Idealize.ShloMosaic Cert.AttnKernelIdeal Cert.AttnKernelIdeal.Gen Cert.AttnKernelIdeal.Facts

/-- Column `e` of head `h`. -/
abbrev col (h : Fin 8) (e : Fin 128) : Fin 1024 := ⟨128 * h.val + e.val, by omega⟩

/-- Row `r` of block `t`. -/
abbrev rowOf (t : ℕ) (ht : t < 16) (r : Fin 128) : Fin 2048 := ⟨128 * t + r.val, by omega⟩

/-- Key `b` of the window of block `t`. -/
abbrev keyOf (t : ℕ) (b : Fin 384) : Fin 2048 := ⟨wst t + b.val, by have := wst_le t; omega⟩

section Spec

variable (x : FVec Ideal S2048x1024 .bf16) (w : FVec Ideal S1024x1024 .bf16) (k v : FVec Ideal S2048x1024 .bf16)

/-- The query of row `i` at column `c`. -/
def qry (i : Fin 2048) (c : Fin 1024) : EReal := ∑ m : Fin 1024, x (ix2 i m) * w (ix2 m c)

/-- The score of row `i` and key `j` in head `h`. -/
def scr (i : Fin 2048) (h : Fin 8) (j : Fin 2048) : EReal := (∑ e : Fin 128, qry x w i (col h e) * k (ix2 j (col h e))) * scl

/-- … masked. -/
def row (i : Fin 2048) (h : Fin 8) (j : Fin 2048) : EReal := msk (Keep i.val j.val) (scr x w k i h j)

/-- The weight of key `j`. -/
def wt (i : Fin 2048) (h : Fin 8) (j : Fin 2048) : EReal := wgt (Finset.univ.sup (row x w k i h)) (row x w k i h j)

/-- The context of row `i` in head `h`. -/
def ctx (i : Fin 2048) (h : Fin 8) (d : Fin 128) : EReal :=
  Ideal.div (∑ j, wt x w k i h j * v (ix2 j (col h d))) (∑ j, wt x w k i h j)

/-- The result. -/
def res : FVec Ideal S2048x1024 .bf16 := fun y =>
  ctx x w k v (y 0) ⟨(y 1).val / 128, by have : (y 1).val < 1024 := (y 1).isLt; omega⟩ ⟨(y 1).val % 128, by omega⟩

theorem msk_congr {p q : Prop} [Decidable p] [Decidable q] (h : p ↔ q) (s : EReal) : msk p s = msk q s := by
  unfold msk; simp only [h]

variable {x w k v}

theorem dense_out {t : ℕ} {ht : t < 16} {h : Fin 8} {m : IVec S128x2048 1} {q : FVec Ideal S128x128 .bf16} {K V : FVec Ideal S2048x128 .bf16}
    (hm : ∀ r j, m (ix2 r j) = 1#1 ↔ Keep (128 * t + r.val) j.val)
    (hq : ∀ r e, q (ix2 r e) = qry x w (rowOf t ht r) (col h e))
    (hK : ∀ j e, K (ix2 j e) = k (ix2 j (col h e))) (hV : ∀ j e, V (ix2 j e) = v (ix2 j (col h e))) (r d : Fin 128) :
    headD (scoreD m q K) V (ix2 r d) = ctx x w k v (rowOf t ht r) h d := by
  have hS : ∀ j, scoreD m q K (ix2 r j) = row x w k (rowOf t ht r) h j := fun j => by
    rw [scoreD_apply, msk_congr (hm r j)]
    simp only [hq, hK]
    rfl
  rw [headD_apply]
  simp only [hS, hV]
  rfl

theorem band_out {t : ℕ} {ht : t < 16} (h1 : 1 ≤ t) {h : Fin 8} {m : IVec S128x384 1} {g : IVec S128x128 1} {q : FVec Ideal S128x128 .bf16}
    {K V : FVec Ideal S384x128 .bf16} {K₀ V₀ : FVec Ideal S128x128 .bf16}
    (hm : ∀ r j, m (ix2 r j) = 1#1 ↔ KeepW (128 * t + r.val) (wst t + j.val))
    (hg : ∀ r j, g (ix2 r j) = 1#1 ↔ KeepG t j.val)
    (hq : ∀ r e, q (ix2 r e) = qry x w (rowOf t ht r) (col h e))
    (hK : ∀ j e, K (ix2 j e) = k (ix2 (keyOf t j) (col h e))) (hV : ∀ j e, V (ix2 j e) = v (ix2 (keyOf t j) (col h e)))
    (hK₀ : ∀ (j e : Fin 128), K₀ (ix2 j e) = k (ix2 ⟨j.val, by omega⟩ (col h e)))
    (hV₀ : ∀ (j e : Fin 128), V₀ (ix2 j e) = v (ix2 ⟨j.val, by omega⟩ (col h e))) (r d : Fin 128) :
    headB (scoreW m q K) (scoreG g q K₀) V V₀ (ix2 r d) = ctx x w k v (rowOf t ht r) h d := by
  have hS : ∀ j, scoreW m q K (ix2 r j) = msk (KeepW (128 * t + r.val) (wst t + j.val)) (scr x w k (rowOf t ht r) h (keyOf t j)) :=
    fun j => by
      rw [scoreW_apply, msk_congr (hm r j)]
      simp only [hq, hK]
      rfl
  have hT : ∀ j, scoreG g q K₀ (ix2 r j) = msk (KeepG t j.val) (scr x w k (rowOf t ht r) h ⟨j.val, by omega⟩) :=
    fun j => by
      rw [scoreG_apply, msk_congr (hg r j)]
      simp only [hq, hK₀]
      rfl
  have hM : mx (scoreW m q K) (scoreG g q K₀) r = Finset.univ.sup (row x w k (rowOf t ht r) h) := by
    unfold mx
    simp only [hS, hT]
    exact sup_two t r.val h1 ht r.isLt _
  rw [headB_apply, hM]
  simp only [hS, hT, hV, hV₀]
  unfold ctx
  congr 1
  · exact sum_two t r.val h1 ht r.isLt (scr x w k (rowOf t ht r) h)
      (fun s j => wgt (Finset.univ.sup (row x w k (rowOf t ht r) h)) s * v (ix2 j (col h d))) (fun j => by rw [wgt_bot, zero_mul])
  · exact sum_two t r.val h1 ht r.isLt (scr x w k (rowOf t ht r) h)
      (fun s _ => wgt (Finset.univ.sup (row x w k (rowOf t ht r) h)) s) (fun j => by rw [wgt_bot])

end Spec

theorem pay1_apply (v3 : FVec Ideal S128x1024 .bf16) (v4 : FVec Ideal S1024x1024 .bf16) (r : Fin 128) (c : Fin 1024) :
    k0_pay1 v3 v4 (ix2 r c) = ∑ m : Fin 1024, v3 (ix2 r m) * v4 (ix2 m c) := by
  unfold k0_pay1
  simp only [pointwise, zero_add]

end Cert.Attn

end
-- ==== Proof.AttnPieces.lean ====
/- What the attention's body leaves in a block of query rows: its eight stores, one for each head. -/
module

public import proofs.«01_k».proof.Proof.Gen.AttnKernelIdeal.Value
public import proofs.«01_k».proof.Proof.AttnBlock
public import Idealize.ShloMosaic.Lib.WholeRead
public import Idealize.ShloMosaic.Lib.Writes

@[expose] public section

set_option maxRecDepth 16384

noncomputable section

namespace Cert.Attn

open Idealize.ShloMosaic Cert.AttnKernelIdeal Cert.AttnKernelIdeal.Gen Cert.AttnKernelIdeal.Facts
open Idealize.ShloMosaic.TcCoe Idealize.ShloMosaic.Tactic

/-- A load of a rectangle of a whole buffer, at a place. -/
theorem load_at {m n s0 s1 : ℕ} {arg : Memref sig .tc .vmem ⟨2, ![m, n]⟩ .bf16} (harg : arg.IsWhole) (X : FVec Ideal ⟨2, ![m, n]⟩ .bf16)
    (off : Fin 2 → ℕ) (inb : ∀ a, off a + (![s0, s1] : Fin 2 → ℕ) a ≤ (⟨2, ![m, n]⟩ : Shape).size a) (a : Fin s0) (b : Fin s1)
    (p : Fin m) (q : Fin n) (hp : p.val = off 0 + a.val) (hq : q.val = off 1 + b.val) :
    View.readAt (Elt Ideal) arg.view (Rect.unit (s := ⟨2, ![m, n]⟩) off ![s0, s1] inb).toLoadRect (harg.unread X) (ix2 a b) = X (ix2 p q) := by
  rw [Memref.IsWhole.readAt_unread]
  congr 1
  funext z
  apply Fin.ext
  match z with
  | 0 => exact (by simp [Rect.unit, LoadRect.idx, Rect.toLoadRect] : _ = off 0 + a.val).trans hp.symm
  | 1 => exact (by simp [Rect.unit, LoadRect.idx, Rect.toLoadRect] : _ = off 1 + b.val).trans hq.symm

/-- A slice of 128 columns, at a place. -/
theorem slice_at (v6 : FVec Ideal S128x1024 .bf16) (o : ℕ) (inb : S128x1024.Slices ![0, o] S128x128) (h : Fin 8) (ho : o = 128 * h.val)
    (r e : Fin 128) : extractStridedSlice S128x128 ![0, o] v6 inb (ix2 r e) = v6 (ix2 r (col h e)) := by
  subst ho
  simp only [pointwise]
  congr 2
  · exact Fin.ext (Nat.zero_add _)

variable (x : FVec Ideal S2048x1024 .bf16) (w : FVec Ideal S1024x1024 .bf16) (k v : FVec Ideal S2048x1024 .bf16)

/-- Block `t` of the result. -/
def blk (t : ℕ) (ht : t < 16) : FVec Ideal S128x1024 .bf16 := fun y =>
  ctx x w k v (rowOf t ht (y 0)) ⟨(y 1).val / 128, by have : (y 1).val < 1024 := (y 1).isLt; omega⟩ ⟨(y 1).val % 128, by omega⟩

variable {x w k v}

theorem piece {t : ℕ} {ht : t < 16} (h : Fin 8) (o : ℕ) (ho : o = 128 * h.val)
    (inb : ∀ a, (![0, o] : Fin 2 → ℕ) a + (![128, 128] : Fin 2 → ℕ) a ≤ S128x1024.size a) (f : FVec Ideal S128x128 .bf16)
    (hf : ∀ r d, f (ix2 r d) = ctx x w k v (rowOf t ht r) h d) (y : S128x128.Idx) :
    f y = blk x w k v t ht ((Rect.unit (s := S128x1024) ![0, o] ![128, 128] inb).emb y) := by
  have e0 : ((Rect.unit (s := S128x1024) ![0, o] ![128, 128] inb).emb y 0) = y 0 := by
    apply Fin.ext; simp [Rect.unit, Rect.emb]
  have e1 : (((Rect.unit (s := S128x1024) ![0, o] ![128, 128] inb).emb y 1)).val = 128 * h.val + (y 1).val := by
    simp [Rect.unit, Rect.emb, ho]
  have hy : (y 1).val < 128 := (y 1).isLt
  refine ((congrArg f (eq_ix2 y)).trans (hf (y 0) (y 1))).trans ?_
  have c0 : h = ⟨((Rect.unit (s := S128x1024) ![0, o] ![128, 128] inb).emb y 1).val / 128, by omega⟩ := Fin.ext (by simp only [e1]; omega)
  have c1 : y 1 = (⟨((Rect.unit (s := S128x1024) ![0, o] ![128, 128] inb).emb y 1).val % 128, by omega⟩ : Fin 128) :=
    Fin.ext (by simp only [e1]; omega)
  unfold blk
  rw [e0, ← c0, ← c1]

theorem slice_q {t : ℕ} {ht : t < 16} {xs : FVec Ideal S128x1024 .bf16} {ws : FVec Ideal S1024x1024 .bf16}
    (hx : ∀ r m, xs (ix2 r m) = x (ix2 (rowOf t ht r) m)) (hw : ∀ m c, ws (ix2 m c) = w (ix2 m c)) (o : ℕ)
    (inb : S128x1024.Slices ![0, o] S128x128) (h : Fin 8) (ho : o = 128 * h.val) (r e : Fin 128) :
    extractStridedSlice S128x128 ![0, o] (k0_pay1 (F := Ideal) xs ws) inb (ix2 r e) = qry x w (rowOf t ht r) (col h e) := by
  rw [slice_at _ _ _ h ho, pay1_apply]
  simp only [hx, hw]
  rfl

theorem off1 (i : grid0.Coords) : k0_off1 i 0 = 128 * (i 0).val := by
  have hi : (i 0).val < 16 := (i 0).isLt
  unfold k0_off1
  generalize (i 0).val = t at hi
  interval_cases t <;> rfl

theorem off2 (i : grid0.Coords) (h1 : 1 ≤ (i 0).val) : k0_off2 i 0 = wst (i 0).val := by
  have hi : (i 0).val < 16 := (i 0).isLt
  unfold k0_off2
  generalize (i 0).val = t at hi h1
  interval_cases t <;> rfl

theorem off3 (i : grid0.Coords) (h1 : 1 ≤ (i 0).val) : k0_off3 i 0 = wst (i 0).val := by
  have hi : (i 0).val < 16 := (i 0).isLt
  unfold k0_off3
  generalize (i 0).val = t at hi h1
  interval_cases t <;> rfl

theorem off4 (i : grid0.Coords) (h1 : 1 ≤ (i 0).val) : k0_off4 i 0 = wst (i 0).val := by
  have hi : (i 0).val < 16 := (i 0).isLt
  unfold k0_off4
  generalize (i 0).val = t at hi h1
  interval_cases t <;> rfl

theorem off5 (i : grid0.Coords) (h1 : 1 ≤ (i 0).val) : k0_off5 i 0 = wst (i 0).val := by
  have hi : (i 0).val < 16 := (i 0).isLt
  unfold k0_off5
  generalize (i 0).val = t at hi h1
  interval_cases t <;> rfl

theorem off6 (i : grid0.Coords) (h1 : 1 ≤ (i 0).val) : k0_off6 i 0 = wst (i 0).val := by
  have hi : (i 0).val < 16 := (i 0).isLt
  unfold k0_off6
  generalize (i 0).val = t at hi h1
  interval_cases t <;> rfl

theorem off7 (i : grid0.Coords) (h1 : 1 ≤ (i 0).val) : k0_off7 i 0 = wst (i 0).val := by
  have hi : (i 0).val < 16 := (i 0).isLt
  unfold k0_off7
  generalize (i 0).val = t at hi h1
  interval_cases t <;> rfl

theorem off8 (i : grid0.Coords) (h1 : 1 ≤ (i 0).val) : k0_off8 i 0 = wst (i 0).val := by
  have hi : (i 0).val < 16 := (i 0).isLt
  unfold k0_off8
  generalize (i 0).val = t at hi h1
  interval_cases t <;> rfl

theorem off9 (i : grid0.Coords) (h1 : 1 ≤ (i 0).val) : k0_off9 i 0 = wst (i 0).val := by
  have hi : (i 0).val < 16 := (i 0).isLt
  unfold k0_off9
  generalize (i 0).val = t at hi h1
  interval_cases t <;> rfl

section Loads

variable {arg1 : Memref sig .tc .vmem S2048x1024 .bf16} {harg1 : arg1.IsWhole} {arg2 : Memref sig .tc .vmem S1024x1024 .bf16}
  {harg2 : arg2.IsWhole} {x : FVec Ideal S2048x1024 .bf16} {w : FVec Ideal S1024x1024 .bf16}

/-- The query's slice, of the loaded tile and the loaded weights. -/
theorem load_q (i : grid0.Coords) (inb1) (inb2) (o : ℕ) (inb : S128x1024.Slices ![0, o] S128x128) (h : Fin 8) (ho : o = 128 * h.val)
    (r e : Fin 128) :
    extractStridedSlice S128x128 ![0, o] (k0_pay1 (F := Ideal)
      (View.readAt (Elt Ideal) arg1.view (Rect.unit (s := S2048x1024) (k0_off1 i) ![128, 1024] inb1).toLoadRect (harg1.unread x))
      (View.readAt (Elt Ideal) arg2.view (Rect.unit (s := S1024x1024) ![0, 0] ![1024, 1024] inb2).toLoadRect (harg2.unread w))) inb (ix2 r e)
      = qry x w (rowOf (i 0).val (i 0).isLt r) (col h e) :=
  slice_q (fun r m => load_at harg1 x _ _ r m _ _ (congrArg (· + r.val) (off1 i).symm) (Nat.zero_add _).symm)
    (fun m c => load_at harg2 w _ _ m c m c (Nat.zero_add _).symm (Nat.zero_add _).symm) o inb h ho r e

/-- Columns of all the keys. -/
theorem load_all (o : ℕ) (inb) (h : Fin 8) (ho : o = 128 * h.val) (j : Fin 2048) (e : Fin 128) :
    View.readAt (Elt Ideal) arg1.view (Rect.unit (s := S2048x1024) ![0, o] ![2048, 128] inb).toLoadRect (harg1.unread x) (ix2 j e)
      = x (ix2 j (col h e)) :=
  load_at harg1 x _ _ j e j _ (Nat.zero_add _).symm (congrArg (· + e.val) ho.symm)

/-- Columns of the first keys. -/
theorem load_first (o : ℕ) (inb) (h : Fin 8) (ho : o = 128 * h.val) (j e : Fin 128) :
    View.readAt (Elt Ideal) arg1.view (Rect.unit (s := S2048x1024) ![0, o] ![128, 128] inb).toLoadRect (harg1.unread x) (ix2 j e)
      = x (ix2 ⟨j.val, by omega⟩ (col h e)) :=
  load_at harg1 x _ _ j e _ _ (Nat.zero_add _).symm (congrArg (· + e.val) ho.symm)

/-- Columns of the keys of the window. -/
theorem load_window (t : ℕ) (off : Fin 2 → ℕ) (inb) (h : Fin 8) (h0 : off 0 = wst t) (ho : off 1 = 128 * h.val) (j : Fin 384) (e : Fin 128) :
    View.readAt (Elt Ideal) arg1.view (Rect.unit (s := S2048x1024) off ![384, 128] inb).toLoadRect (harg1.unread x) (ix2 j e)
      = x (ix2 (keyOf t j) (col h e)) :=
  load_at harg1 x _ _ j e _ _ (congrArg (· + j.val) h0.symm) (congrArg (· + e.val) ho.symm)

end Loads

theorem piecesA (c : Dev nD) (i : grid0.Coords) (arg1 : Memref sig .tc .vmem S2048x1024 .bf16) (harg1 : arg1.IsWhole)
    (arg2 : Memref sig .tc .vmem S1024x1024 .bf16) (harg2 : arg2.IsWhole) (arg3 : Memref sig .tc .vmem S2048x1024 .bf16) (harg3 : arg3.IsWhole)
    (arg4 : Memref sig .tc .vmem S2048x1024 .bf16) (harg4 : arg4.IsWhole) (arg5 : Memref sig .tc .vmem S128x1024 .bf16) (harg5 : arg5.IsWhole)
    (hc0 : cond0_0 i) (hc1 : ¬cond0_1 i)
    (x0 : Vec Ideal S2048x1024 .bf16) (x1 : Vec Ideal S1024x1024 .bf16) (x2 x3 : Vec Ideal S2048x1024 .bf16) :
    ∀ p ∈ (kernelRun0_A (F := Ideal) c i arg1 harg1 arg2 harg2 arg3 harg3 arg4 harg4 arg5 harg5 hc0 hc1 x0 x1 x2 x3).1,
      ∀ y, p.2 y = blk x0 x1 x2 x3 (i 0).val (i 0).isLt (p.1.emb y) := by
  unfold kernelRun0_A
  dsimp only
  simp only [List.forall_mem_cons]
  refine ⟨?_, ?_, ?_, ?_, ?_, ?_, ?_, ?_, fun _ h => nomatch h⟩
  · refine piece 7 896 rfl _ _ fun r d => (congrFun (dense7 _ _ _ _ _) (ix2 r d)).trans ?_
    exact dense_out (mask5 i) (load_q i _ _ _ _ 7 rfl) (load_all _ _ 7 rfl) (load_all _ _ 7 rfl) r d
  · refine piece 6 768 rfl _ _ fun r d => (congrFun (dense6 _ _ _ _) (ix2 r d)).trans ?_
    exact dense_out (mask5 i) (load_q i _ _ _ _ 6 rfl) (load_all _ _ 6 rfl) (load_all _ _ 6 rfl) r d
  · refine piece 5 640 rfl _ _ fun r d => (congrFun (dense5 _ _ _ _) (ix2 r d)).trans ?_
    exact dense_out (mask5 i) (load_q i _ _ _ _ 5 rfl) (load_all _ _ 5 rfl) (load_all _ _ 5 rfl) r d
  · refine piece 4 512 rfl _ _ fun r d => (congrFun (dense4 _ _ _ _) (ix2 r d)).trans ?_
    exact dense_out (mask5 i) (load_q i _ _ _ _ 4 rfl) (load_all _ _ 4 rfl) (load_all _ _ 4 rfl) r d
  · refine piece 3 384 rfl _ _ fun r d => (congrFun (dense3 _ _ _ _) (ix2 r d)).trans ?_
    exact dense_out (mask5 i) (load_q i _ _ _ _ 3 rfl) (load_all _ _ 3 rfl) (load_all _ _ 3 rfl) r d
  · refine piece 2 256 rfl _ _ fun r d => (congrFun (dense2 _ _ _ _) (ix2 r d)).trans ?_
    exact dense_out (mask5 i) (load_q i _ _ _ _ 2 rfl) (load_all _ _ 2 rfl) (load_all _ _ 2 rfl) r d
  · refine piece 1 128 rfl _ _ fun r d => (congrFun (dense1 _ _ _ _) (ix2 r d)).trans ?_
    exact dense_out (mask5 i) (load_q i _ _ _ _ 1 rfl) (load_all _ _ 1 rfl) (load_all _ _ 1 rfl) r d
  · refine piece 0 0 rfl _ _ fun r d => (congrFun (dense0 _ _ _ _) (ix2 r d)).trans ?_
    exact dense_out (mask5 i) (load_q i _ _ _ _ 0 rfl) (load_all _ _ 0 rfl) (load_all _ _ 0 rfl) r d

theorem piecesB (c : Dev nD) (i : grid0.Coords) (arg1 : Memref sig .tc .vmem S2048x1024 .bf16) (harg1 : arg1.IsWhole)
    (arg2 : Memref sig .tc .vmem S1024x1024 .bf16) (harg2 : arg2.IsWhole) (arg3 : Memref sig .tc .vmem S2048x1024 .bf16) (harg3 : arg3.IsWhole)
    (arg4 : Memref sig .tc .vmem S2048x1024 .bf16) (harg4 : arg4.IsWhole) (arg5 : Memref sig .tc .vmem S128x1024 .bf16) (harg5 : arg5.IsWhole)
    (hc0 : ¬cond0_0 i) (hc1 : cond0_1 i) (h1 : 1 ≤ (i 0).val)
    (x0 : Vec Ideal S2048x1024 .bf16) (x1 : Vec Ideal S1024x1024 .bf16) (x2 x3 : Vec Ideal S2048x1024 .bf16) :
    ∀ p ∈ (kernelRun0_B (F := Ideal) c i arg1 harg1 arg2 harg2 arg3 harg3 arg4 harg4 arg5 harg5 hc0 hc1 x0 x1 x2 x3).1,
      ∀ y, p.2 y = blk x0 x1 x2 x3 (i 0).val (i 0).isLt (p.1.emb y) := by
  unfold kernelRun0_B
  dsimp only
  simp only [List.forall_mem_cons]
  refine ⟨?_, ?_, ?_, ?_, ?_, ?_, ?_, ?_, fun _ h => nomatch h⟩
  · refine piece 7 896 rfl _ _ fun r d => (congrFun (band7 _ _ _ _ _ _ _) (ix2 r d)).trans ?_
    exact band_out h1 (mask19 i h1) (mask20 (i 0).val (i 0).isLt) (load_q i _ _ _ _ 7 rfl)
      (load_window _ _ _ 7 (off9 i h1) rfl) (load_window _ _ _ 7 (off9 i h1) rfl) (load_first _ _ 7 rfl) (load_first _ _ 7 rfl) r d
  · refine piece 6 768 rfl _ _ fun r d => (congrFun (band6 _ _ _ _ _ _ _) (ix2 r d)).trans ?_
    exact band_out h1 (mask19 i h1) (mask20 (i 0).val (i 0).isLt) (load_q i _ _ _ _ 6 rfl)
      (load_window _ _ _ 6 (off8 i h1) rfl) (load_window _ _ _ 6 (off8 i h1) rfl) (load_first _ _ 6 rfl) (load_first _ _ 6 rfl) r d
  · refine piece 5 640 rfl _ _ fun r d => (congrFun (band5 _ _ _ _ _ _ _) (ix2 r d)).trans ?_
    exact band_out h1 (mask19 i h1) (mask20 (i 0).val (i 0).isLt) (load_q i _ _ _ _ 5 rfl)
      (load_window _ _ _ 5 (off7 i h1) rfl) (load_window _ _ _ 5 (off7 i h1) rfl) (load_first _ _ 5 rfl) (load_first _ _ 5 rfl) r d
  · refine piece 4 512 rfl _ _ fun r d => (congrFun (band4 _ _ _ _ _ _ _) (ix2 r d)).trans ?_
    exact band_out h1 (mask19 i h1) (mask20 (i 0).val (i 0).isLt) (load_q i _ _ _ _ 4 rfl)
      (load_window _ _ _ 4 (off6 i h1) rfl) (load_window _ _ _ 4 (off6 i h1) rfl) (load_first _ _ 4 rfl) (load_first _ _ 4 rfl) r d
  · refine piece 3 384 rfl _ _ fun r d => (congrFun (band3 _ _ _ _ _ _ _) (ix2 r d)).trans ?_
    exact band_out h1 (mask19 i h1) (mask20 (i 0).val (i 0).isLt) (load_q i _ _ _ _ 3 rfl)
      (load_window _ _ _ 3 (off5 i h1) rfl) (load_window _ _ _ 3 (off5 i h1) rfl) (load_first _ _ 3 rfl) (load_first _ _ 3 rfl) r d
  · refine piece 2 256 rfl _ _ fun r d => (congrFun (band2 _ _ _ _ _ _ _) (ix2 r d)).trans ?_
    exact band_out h1 (mask19 i h1) (mask20 (i 0).val (i 0).isLt) (load_q i _ _ _ _ 2 rfl)
      (load_window _ _ _ 2 (off4 i h1) rfl) (load_window _ _ _ 2 (off4 i h1) rfl) (load_first _ _ 2 rfl) (load_first _ _ 2 rfl) r d
  · refine piece 1 128 rfl _ _ fun r d => (congrFun (band1 _ _ _ _ _ _ _) (ix2 r d)).trans ?_
    exact band_out h1 (mask19 i h1) (mask20 (i 0).val (i 0).isLt) (load_q i _ _ _ _ 1 rfl)
      (load_window _ _ _ 1 (off3 i h1) rfl) (load_window _ _ _ 1 (off3 i h1) rfl) (load_first _ _ 1 rfl) (load_first _ _ 1 rfl) r d
  · refine piece 0 0 rfl _ _ fun r d => (congrFun (band0 _ _ _ _ _ _ _) (ix2 r d)).trans ?_
    exact band_out h1 (mask19 i h1) (mask20 (i 0).val (i 0).isLt) (load_q i _ _ _ _ 0 rfl)
      (load_window _ _ _ 0 (off2 i h1) rfl) (load_window _ _ _ 0 (off2 i h1) rfl) (load_first _ _ 0 rfl) (load_first _ _ 0 rfl) r d

end Cert.Attn

end
-- ==== Proof.AttnValue.lean ====
/- The attention's result: its sixteen blocks are the blocks of one array. -/
module

public import proofs.«01_k».proof.Proof.AttnPieces
public import Idealize.ShloMosaic.Lib.Pipeline.ValueKit.Geometry

@[expose] public section

set_option maxRecDepth 16384

noncomputable section

namespace Cert.Attn

open Idealize.ShloMosaic Cert.AttnKernelIdeal Cert.AttnKernelIdeal.Gen
open Idealize.ShloMosaic.TcCoe Idealize.SL.Sem

variable (m : (ℓ : Loc nD τ sig) → Buf (Elt Ideal) ℓ)

theorem idx_all : ∀ t : Fin cfg0.N, win0_0.index t = ![0, 0] ∧ win0_1.index t = ![0, 0] ∧ win0_2.index t = ![0, 0]
    ∧ win0_3.index t = ![0, 0] ∧ win0_4.index t = ![(grid0.coords t 0).val, 0] :=
  (by decide +kernel : ∀ t : Fin grid0.N, _)

theorem coords_at : ∀ t : Fin cfg0.N, (grid0.coords t 0).val = t.val :=
  (by decide +kernel : ∀ t : Fin grid0.N, _)

theorem block0 (c : Dev nD) (t : Fin cfg0.N) : (iblk m c 0 t : FVec Ideal S2048x1024 .bf16) = V m c main_arg0 := by
  funext y
  blk_simp [iblk]
  congr 1
  blk_ext [(idx_all t).1]

theorem block1 (c : Dev nD) (t : Fin cfg0.N) : (iblk m c 1 t : FVec Ideal S1024x1024 .bf16) = V m c main_arg1 := by
  funext y
  blk_simp [iblk]
  congr 1
  blk_ext [(idx_all t).2.1]

theorem block2 (c : Dev nD) (t : Fin cfg0.N) : (iblk m c 2 t : FVec Ideal S2048x1024 .bf16) = V m c main_arg2 := by
  funext y
  blk_simp [iblk]
  congr 1
  blk_ext [(idx_all t).2.2.1]

theorem block3 (c : Dev nD) (t : Fin cfg0.N) : (iblk m c 3 t : FVec Ideal S2048x1024 .bf16) = V m c main_arg3 := by
  funext y
  blk_simp [iblk]
  congr 1
  blk_ext [(idx_all t).2.2.2.1]

/-- What point `t` leaves in the output's buffer: block `t` of the result. -/
theorem outs_apply (c : Dev nD) (t : Fin cfg0.N) (y : S128x1024.Idx) :
    (outsAt0 m c t.val t.isLt : FVec Ideal S128x1024 .bf16) y
      = blk (m ((c : Thread nD τ).loc main_arg0)) (m ((c : Thread nD τ).loc main_arg1)) (m ((c : Thread nD τ).loc main_arg2))
          (m ((c : Thread nD τ).loc main_arg3)) (grid0.coords t 0).val (grid0.coords t 0).isLt y := by
  have ht : t.val < 16 := t.isLt
  rw [← V_main_arg0 m c, ← V_main_arg1 m c, ← V_main_arg2 m c, ← V_main_arg3 m c, ← block0 m c t, ← block1 m c t, ← block2 m c t,
    ← block3 m c t]
  by_cases h : t.val = 0
  · rw [outsAt0_A m c t (by omega) (by omega)]
    exact View.read_writes_apply_of_pieces _ _ _ _ (piecesA c _ _ _ _ _ _ _ _ _ _ _ _ _ _ _ _ _) y (cover0_A_4 c _ _ _ _ _ _ _ _ _ _ _ _ _ _ _ _ _ y)
  · rw [outsAt0_B m c t (by omega) (by omega)]
    exact View.read_writes_apply_of_pieces _ _ _ _ (piecesB c _ _ _ _ _ _ _ _ _ _ _ _ _ (by rw [coords_at]; omega) _ _ _ _) y
      (cover0_B_4 c _ _ _ _ _ _ _ _ _ _ _ _ _ _ _ _ _ y)

theorem final (c : Dev nD) : (dats m 0 c).arrAt 4 cfg0.N
    = res (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  blk_simp
  rw [after0_4]
  refine (outs_apply m c t y).trans ?_
  have e0 : rowOf (grid0.coords t 0).val (grid0.coords t 0).isLt (y 0) = (win0_4.blk t).view.emb y 0 := by
    apply Fin.ext
    blk_simp [(idx_all t).2.2.2.2]
    exact congrArg (· + (y 0).val) (Nat.mul_comm _ _)
  have e1 : ((win0_4.blk t).view.emb y 1).val = (y 1).val := by
    blk_simp [(idx_all t).2.2.2.2]
  unfold blk res
  rw [e0]
  simp only [e1]

end Cert.Attn

end
-- ==== Proof.AttnRef.lean ====
/- The attention as the reference computes it, read at a place. -/
module

public import proofs.«01_k».proof.Proof.Gen.AttnReferenceIdeal.Run
public import proofs.«01_k».proof.Proof.AttnBlock
public import Idealize.ShloMosaic.Lib.Pointwise
public import Idealize.ShloMosaic.Lib.MatmulPlain
public import Idealize.ShloMosaic.Lib.WordCmp

@[expose] public section

set_option maxRecDepth 16384

noncomputable section

namespace Cert.AttnRef

open Cert.AttnReferenceIdeal Cert.AttnReferenceIdeal.Gen Idealize.ShloMosaic Idealize.ShloMosaic.TcCoe

/-- The mask. -/
def keepR : IVec S2048x2048 1 :=
  ori (cmpi .sle (absi (subi
      (broadcastInDim S2048x2048 ![0, 1] bcast_S2048x1_S2048x2048_0_1 (broadcastInDim S2048x1 ![0] bcast_S2048_S2048x1_0 (iotaInDim S2048 32 0)))
      (broadcastInDim S2048x2048 ![0, 1] bcast_S1x2048_S2048x2048_0_1 (broadcastInDim S1x2048 ![1] bcast_S2048_S1x2048_1 (iotaInDim S2048 32 0)))))
      (broadcastInDim S2048x2048 ![] bcast_S_S2048x2048 (constantI S_ 32 128#32)))
    (ori (broadcastInDim S2048x2048 ![0, 1] bcast_S1x2048_S2048x2048_0_1 (cmpi .slt
        (broadcastInDim S1x2048 ![1] bcast_S2048_S1x2048_1 (iotaInDim S2048 32 0)) (broadcastInDim S1x2048 ![] bcast_S_S1x2048 (constantI S_ 32 32#32))))
      (broadcastInDim S2048x2048 ![0, 1] bcast_S2048x1_S2048x2048_0_1 (cmpi .slt
        (broadcastInDim S2048x1 ![0] bcast_S2048_S2048x1_0 (iotaInDim S2048 32 0)) (broadcastInDim S2048x1 ![] bcast_S_S2048x1 (constantI S_ 32 32#32)))))

/-- Whether a row keeps a key. -/
def anyR (keep : IVec S2048x2048 1) : IVec S2048 1 := Host.reduce IntOp.ori keep (constantI S_ 1 0#1) reducesTo_S2048x2048_S2048_d1 h_S_

variable (x : FVec Ideal S2048x1024 .bf16) (w : FVec Ideal S1024x1024 .bf16) (k v : FVec Ideal S2048x1024 .bf16)

/-- The queries. -/
def qR (x : FVec Ideal S2048x1024 .bf16) (w : FVec Ideal S1024x1024 .bf16) : FVec Ideal S2048x8x128 .bf16 :=
  shapeCast _ (truncf .bf16 (Host.dotGeneral dot_S2048x1024_S1024x1024_S2048x1024_1_0_0_1_n_n none x w : FVec Ideal S2048x1024 .f32) bitsLt_bf16_f32)
    shapeCasts_S2048x1024_S2048x8x128

/-- The heads of an array. -/
def headsR (k : FVec Ideal S2048x1024 .bf16) : FVec Ideal S2048x8x128 .bf16 := shapeCast _ k shapeCasts_S2048x1024_S2048x8x128

/-- The masked scores. -/
def scoreR (keep : IVec S2048x2048 1) (q k : FVec Ideal S2048x8x128 .bf16) : FVec Ideal S8x2048x2048 .f32 :=
  select (broadcastInDim S8x2048x2048 ![0, 1, 2] bcast_S1x2048x2048_S8x2048x2048_0_1_2
      (broadcastInDim S1x2048x2048 ![1, 2] bcast_S2048x2048_S1x2048x2048_1_2 keep))
    (mulf (extf .f32 (truncf .bf16 (Host.dotGeneral dot_S2048x8x128_S2048x8x128_S8x2048x2048_2_2_0_0_1_1 none q k : FVec Ideal S8x2048x2048 .f32) bitsLt_bf16_f32)
        bitsLt_bf16_f32)
      (broadcastInDim S8x2048x2048 ![] bcast_S_S8x2048x2048 (constant S_ .f32 0x3DB504F3#32)))
    (broadcastInDim S8x2048x2048 ![] bcast_S_S8x2048x2048 (id (constant S_ .f32 0xFF800000#32)))

/-- The exponentials. -/
def expR (S : FVec Ideal S8x2048x2048 .f32) : FVec Ideal S8x2048x2048 .f32 :=
  Host.exp (subf S (broadcastInDim S8x2048x2048 ![0, 1, 2] bcast_S8x2048x1_S8x2048x2048_0_1_2
    (broadcastInDim S8x2048x1 ![0, 1] bcast_S8x2048_S8x2048x1_0_1
      (Host.reduce FloatOps.maximumf S (constant S_ .f32 0xFF800000#32) reducesTo_S8x2048x2048_S8x2048_d2 h_S_))))

/-- The weights. -/
def probR (any : IVec S2048 1) (E : FVec Ideal S8x2048x2048 .f32) : FVec Ideal S8x2048x2048 .f32 :=
  select (broadcastInDim S8x2048x2048 ![0, 1, 2] bcast_S1x2048x1_S8x2048x2048_0_1_2 (broadcastInDim S1x2048x1 ![1] bcast_S2048_S1x2048x1_1 any))
    (Host.divf E (broadcastInDim S8x2048x2048 ![0, 1, 2] bcast_S8x2048x1_S8x2048x2048_0_1_2
      (select (broadcastInDim S8x2048x1 ![0, 1, 2] bcast_S1x2048x1_S8x2048x1_0_1_2 (broadcastInDim S1x2048x1 ![1] bcast_S2048_S1x2048x1_1 any))
        (broadcastInDim S8x2048x1 ![0, 1] bcast_S8x2048_S8x2048x1_0_1
          (Host.reduceAdd E (constant S_ .f32 0x00000000#32) reducesTo_S8x2048x2048_S8x2048_d2 h_S_))
        (broadcastInDim S8x2048x1 ![] bcast_S_S8x2048x1 (id (constant S_ .f32 0x3F800000#32))))))
    (broadcastInDim S8x2048x2048 ![] bcast_S_S8x2048x2048 (id (constant S_ .f32 0x00000000#32)))

/-- The contexts. -/
def outR (V : FVec Ideal S2048x8x128 .bf16) (P : FVec Ideal S8x2048x2048 .f32) : FVec Ideal S2048x1024 .bf16 :=
  truncf .bf16 (shapeCast _ (transpose S2048x8x128 [2, 0, 1]
    (Host.dotGeneral dot_S2048x8x128_S8x2048x2048_S8x128x2048_0_2_2_1_1_0 none V P : FVec Ideal S8x128x2048 .f32)
    transposes_S8x128x2048_S2048x8x128_2_0_1) shapeCasts_S2048x8x128_S2048x1024) bitsLt_bf16_f32

theorem result_eq (m : (ℓ : Loc nD τ sig) → Buf (Elt Ideal) ℓ) (c : Dev nD) :
    Value.res_main_v47 m c = outR (headsR (m ((c : Thread nD τ).loc main_arg3)))
      (probR (anyR keepR) (expR (scoreR keepR (qR (m ((c : Thread nD τ).loc main_arg0)) (m ((c : Thread nD τ).loc main_arg1)))
        (headsR (m ((c : Thread nD τ).loc main_arg2)))))) := by
  unfold Value.res_main_v47 outR probR expR scoreR qR headsR anyR keepR
  rfl

theorem keepR_iff (i j : Fin 2048) : keepR (ix2 i j) = 1#1 ↔ Attn.Keep i.val j.val := by
  unfold keepR
  simp only [pointwise]
  change IntOp.ori (IntOp.cmpi .sle (IntOp.absi (IntOp.subi (BitVec.ofNat 32 i.val) (BitVec.ofNat 32 j.val))) 128#32)
    (IntOp.ori (IntOp.cmpi .slt (BitVec.ofNat 32 j.val) 32#32) (IntOp.cmpi .slt (BitVec.ofNat 32 i.val) 32#32)) = 1#1 ↔ _
  have hi := i.isLt
  have hj := j.isLt
  generalize i.val = a at hi
  generalize j.val = b at hj
  rw [Attn.near a b (by omega) (by omega)]
  word_cmp

theorem qR_apply (i : Fin 2048) (h : Fin 8) (e : Fin 128) : qR x w (ix3 i h e) = Attn.qry x w i (Attn.col h e) := by
  unfold qR
  simp only [pointwise, zero_add]
  have hc : (⟨h.val * 128 + e.val, by omega⟩ : Fin 1024) = Attn.col h e := Fin.ext (by simp only [Attn.col]; omega)
  exact congrArg (Attn.qry x w i) hc

theorem headsR_apply (i : Fin 2048) (h : Fin 8) (e : Fin 128) : headsR k (ix3 i h e) = k (ix2 i (Attn.col h e)) := by
  unfold headsR
  simp only [pointwise]
  have hc : (⟨h.val * 128 + e.val, by omega⟩ : Fin 1024) = Attn.col h e := Fin.ext (by simp only [Attn.col]; omega)
  exact congrArg (fun c => k (ix2 i c)) hc

theorem select_true {α : Type} {b : BitVec 1} (hb : b = 1#1) (x y : α) : Scalar.select b x y = x := by
  subst hb; rfl

theorem select_msk (b : BitVec 1) (s t : EReal) (ht : t = ⊥) : Scalar.select b s t = Attn.msk (b = 1#1) s := by
  subst ht; unfold Scalar.select Attn.msk; rfl

theorem scoreR_apply (keep : IVec S2048x2048 1) (q k : FVec Ideal S2048x8x128 .bf16) (h : Fin 8) (i j : Fin 2048) :
    scoreR keep q k (ix3 h i j) = Attn.msk (keep (ix2 i j) = 1#1) ((∑ e : Fin 128, q (ix3 i h e) * k (ix3 j h e)) * Attn.scl) := by
  unfold scoreR
  simp only [pointwise, zero_add]
  exact select_msk _ _ _ Attn.negInf

theorem expR_apply (S : FVec Ideal S8x2048x2048 .f32) (h : Fin 8) (i j : Fin 2048) :
    expR S (ix3 h i j) = Attn.wgt (Finset.univ.sup fun j => S (ix3 h i j)) (S (ix3 h i j)) := by
  unfold expR
  simp only [pointwise, Attn.fold_sup]
  unfold Attn.wgt
  rfl

theorem anyR_apply (keep : IVec S2048x2048 1) (i j : Fin 2048) (hj : keep (ix2 i j) = 1#1) : anyR keep (ix1 i) = 1#1 := by
  unfold anyR
  simp only [pointwise]
  have : ∀ s : Finset (Fin 2048), j ∈ s → Finset.fold IntOp.ori (0#1) (fun k => keep (ix2 i k)) s = 1#1 := fun s => by
    induction s using Finset.induction_on with
    | empty => exact fun h => absurd h (Finset.notMem_empty _)
    | insert a s ha ih =>
      intro h
      rw [Finset.fold_insert ha]
      rcases Finset.mem_insert.mp h with rfl | h
      · rw [hj]; generalize Finset.fold IntOp.ori (0#1) (fun k => keep (ix2 i k)) s = b; revert b; decide
      · rw [ih h]; generalize keep (ix2 i a) = b; revert b; decide
  exact this _ (Finset.mem_univ j)

theorem probR_apply (any : IVec S2048 1) (E : FVec Ideal S8x2048x2048 .f32) (h : Fin 8) (i j : Fin 2048) (hi : any (ix1 i) = 1#1) :
    probR any E (ix3 h i j) = Ideal.div (E (ix3 h i j)) (∑ j, E (ix3 h i j)) := by
  unfold probR
  simp only [pointwise, zero_add]
  refine (select_true hi _ _).trans ?_
  exact congrArg (Ideal.div _) (select_true hi _ _)

theorem outR_apply (V : FVec Ideal S2048x8x128 .bf16) (P : FVec Ideal S8x2048x2048 .f32) (i : Fin 2048) (c : Fin 1024) :
    outR V P (ix2 i c) = ∑ j : Fin 2048, V (ix3 j ⟨c.val / 128, by omega⟩ ⟨c.val % 128, by omega⟩) * P (ix3 ⟨c.val / 128, by omega⟩ i j) := by
  unfold outR
  simp only [pointwise, zero_add]

/-! ## Reals -/

/-- A real number. -/
def IsReal (a : EReal) : Prop := ∃ r : ℝ, a = (r : EReal)

theorem IsReal.mul {a b : EReal} : IsReal a → IsReal b → IsReal (a * b)
  | ⟨r, hr⟩, ⟨s, hs⟩ => ⟨r * s, by rw [hr, hs, EReal.coe_mul]⟩

theorem IsReal.sum {ι : Type} (s : Finset ι) (f : ι → EReal) (hf : ∀ i, IsReal (f i)) : IsReal (∑ i ∈ s, f i) := by
  classical
  induction s using Finset.induction_on with
  | empty => exact ⟨0, by simp⟩
  | insert a s ha ih =>
    obtain ⟨r, hr⟩ := ih
    obtain ⟨t, ht⟩ := hf a
    exact ⟨t + r, by rw [Finset.sum_insert ha, hr, ht, EReal.coe_add]⟩

theorem IsReal.scl : IsReal Attn.scl := by
  unfold Attn.scl
  refine ⟨(11863283 : ℝ) * ((2 : ℝ) ^ 27)⁻¹, ?_⟩
  simp [Ideal.ofBits, Ideal.ieee]

variable {x w k v}

theorem scr_real (hx : ∀ y, IsReal (x y)) (hw : ∀ y, IsReal (w y)) (hk : ∀ y, IsReal (k y)) (i : Fin 2048) (h : Fin 8) (j : Fin 2048) :
    IsReal (Attn.scr x w k i h j) :=
  .mul (.sum _ _ fun e => .mul (.sum _ _ fun m => .mul (hx _) (hw _)) (hk _)) .scl

/-- With real queries, weights and keys the reference's result is the kernel's. -/
theorem out_eq (hx : ∀ y, IsReal (x y)) (hw : ∀ y, IsReal (w y)) (hk : ∀ y, IsReal (k y)) :
    outR (headsR v) (probR (anyR keepR) (expR (scoreR keepR (qR x w) (headsR k)))) = Attn.res x w k v := by
  have hS : ∀ h i j, scoreR keepR (qR x w) (headsR k) (ix3 h i j) = Attn.row x w k i h j := fun h i j => by
    rw [scoreR_apply, Attn.msk_congr (keepR_iff i j)]
    simp only [qR_apply, headsR_apply]
    rfl
  have hE : ∀ h i j, expR (scoreR keepR (qR x w) (headsR k)) (ix3 h i j) = Attn.wt x w k i h j := fun h i j => by
    rw [expR_apply]
    simp only [hS]
    rfl
  have hA : ∀ i, anyR keepR (ix1 i) = 1#1 := fun i =>
    anyR_apply keepR i i ((keepR_iff i i).mpr (.inl ⟨by omega, by omega⟩))
  have key : ∀ (i : Fin 2048) (c : Fin 1024),
      outR (headsR v) (probR (anyR keepR) (expR (scoreR keepR (qR x w) (headsR k)))) (ix2 i c) = Attn.res x w k v (ix2 i c) := by
    intro i c
    rw [outR_apply]
    have hs := scr_real hx hw hk i ⟨c.val / 128, by omega⟩
    obtain ⟨D, hD, hT⟩ := Attn.total_pos (Attn.row x w k i ⟨c.val / 128, by omega⟩)
      (fun j => by
        obtain ⟨r, hr⟩ := hs j
        unfold Attn.row Attn.msk
        split
        · rw [hr]; exact EReal.coe_ne_top r
        · exact bot_ne_top) i
      (by
        obtain ⟨r, hr⟩ := hs i
        unfold Attn.row Attn.msk
        rw [if_pos (.inl ⟨by omega, by omega⟩), hr]
        exact EReal.coe_ne_bot r)
    have hW : ∑ j, Attn.wt x w k i ⟨c.val / 128, by omega⟩ j = (D : EReal) := hT
    have e := Attn.div_inside (Attn.wt x w k i ⟨c.val / 128, by omega⟩) (fun j => v (ix2 j (Attn.col ⟨c.val / 128, by omega⟩ ⟨c.val % 128, by omega⟩)))
      D hD
    rw [← hW] at e
    refine Eq.trans ?_ e.symm
    refine Finset.sum_congr rfl fun j _ => ?_
    rw [probR_apply _ _ _ _ _ (hA i), headsR_apply]
    simp only [hE]
  funext y
  have := key (y 0) (y 1)
  rwa [← eq_ix2] at this

end Cert.AttnRef

end
-- ==== Proof.AttnPre.lean ====
/- The precondition, read: the attention's queries' input, their weights and the keys are real. -/
module

public import proofs.«01_k».proof.Pre_attn_finite
public import proofs.«01_k».proof.Proof.AttnRef
public import Idealize.ShloMosaic.Lib.Pointwise
public import Idealize.ShloMosaic.Lib.Pipeline.Value

@[expose] public section

noncomputable section

namespace Cert.AttnPre

open Idealize.ShloMosaic Cert.Pre_attn_finite Cert.AttnRef

theorem facts : Facts where
  bcast_S_S2048x1024 := by decide
  bcast_S_S1024x1024 := by decide
  concatenates_S2048x1024_S1024x1024_S3072x1024_d0 := by decide

attribute [local instance] facts

theorem inf_word : Ideal.ofBits .bf16 0x7F80#16 = ⊤ := by simp [Ideal.ofBits, Ideal.ieee]

theorem isReal_of {a : EReal} (h : BitVec.ofBool (decide (FloatOps.absf (F := Ideal) (φ := .bf16) a < Ideal.ofBits .bf16 0x7F80#16)) = 1#1) :
    IsReal a := by
  rw [inf_word] at h
  have h' : max a (-a) < ⊤ := by
    by_contra hn
    rw [show decide (FloatOps.absf (F := Ideal) (φ := .bf16) a < ⊤) = false from decide_eq_false hn] at h
    exact absurd h (by decide)
  refine ⟨a.toReal, (EReal.coe_toReal ?_ ?_).symm⟩
  · rintro rfl; exact absurd h' (by simp)
  · rintro rfl; exact absurd h' (by simp)

theorem and_left {a b : BitVec 1} (h : IntOp.andi a b = 1#1) : a = 1#1 := by revert a b; decide
theorem and_right {a b : BitVec 1} (h : IntOp.andi a b = 1#1) : b = 1#1 := by revert a b; decide

variable {x : FVec Ideal S2048x1024 .bf16} {w : FVec Ideal S1024x1024 .bf16} {k v : FVec Ideal S2048x1024 .bf16}

theorem cat_upper (A : IVec S2048x1024 1) (B : IVec S1024x1024 1) (i : Fin 2048) (j : Fin 1024) (q : Fin 3072) (hq : q.val = i.val) :
    concatenate S3072x1024 0 [⟨S2048x1024, A⟩, ⟨S1024x1024, B⟩] Facts.concatenates_S2048x1024_S1024x1024_S3072x1024_d0 (ix2 q j) = A (ix2 i j) :=
  concatenate_pair_apply_left (t := S3072x1024) (s₁ := S2048x1024) (s₂ := S1024x1024) 0 A B _ _ rfl _ fun b => by
    match b with
    | ⟨0, _⟩ => exact hq.symm
    | ⟨1, _⟩ => rfl

theorem cat_lower (A : IVec S2048x1024 1) (B : IVec S1024x1024 1) (i : Fin 1024) (j : Fin 1024) (q : Fin 3072) (hq : i.val + 2048 = q.val) :
    concatenate S3072x1024 0 [⟨S2048x1024, A⟩, ⟨S1024x1024, B⟩] Facts.concatenates_S2048x1024_S1024x1024_S3072x1024_d0 (ix2 q j) = B (ix2 i j) :=
  concatenate_pair_apply_right (t := S3072x1024) (s₁ := S2048x1024) (s₂ := S1024x1024) 0 A B _ _ rfl rfl _ (fun b hb => by
    match b with
    | ⟨0, _⟩ => exact absurd rfl hb
    | ⟨1, _⟩ => rfl) hq

theorem upper (h : fn x w k v = fun _ => 1#1) (i : Fin 2048) (j : Fin 1024) : IsReal (x (ix2 i j)) ∧ IsReal (k (ix2 i j)) := by
  have e := (cat_upper _ _ i j ⟨i.val, by omega⟩ rfl).symm.trans (congrFun h (ix2 ⟨i.val, by omega⟩ j))
  simp only [pointwise] at e
  exact ⟨isReal_of (and_left e), isReal_of (and_right e)⟩

theorem lower (h : fn x w k v = fun _ => 1#1) (i : Fin 1024) (j : Fin 1024) : IsReal (w (ix2 i j)) := by
  obtain ⟨q, hq⟩ : ∃ q : Fin 3072, i.val + 2048 = q.val := ⟨⟨i.val + 2048, by omega⟩, rfl⟩
  have e := (cat_lower _ _ i j q hq).symm.trans (congrFun h (ix2 q j))
  simp only [pointwise] at e
  exact isReal_of e

theorem x_real (h : fn x w k v = fun _ => 1#1) (y : S2048x1024.Idx) : IsReal (x y) := by
  have := (upper h (y 0) (y 1)).1
  rwa [← eq_ix2] at this

theorem w_real (h : fn x w k v = fun _ => 1#1) (y : S1024x1024.Idx) : IsReal (w y) := by
  have := lower h (y 0) (y 1)
  rwa [← eq_ix2] at this

theorem k_real (h : fn x w k v = fun _ => 1#1) (y : S2048x1024.Idx) : IsReal (k y) := by
  have := (upper h (y 0) (y 1)).2
  rwa [← eq_ix2] at this

end Cert.AttnPre

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.AttnKernel
public import proofs.«01_k».proof.Proof.Gen.AttnKernel.Skeleton
public import proofs.«01_k».proof.Proof.Gen.AttnKernel.Launch
public import proofs.«01_k».proof.Proof.Gen.AttnKernel.Points
public import proofs.«01_k».proof.Proof.Gen.AttnKernel.Frame
public import proofs.«01_k».proof.Proof.Gen.AttnKernelIdeal
public import proofs.«01_k».proof.Proof.Gen.AttnKernelIdeal.Skeleton
public import proofs.«01_k».proof.Proof.Gen.AttnKernelIdeal.Launch
public import proofs.«01_k».proof.Proof.Gen.AttnKernelIdeal.Points
public import proofs.«01_k».proof.Proof.Gen.AttnKernelIdeal.Frame
public import proofs.«01_k».proof.Proof.Gen.AttnKernelIdeal.Value
public import proofs.«01_k».proof.Proof.Gen.AttnReferenceIdeal
public import proofs.«01_k».proof.Proof.Gen.AttnReferenceIdeal.Run
public import proofs.«01_k».proof.Proof.Run
public import proofs.«01_k».proof.Proof.Ideal
public import proofs.«01_k».proof.Proof.AttnValue
public import proofs.«01_k».proof.Proof.AttnRef
public import proofs.«01_k».proof.Proof.AttnPre
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The two programs have the same bodies, hence the same table. -/
theorem bodies_eq : Cert.Kernel.defs₀ (F := Bits) = Cert.KernelIdeal.defs₀ (F := Bits) := by
  unfold Cert.Kernel.defs₀ Cert.KernelIdeal.defs₀
  congr 1
  funext l x
  match l, x with
  | 0, (t, s) => rfl

theorem defs_eq : Cert.Kernel.defs (F := Bits) = Cert.KernelIdeal.defs (F := Bits) :=
  congrArg (Pipeline.defs (Cert.KernelIdeal.pcfgs (F := Bits))) bodies_eq

/-- The kernel leaves its operands and its counters. -/
theorem frame_kernel : Cert.quiescent_Kernel := fun m ρ _ => by
  rw [defs_eq]
  exact (θ_run Cert.KernelIdeal.defs _ _).mono
    (fun _ h => ⟨fun c => ⟨(h.1 c (0 : Fin 3)).trans (Cert.RingProof.finalA_ctx m ρ c),
      (h.1 c (1 : Fin 3)).trans (Cert.RingProof.finalA_wo m ρ c)⟩, h.2⟩)
    (Cert.RingProof.run_main (F := Bits) m ρ)

theorem frame_kernelIdeal : Cert.quiescent_KernelIdeal := fun m ρ _ =>
  (θ_run Cert.KernelIdeal.defs _ _).mono
    (fun _ h => ⟨fun c => ⟨(h.1 c (0 : Fin 3)).trans (Cert.RingProof.finalA_ctx m ρ c),
      (h.1 c (1 : Fin 3)).trans (Cert.RingProof.finalA_wo m ρ c)⟩, h.2⟩)
    (Cert.RingProof.run_main (F := Ideal) m ρ)

theorem frame_reference : Cert.quiescent_ReferenceIdeal := fun m ρ _ =>
  (θ_run Cert.ReferenceIdeal.defs _ _).mono
    (fun r h => ⟨fun c => ⟨(h c).2.1, (h c).2.2⟩, sem_eq_zero_of_no_sems (by decide) r.2⟩)
    (Cert.ReferenceIdeal.Value.run (F := Ideal) m ρ)

/-- Over the reals every device ends with the product of the whole arrays. -/
theorem value : Cert.algebraic_KernelIdeal_ReferenceIdeal := fun m ρ m' ρ' _ hin => by
  have hv := Cert.RingProof.total_eq (Cert.RingProof.ctx m) (Cert.RingProof.wo m) _ _ (by decide) (by decide)
    (fun c => (Cert.RingProof.ctx_eq m c).trans (hin c).1) (fun c => (Cert.RingProof.wo_eq m c).trans (hin c).2)
  exact ⟨_,
    (θ_run Cert.KernelIdeal.defs _ _).mono
      (fun _ h c => ⟨((h.1 c (2 : Fin 3)).trans (Cert.RingProof.finalA_out m ρ c)).trans hv,
        (h.1 c (0 : Fin 3)).trans (Cert.RingProof.finalA_ctx m ρ c),
        (h.1 c (1 : Fin 3)).trans (Cert.RingProof.finalA_wo m ρ c)⟩)
      (Cert.RingProof.run_main (F := Ideal) m ρ),
    (θ_run Cert.ReferenceIdeal.defs _ _).mono (fun _ h => h 0) (Cert.ReferenceIdeal.Value.run (F := Ideal) m' ρ')⟩

/-- The attention leaves its operands and its counters. -/
theorem frame_attn : Cert.quiescent_AttnKernel := fun m ρ _ => Cert.AttnKernel.Gen.frame m ρ

theorem frame_attnIdeal : Cert.quiescent_AttnKernelIdeal := fun m ρ _ => Cert.AttnKernelIdeal.Gen.frame m ρ

theorem frame_attnReference : Cert.quiescent_AttnReferenceIdeal := fun m ρ _ =>
  (θ_run Cert.AttnReferenceIdeal.defs _ _).mono
    (fun r h => ⟨fun c => (h c).2, sem_eq_zero_of_no_sems (by decide) r.2⟩)
    (Cert.AttnReferenceIdeal.Value.run (F := Ideal) m ρ)

theorem preserves_attn : Cert.preserves_AttnKernel_AttnKernelIdeal :=
  IdealRules.named_const.statement Cert.AttnKernelIdeal.κ "mask" .f32 0xCE6E6B28#32 ⊥ rfl

/-- Over the reals, from real inputs, the attention ends with the reference's contexts. -/
theorem value_attn : Cert.algebraic_AttnKernelIdeal_AttnReferenceIdeal_pre_attn_finite (hPre_attn_finite := Cert.AttnPre.facts) :=
    fun m ρ m' ρ' hpre hin => by
  refine ⟨_, (θ_run Cert.AttnKernelIdeal.defs _ _).mono (fun _ h => h) (Cert.AttnKernelIdeal.Value.run_blocks (F := Ideal) m ρ),
    (θ_run Cert.AttnReferenceIdeal.defs _ _).mono (fun r h c => ⟨(h c).1.trans ?_, (h c).2⟩)
      (Cert.AttnReferenceIdeal.Value.run (F := Ideal) m' ρ')⟩
  obtain ⟨e0, e1, e2, e3⟩ := hin c
  rw [Cert.AttnRef.result_eq m' c]
  refine Eq.trans ?_ (Cert.Attn.final m c).symm
  rw [e0, e1, e2, e3]
  exact Cert.AttnRef.out_eq (Cert.AttnPre.x_real (hpre c)) (Cert.AttnPre.w_real (hpre c)) (Cert.AttnPre.k_real (hpre c))

theorem claim : Cert.Claim := ⟨Cert.Kernel.Gen.facts, Cert.KernelIdeal.Gen.facts, Cert.ReferenceIdeal.Gen.facts,
  Cert.AttnKernel.Gen.facts, Cert.AttnKernelIdeal.Gen.facts, Cert.AttnReferenceIdeal.Gen.facts, Cert.AttnPre.facts,
  frame_kernel, frame_kernelIdeal, frame_reference, frame_attn, frame_attnIdeal, fun m ρ _ => frame_attnIdeal m ρ trivial,
  frame_attnReference, fun m ρ _ => frame_attnReference m ρ trivial, trivial, value, preserves_attn, value_attn⟩

end Cert.Proof

end
